-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x512x3x66 : Shape := ⟨4, ![128, 512, 3, 66]⟩
abbrev S3x66x128x512 : Shape := ⟨4, ![3, 66, 128, 512]⟩
abbrev S99x2x128x512 : Shape := ⟨4, ![99, 2, 128, 512]⟩
abbrev S99x128x512 : Shape := ⟨3, ![99, 128, 512]⟩
abbrev S2x8x512 : Shape := ⟨3, ![2, 8, 512]⟩
abbrev S8x512 : Shape := ⟨2, ![8, 512]⟩
abbrev S_ : Shape := ⟨0, ![]⟩
abbrev S1x2x8x512 : Shape := ⟨4, ![1, 2, 8, 512]⟩
abbrev S1x8x512 : Shape := ⟨3, ![1, 8, 512]⟩
abbrev S16 : Shape := ⟨1, ![16]⟩
abbrev S1x1x16 : Shape := ⟨3, ![1, 1, 16]⟩
abbrev S1x16 : Shape := ⟨2, ![1, 16]⟩
abbrev S3x33x128x512 : Shape := ⟨4, ![3, 33, 128, 512]⟩
abbrev S128x512x3x33 : Shape := ⟨4, ![128, 512, 3, 33]⟩

abbrev nBuf : Table → Nat
  | .hbm => 6
  | .local .scVector .vmem => 8
  | _ => 0

abbrev bufTy : (tb : Table) → Fin (nBuf tb) → BufTy
  | .hbm, ⟨0, _⟩ => ⟨S128x512x3x66, .f32⟩
  | .hbm, ⟨1, _⟩ => ⟨S3x66x128x512, .f32⟩
  | .hbm, ⟨2, _⟩ => ⟨S99x2x128x512, .f32⟩
  | .hbm, ⟨3, _⟩ => ⟨S99x128x512, .f32⟩
  | .hbm, ⟨4, _⟩ => ⟨S3x33x128x512, .f32⟩
  | .hbm, ⟨5, _⟩ => ⟨S128x512x3x33, .f32⟩
  | .local .scVector .vmem, ⟨0, _⟩ => ⟨S2x8x512, .f32⟩
  | .local .scVector .vmem, ⟨1, _⟩ => ⟨S2x8x512, .f32⟩
  | .local .scVector .vmem, ⟨2, _⟩ => ⟨S2x8x512, .f32⟩
  | .local .scVector .vmem, ⟨3, _⟩ => ⟨S2x8x512, .f32⟩
  | .local .scVector .vmem, ⟨4, _⟩ => ⟨S8x512, .f32⟩
  | .local .scVector .vmem, ⟨5, _⟩ => ⟨S8x512, .f32⟩
  | .local .scVector .vmem, ⟨6, _⟩ => ⟨S8x512, .f32⟩
  | .local .scVector .vmem, ⟨7, _⟩ => ⟨S8x512, .f32⟩
  | _, _ => ⟨S128x512x3x66, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v1_scv : Ref sig .scVector := ⟨.hbm, 2, rfl⟩
abbrev main_v2_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi v1 c0_i32
  let c4_i32 : BitVec 32 := 4#32
  let v3 : BitVec 32 := Scalar.shrui v2 c4_i32
  let c0_i32_0 : BitVec 32 := 0#32
  let c15_i32 : BitVec 32 := 15#32
  let v4 : BitVec 32 := Scalar.andi v2 c15_i32
  let c8_i32 : BitVec 32 := 8#32
  let v5 : BitVec 32 := Scalar.muli v4 c8_i32
  let c0_i32_1 : BitVec 32 := 0#32
  ![v3.toNat, 0, v5.toNat, 0]
@[reducible] def k0_t1_loop : Scf.Loop 32 :=
  let c0_i32_19 : BitVec 32 := 0#32
  let c13_i32 : BitVec 32 := 13#32
  let v26 : BitVec 32 := Scalar.addi c0_i32_19 c13_i32
  let c1_i32 : BitVec 32 := 1#32
  ⟨c0_i32_19, v26, c1_i32⟩
def k0_cond1 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_19 : BitVec 32 := 0#32
  let c1_i32 : BitVec 32 := 1#32
  let arg20 : BitVec 32 := Scf.iv c0_i32_19 c1_i32 k0_t1
  let c4_i32_28 : BitVec 32 := 4#32
  let v43 : BitVec 32 := Scalar.muli arg20 c4_i32_28
  let c0_i32_29 : BitVec 32 := 0#32
  let v44 : BitVec 32 := Scalar.addi v43 c0_i32_29
  let c32_i32_30 : BitVec 32 := 32#32
  let v45 : BitVec 32 := Scalar.muli v44 c32_i32_30
  let v46 : BitVec 32 := Scalar.addi v1 v45
  let c96_i32 : BitVec 32 := 96#32
  let v50 : BitVec 32 := Scalar.addi v46 c96_i32
  let c1584_i32_34 : BitVec 32 := 1584#32
  let v51 : BitVec 1 := Scalar.cmpi .slt v50 c1584_i32_34
  let v52 : BitVec 32 := Scalar.extui v51
  let c0_i32_35 : BitVec 32 := 0#32
  let v53 : BitVec 1 := Scalar.cmpi .ne v52 c0_i32_35
  v53

def k0_off2 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_19 : BitVec 32 := 0#32
  let c1_i32 : BitVec 32 := 1#32
  let arg20 : BitVec 32 := Scf.iv c0_i32_19 c1_i32 k0_t1
  let c4_i32_28 : BitVec 32 := 4#32
  let v43 : BitVec 32 := Scalar.muli arg20 c4_i32_28
  let c0_i32_29 : BitVec 32 := 0#32
  let v44 : BitVec 32 := Scalar.addi v43 c0_i32_29
  let c4_i32_85 : BitVec 32 := 4#32
  let v127 : BitVec 32 := Scalar.addi v44 c4_i32_85
  let c1_i32_86 : BitVec 32 := 1#32
  let v128 : BitVec 32 := Scalar.subi v127 c1_i32_86
  let c32_i32_87 : BitVec 32 := 32#32
  let v129 : BitVec 32 := Scalar.muli v128 c32_i32_87
  let v130 : BitVec 32 := Scalar.addi v1 v129
  let c4_i32_88 : BitVec 32 := 4#32
  let v131 : BitVec 32 := Scalar.shrui v130 c4_i32_88
  let c0_i32_91 : BitVec 32 := 0#32
  let c15_i32_89 : BitVec 32 := 15#32
  let v132 : BitVec 32 := Scalar.andi v130 c15_i32_89
  let c8_i32_90 : BitVec 32 := 8#32
  let v133 : BitVec 32 := Scalar.muli v132 c8_i32_90
  let c0_i32_92 : BitVec 32 := 0#32
  ![v131.toNat, 0, v133.toNat, 0]
def k0_cond2 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_19 : BitVec 32 := 0#32
  let c1_i32 : BitVec 32 := 1#32
  let arg20 : BitVec 32 := Scf.iv c0_i32_19 c1_i32 k0_t1
  let c4_i32_28 : BitVec 32 := 4#32
  let v43 : BitVec 32 := Scalar.muli arg20 c4_i32_28
  let c0_i32_29 : BitVec 32 := 0#32
  let v44 : BitVec 32 := Scalar.addi v43 c0_i32_29
  let c32_i32_30 : BitVec 32 := 32#32
  let v45 : BitVec 32 := Scalar.muli v44 c32_i32_30
  let v46 : BitVec 32 := Scalar.addi v1 v45
  let c1584_i32_31 : BitVec 32 := 1584#32
  let v47 : BitVec 1 := Scalar.cmpi .slt v46 c1584_i32_31
  let v54 : BitVec 32 := Scalar.extui v47
  let c0_i32_36 : BitVec 32 := 0#32
  let v55 : BitVec 1 := Scalar.cmpi .ne v54 c0_i32_36
  v55

def k0_off3 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_19 : BitVec 32 := 0#32
  let c1_i32 : BitVec 32 := 1#32
  let arg20 : BitVec 32 := Scf.iv c0_i32_19 c1_i32 k0_t1
  let c4_i32_28 : BitVec 32 := 4#32
  let v43 : BitVec 32 := Scalar.muli arg20 c4_i32_28
  let c0_i32_29 : BitVec 32 := 0#32
  let v44 : BitVec 32 := Scalar.addi v43 c0_i32_29
  let c32_i32_85 : BitVec 32 := 32#32
  let v127 : BitVec 32 := Scalar.muli v44 c32_i32_85
  let v128 : BitVec 32 := Scalar.addi v1 v127
  let c4_i32_86 : BitVec 32 := 4#32
  let v129 : BitVec 32 := Scalar.shrui v128 c4_i32_86
  let c0_i32_89 : BitVec 32 := 0#32
  let c15_i32_87 : BitVec 32 := 15#32
  let v130 : BitVec 32 := Scalar.andi v128 c15_i32_87
  let c8_i32_88 : BitVec 32 := 8#32
  let v131 : BitVec 32 := Scalar.muli v130 c8_i32_88
  let c0_i32_90 : BitVec 32 := 0#32
  ![v129.toNat, 0, v131.toNat, 0]
def k0_cond3 (i : grid0.Coords) (k0_t1 : Fin k0_t1_loop.trips) : BitVec 1 :=
  let c0_i32_19 : BitVec 32 := 0#32
  let c1_i32 : BitVec 32 := 1#32
  let arg20 : BitVec 32 := Scf.iv c0_i32_19 c1_i32 k0_t1
  let c4_i32_28 : BitVec 32 := 4#32
  let v43 : BitVec 32 := Scalar.muli arg20 c4_i32_28
  let c0_i32_29 : BitVec 32 := 0#32
  let v44 : BitVec 32 := Scalar.addi v43 c0_i32_29
  let c4_i32_37 : BitVec 32 := 4#32
  let v56 : BitVec 1 := Scalar.cmpi .sge v44 c4_i32_37
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_30 : BitVec 32 := 32#32
  let v45 : BitVec 32 := Scalar.muli v44 c32_i32_30
  let v46 : BitVec 32 := Scalar.addi v1 v45
  let c128_i32 : BitVec 32 := 128#32
  let v57 : BitVec 32 := Scalar.subi v46 c128_i32
  let c1584_i32_38 : BitVec 32 := 1584#32
  let v58 : BitVec 1 := Scalar.cmpi .slt v57 c1584_i32_38
  let v59 : BitVec 1 := Scalar.andi v56 v58
  let v60 : BitVec 32 := Scalar.extui v59
  let c0_i32_39 : BitVec 32 := 0#32
  let v61 : BitVec 1 := Scalar.cmpi .ne v60 c0_i32_39
  v61

def k0_off4 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_19 : BitVec 32 := 0#32
  let c1_i32 : BitVec 32 := 1#32
  let arg20 : BitVec 32 := Scf.iv c0_i32_19 c1_i32 k0_t1
  let c4_i32_28 : BitVec 32 := 4#32
  let v43 : BitVec 32 := Scalar.muli arg20 c4_i32_28
  let c0_i32_29 : BitVec 32 := 0#32
  let v44 : BitVec 32 := Scalar.addi v43 c0_i32_29
  let c4_i32_32 : BitVec 32 := 4#32
  let v48 : BitVec 32 := Scalar.subi v44 c4_i32_32
  let c0_i32_33 : BitVec 32 := 0#32
  let v49 : BitVec 32 := Scalar.maxsi v48 c0_i32_33
  let c32_i32_85 : BitVec 32 := 32#32
  let v127 : BitVec 32 := Scalar.muli v49 c32_i32_85
  let v128 : BitVec 32 := Scalar.addi v1 v127
  let c4_i32_86 : BitVec 32 := 4#32
  let v129 : BitVec 32 := Scalar.shrui v128 c4_i32_86
  let c15_i32_87 : BitVec 32 := 15#32
  let v130 : BitVec 32 := Scalar.andi v128 c15_i32_87
  let c8_i32_88 : BitVec 32 := 8#32
  let v131 : BitVec 32 := Scalar.muli v130 c8_i32_88
  let c0_i32_89 : BitVec 32 := 0#32
  ![v129.toNat, v131.toNat, 0]
def k0_cond4 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_19 : BitVec 32 := 0#32
  let c1_i32 : BitVec 32 := 1#32
  let arg20 : BitVec 32 := Scf.iv c0_i32_19 c1_i32 k0_t1
  let c4_i32_28 : BitVec 32 := 4#32
  let v43 : BitVec 32 := Scalar.muli arg20 c4_i32_28
  let c0_i32_29 : BitVec 32 := 0#32
  let v44 : BitVec 32 := Scalar.addi v43 c0_i32_29
  let c32_i32_30 : BitVec 32 := 32#32
  let v45 : BitVec 32 := Scalar.muli v44 c32_i32_30
  let v46 : BitVec 32 := Scalar.addi v1 v45
  let c1584_i32_31 : BitVec 32 := 1584#32
  let v47 : BitVec 1 := Scalar.cmpi .slt v46 c1584_i32_31
  let v62 : BitVec 32 := Scalar.extui v47
  let c0_i32_40 : BitVec 32 := 0#32
  let v63 : BitVec 1 := Scalar.cmpi .ne v62 c0_i32_40
  v63

@[reducible] def k0_t2_loop : Scf.Loop 32 :=
  let c0_i32_86 : BitVec 32 := 0#32
  let c8_i32_87 : BitVec 32 := 8#32
  let v127 : BitVec 32 := Scalar.addi c0_i32_86 c8_i32_87
  let c1_i32_88 : BitVec 32 := 1#32
  ⟨c0_i32_86, v127, c1_i32_88⟩
def k0_off5 (k0_t2 : Fin k0_t2_loop.trips) : Fin 3 → Nat :=
  let c0_i32_96 : BitVec 32 := 0#32
  let v137 : Index := Scalar.indexCast c0_i32_96
  let c0_i32_86 : BitVec 32 := 0#32
  let c1_i32_88 : BitVec 32 := 1#32
  let arg21 : BitVec 32 := Scf.iv c0_i32_86 c1_i32_88 k0_t2
  let v138 : Index := Scalar.indexCast arg21
  let c0 : Index := 0#32
  ![0, v138.toNat, 0]
def k0_off6 (k0_t2 : Fin k0_t2_loop.trips) : Fin 3 → Nat :=
  let c1_i32_97 : BitVec 32 := 1#32
  let v140 : Index := Scalar.indexCast c1_i32_97
  let c0_i32_86 : BitVec 32 := 0#32
  let c1_i32_88 : BitVec 32 := 1#32
  let arg21 : BitVec 32 := Scf.iv c0_i32_86 c1_i32_88 k0_t2
  let v141 : Index := Scalar.indexCast arg21
  let c0_98 : Index := 0#32
  ![1, v141.toNat, 0]
def k0_off7 (k0_t2 : Fin k0_t2_loop.trips) : Fin 2 → Nat :=
  let c0_i32_86 : BitVec 32 := 0#32
  let c1_i32_88 : BitVec 32 := 1#32
  let arg21 : BitVec 32 := Scf.iv c0_i32_86 c1_i32_88 k0_t2
  let v144 : Index := Scalar.indexCast arg21
  let c0_99 : Index := 0#32
  ![v144.toNat, 0]
def k0_off8 (k0_t2 : Fin k0_t2_loop.trips) : Fin 3 → Nat :=
  let c0_i32_100 : BitVec 32 := 0#32
  let v146 : Index := Scalar.indexCast c0_i32_100
  let c0_i32_86 : BitVec 32 := 0#32
  let c1_i32_88 : BitVec 32 := 1#32
  let arg21 : BitVec 32 := Scf.iv c0_i32_86 c1_i32_88 k0_t2
  let v147 : Index := Scalar.indexCast arg21
  let c16 : Index := 16#32
  ![0, v147.toNat, 16]
def k0_off9 (k0_t2 : Fin k0_t2_loop.trips) : Fin 3 → Nat :=
  let c1_i32_101 : BitVec 32 := 1#32
  let v149 : Index := Scalar.indexCast c1_i32_101
  let c0_i32_86 : BitVec 32 := 0#32
  let c1_i32_88 : BitVec 32 := 1#32
  let arg21 : BitVec 32 := Scf.iv c0_i32_86 c1_i32_88 k0_t2
  let v150 : Index := Scalar.indexCast arg21
  let c16_102 : Index := 16#32
  ![1, v150.toNat, 16]
def k0_off10 (k0_t2 : Fin k0_t2_loop.trips) : Fin 2 → Nat :=
  let c0_i32_86 : BitVec 32 := 0#32
  let c1_i32_88 : BitVec 32 := 1#32
  let arg21 : BitVec 32 := Scf.iv c0_i32_86 c1_i32_88 k0_t2
  let v153 : Index := Scalar.indexCast arg21
  let c16_103 : Index := 16#32
  ![v153.toNat, 16]
def k0_off11 (k0_t2 : Fin k0_t2_loop.trips) : Fin 3 → Nat :=
  let c0_i32_104 : BitVec 32 := 0#32
  let v155 : Index := Scalar.indexCast c0_i32_104
  let c0_i32_86 : BitVec 32 := 0#32
  let c1_i32_88 : BitVec 32 := 1#32
  let arg21 : BitVec 32 := Scf.iv c0_i32_86 c1_i32_88 k0_t2
  let v156 : Index := Scalar.indexCast arg21
  let c32 : Index := 32#32
  ![0, v156.toNat, 32]
def k0_off12 (k0_t2 : Fin k0_t2_loop.trips) : Fin 3 → Nat :=
  let c1_i32_105 : BitVec 32 := 1#32
  let v158 : Index := Scalar.indexCast c1_i32_105
  let c0_i32_86 : BitVec 32 := 0#32
  let c1_i32_88 : BitVec 32 := 1#32
  let arg21 : BitVec 32 := Scf.iv c0_i32_86 c1_i32_88 k0_t2
  let v159 : Index := Scalar.indexCast arg21
  let c32_106 : Index := 32#32
  ![1, v159.toNat, 32]
def k0_off13 (k0_t2 : Fin k0_t2_loop.trips) : Fin 2 → Nat :=
  let c0_i32_86 : BitVec 32 := 0#32
  let c1_i32_88 : BitVec 32 := 1#32
  let arg21 : BitVec 32 := Scf.iv c0_i32_86 c1_i32_88 k0_t2
  let v162 : Index := Scalar.indexCast arg21
  let c32_107 : Index := 32#32
  ![v162.toNat, 32]
def k0_off14 (k0_t2 : Fin k0_t2_loop.trips) : Fin 3 → Nat :=
  let c0_i32_108 : BitVec 32 := 0#32
  let v164 : Index := Scalar.indexCast c0_i32_108
  let c0_i32_86 : BitVec 32 := 0#32
  let c1_i32_88 : BitVec 32 := 1#32
  let arg21 : BitVec 32 := Scf.iv c0_i32_86 c1_i32_88 k0_t2
  let v165 : Index := Scalar.indexCast arg21
  let c48 : Index := 48#32
  ![0, v165.toNat, 48]
def k0_off15 (k0_t2 : Fin k0_t2_loop.trips) : Fin 3 → Nat :=
  let c1_i32_109 : BitVec 32 := 1#32
  let v167 : Index := Scalar.indexCast c1_i32_109
  let c0_i32_86 : BitVec 32 := 0#32
  let c1_i32_88 : BitVec 32 := 1#32
  let arg21 : BitVec 32 := Scf.iv c0_i32_86 c1_i32_88 k0_t2
  let v168 : Index := Scalar.indexCast arg21
  let c48_110 : Index := 48#32
  ![1, v168.toNat, 48]
def k0_off16 (k0_t2 : Fin k0_t2_loop.trips) : Fin 2 → Nat :=
  let c0_i32_86 : BitVec 32 := 0#32
  let c1_i32_88 : BitVec 32 := 1#32
  let arg21 : BitVec 32 := Scf.iv c0_i32_86 c1_i32_88 k0_t2
  let v171 : Index := Scalar.indexCast arg21
  let c48_111 : Index := 48#32
  ![v171.toNat, 48]
def k0_off17 (k0_t2 : Fin k0_t2_loop.trips) : Fin 3 → Nat :=
  let c0_i32_112 : BitVec 32 := 0#32
  let v173 : Index := Scalar.indexCast c0_i32_112
  let c0_i32_86 : BitVec 32 := 0#32
  let c1_i32_88 : BitVec 32 := 1#32
  let arg21 : BitVec 32 := Scf.iv c0_i32_86 c1_i32_88 k0_t2
  let v174 : Index := Scalar.indexCast arg21
  let c64 : Index := 64#32
  ![0, v174.toNat, 64]
def k0_off18 (k0_t2 : Fin k0_t2_loop.trips) : Fin 3 → Nat :=
  let c1_i32_113 : BitVec 32 := 1#32
  let v176 : Index := Scalar.indexCast c1_i32_113
  let c0_i32_86 : BitVec 32 := 0#32
  let c1_i32_88 : BitVec 32 := 1#32
  let arg21 : BitVec 32 := Scf.iv c0_i32_86 c1_i32_88 k0_t2
  let v177 : Index := Scalar.indexCast arg21
  let c64_114 : Index := 64#32
  ![1, v177.toNat, 64]
def k0_off19 (k0_t2 : Fin k0_t2_loop.trips) : Fin 2 → Nat :=
  let c0_i32_86 : BitVec 32 := 0#32
  let c1_i32_88 : BitVec 32 := 1#32
  let arg21 : BitVec 32 := Scf.iv c0_i32_86 c1_i32_88 k0_t2
  let v180 : Index := Scalar.indexCast arg21
  let c64_115 : Index := 64#32
  ![v180.toNat, 64]
def k0_off20 (k0_t2 : Fin k0_t2_loop.trips) : Fin 3 → Nat :=
  let c0_i32_116 : BitVec 32 := 0#32
  let v182 : Index := Scalar.indexCast c0_i32_116
  let c0_i32_86 : BitVec 32 := 0#32
  let c1_i32_88 : BitVec 32 := 1#32
  let arg21 : BitVec 32 := Scf.iv c0_i32_86 c1_i32_88 k0_t2
  let v183 : Index := Scalar.indexCast arg21
  let c80 : Index := 80#32
  ![0, v183.toNat, 80]
def k0_off21 (k0_t2 : Fin k0_t2_loop.trips) : Fin 3 → Nat :=
  let c1_i32_117 : BitVec 32 := 1#32
  let v185 : Index := Scalar.indexCast c1_i32_117
  let c0_i32_86 : BitVec 32 := 0#32
  let c1_i32_88 : BitVec 32 := 1#32
  let arg21 : BitVec 32 := Scf.iv c0_i32_86 c1_i32_88 k0_t2
  let v186 : Index := Scalar.indexCast arg21
  let c80_118 : Index := 80#32
  ![1, v186.toNat, 80]
def k0_off22 (k0_t2 : Fin k0_t2_loop.trips) : Fin 2 → Nat :=
  let c0_i32_86 : BitVec 32 := 0#32
  let c1_i32_88 : BitVec 32 := 1#32
  let arg21 : BitVec 32 := Scf.iv c0_i32_86 c1_i32_88 k0_t2
  let v189 : Index := Scalar.indexCast arg21
  let c80_119 : Index := 80#32
  ![v189.toNat, 80]
def k0_off23 (k0_t2 : Fin k0_t2_loop.trips) : Fin 3 → Nat :=
  let c0_i32_120 : BitVec 32 := 0#32
  let v191 : Index := Scalar.indexCast c0_i32_120
  let c0_i32_86 : BitVec 32 := 0#32
  let c1_i32_88 : BitVec 32 := 1#32
  let arg21 : BitVec 32 := Scf.iv c0_i32_86 c1_i32_88 k0_t2
  let v192 : Index := Scalar.indexCast arg21
  let c96 : Index := 96#32
  ![0, v192.toNat, 96]
def k0_off24 (k0_t2 : Fin k0_t2_loop.trips) : Fin 3 → Nat :=
  let c1_i32_121 : BitVec 32 := 1#32
  let v194 : Index := Scalar.indexCast c1_i32_121
  let c0_i32_86 : BitVec 32 := 0#32
  let c1_i32_88 : BitVec 32 := 1#32
  let arg21 : BitVec 32 := Scf.iv c0_i32_86 c1_i32_88 k0_t2
  let v195 : Index := Scalar.indexCast arg21
  let c96_122 : Index := 96#32
  ![1, v195.toNat, 96]
def k0_off25 (k0_t2 : Fin k0_t2_loop.trips) : Fin 2 → Nat :=
  let c0_i32_86 : BitVec 32 := 0#32
  let c1_i32_88 : BitVec 32 := 1#32
  let arg21 : BitVec 32 := Scf.iv c0_i32_86 c1_i32_88 k0_t2
  let v198 : Index := Scalar.indexCast arg21
  let c96_123 : Index := 96#32
  ![v198.toNat, 96]
def k0_off26 (k0_t2 : Fin k0_t2_loop.trips) : Fin 3 → Nat :=
  let c0_i32_124 : BitVec 32 := 0#32
  let v200 : Index := Scalar.indexCast c0_i32_124
  let c0_i32_86 : BitVec 32 := 0#32
  let c1_i32_88 : BitVec 32 := 1#32
  let arg21 : BitVec 32 := Scf.iv c0_i32_86 c1_i32_88 k0_t2
  let v201 : Index := Scalar.indexCast arg21
  let c112 : Index := 112#32
  ![0, v201.toNat, 112]
def k0_off27 (k0_t2 : Fin k0_t2_loop.trips) : Fin 3 → Nat :=
  let c1_i32_125 : BitVec 32 := 1#32
  let v203 : Index := Scalar.indexCast c1_i32_125
  let c0_i32_86 : BitVec 32 := 0#32
  let c1_i32_88 : BitVec 32 := 1#32
  let arg21 : BitVec 32 := Scf.iv c0_i32_86 c1_i32_88 k0_t2
  let v204 : Index := Scalar.indexCast arg21
  let c112_126 : Index := 112#32
  ![1, v204.toNat, 112]
def k0_off28 (k0_t2 : Fin k0_t2_loop.trips) : Fin 2 → Nat :=
  let c0_i32_86 : BitVec 32 := 0#32
  let c1_i32_88 : BitVec 32 := 1#32
  let arg21 : BitVec 32 := Scf.iv c0_i32_86 c1_i32_88 k0_t2
  let v207 : Index := Scalar.indexCast arg21
  let c112_127 : Index := 112#32
  ![v207.toNat, 112]
def k0_off29 (k0_t2 : Fin k0_t2_loop.trips) : Fin 3 → Nat :=
  let c0_i32_128 : BitVec 32 := 0#32
  let v209 : Index := Scalar.indexCast c0_i32_128
  let c0_i32_86 : BitVec 32 := 0#32
  let c1_i32_88 : BitVec 32 := 1#32
  let arg21 : BitVec 32 := Scf.iv c0_i32_86 c1_i32_88 k0_t2
  let v210 : Index := Scalar.indexCast arg21
  let c128 : Index := 128#32
  ![0, v210.toNat, 128]
def k0_off30 (k0_t2 : Fin k0_t2_loop.trips) : Fin 3 → Nat :=
  let c1_i32_129 : BitVec 32 := 1#32
  let v212 : Index := Scalar.indexCast c1_i32_129
  let c0_i32_86 : BitVec 32 := 0#32
  let c1_i32_88 : BitVec 32 := 1#32
  let arg21 : BitVec 32 := Scf.iv c0_i32_86 c1_i32_88 k0_t2
  let v213 : Index := Scalar.indexCast arg21
  let c128_130 : Index := 128#32
  ![1, v213.toNat, 128]
def k0_off31 (k0_t2 : Fin k0_t2_loop.trips) : Fin 2 → Nat :=
  let c0_i32_86 : BitVec 32 := 0#32
  let c1_i32_88 : BitVec 32 := 1#32
  let arg21 : BitVec 32 := Scf.iv c0_i32_86 c1_i32_88 k0_t2
  let v216 : Index := Scalar.indexCast arg21
  let c128_131 : Index := 128#32
  ![v216.toNat, 128]
def k0_off32 (k0_t2 : Fin k0_t2_loop.trips) : Fin 3 → Nat :=
  let c0_i32_132 : BitVec 32 := 0#32
  let v218 : Index := Scalar.indexCast c0_i32_132
  let c0_i32_86 : BitVec 32 := 0#32
  let c1_i32_88 : BitVec 32 := 1#32
  let arg21 : BitVec 32 := Scf.iv c0_i32_86 c1_i32_88 k0_t2
  let v219 : Index := Scalar.indexCast arg21
  let c144 : Index := 144#32
  ![0, v219.toNat, 144]
def k0_off33 (k0_t2 : Fin k0_t2_loop.trips) : Fin 3 → Nat :=
  let c1_i32_133 : BitVec 32 := 1#32
  let v221 : Index := Scalar.indexCast c1_i32_133
  let c0_i32_86 : BitVec 32 := 0#32
  let c1_i32_88 : BitVec 32 := 1#32
  let arg21 : BitVec 32 := Scf.iv c0_i32_86 c1_i32_88 k0_t2
  let v222 : Index := Scalar.indexCast arg21
  let c144_134 : Index := 144#32
  ![1, v222.toNat, 144]
def k0_off34 (k0_t2 : Fin k0_t2_loop.trips) : Fin 2 → Nat :=
  let c0_i32_86 : BitVec 32 := 0#32
  let c1_i32_88 : BitVec 32 := 1#32
  let arg21 : BitVec 32 := Scf.iv c0_i32_86 c1_i32_88 k0_t2
  let v225 : Index := Scalar.indexCast arg21
  let c144_135 : Index := 144#32
  ![v225.toNat, 144]
def k0_off35 (k0_t2 : Fin k0_t2_loop.trips) : Fin 3 → Nat :=
  let c0_i32_136 : BitVec 32 := 0#32
  let v227 : Index := Scalar.indexCast c0_i32_136
  let c0_i32_86 : BitVec 32 := 0#32
  let c1_i32_88 : BitVec 32 := 1#32
  let arg21 : BitVec 32 := Scf.iv c0_i32_86 c1_i32_88 k0_t2
  let v228 : Index := Scalar.indexCast arg21
  let c160 : Index := 160#32
  ![0, v228.toNat, 160]
def k0_off36 (k0_t2 : Fin k0_t2_loop.trips) : Fin 3 → Nat :=
  let c1_i32_137 : BitVec 32 := 1#32
  let v230 : Index := Scalar.indexCast c1_i32_137
  let c0_i32_86 : BitVec 32 := 0#32
  let c1_i32_88 : BitVec 32 := 1#32
  let arg21 : BitVec 32 := Scf.iv c0_i32_86 c1_i32_88 k0_t2
  let v231 : Index := Scalar.indexCast arg21
  let c160_138 : Index := 160#32
  ![1, v231.toNat, 160]
def k0_off37 (k0_t2 : Fin k0_t2_loop.trips) : Fin 2 → Nat :=
  let c0_i32_86 : BitVec 32 := 0#32
  let c1_i32_88 : BitVec 32 := 1#32
  let arg21 : BitVec 32 := Scf.iv c0_i32_86 c1_i32_88 k0_t2
  let v234 : Index := Scalar.indexCast arg21
  let c160_139 : Index := 160#32
  ![v234.toNat, 160]
def k0_off38 (k0_t2 : Fin k0_t2_loop.trips) : Fin 3 → Nat :=
  let c0_i32_140 : BitVec 32 := 0#32
  let v236 : Index := Scalar.indexCast c0_i32_140
  let c0_i32_86 : BitVec 32 := 0#32
  let c1_i32_88 : BitVec 32 := 1#32
  let arg21 : BitVec 32 := Scf.iv c0_i32_86 c1_i32_88 k0_t2
  let v237 : Index := Scalar.indexCast arg21
  let c176 : Index := 176#32
  ![0, v237.toNat, 176]
def k0_off39 (k0_t2 : Fin k0_t2_loop.trips) : Fin 3 → Nat :=
  let c1_i32_141 : BitVec 32 := 1#32
  let v239 : Index := Scalar.indexCast c1_i32_141
  let c0_i32_86 : BitVec 32 := 0#32
  let c1_i32_88 : BitVec 32 := 1#32
  let arg21 : BitVec 32 := Scf.iv c0_i32_86 c1_i32_88 k0_t2
  let v240 : Index := Scalar.indexCast arg21
  let c176_142 : Index := 176#32
  ![1, v240.toNat, 176]
def k0_off40 (k0_t2 : Fin k0_t2_loop.trips) : Fin 2 → Nat :=
  let c0_i32_86 : BitVec 32 := 0#32
  let c1_i32_88 : BitVec 32 := 1#32
  let arg21 : BitVec 32 := Scf.iv c0_i32_86 c1_i32_88 k0_t2
  let v243 : Index := Scalar.indexCast arg21
  let c176_143 : Index := 176#32
  ![v243.toNat, 176]
def k0_off41 (k0_t2 : Fin k0_t2_loop.trips) : Fin 3 → Nat :=
  let c0_i32_144 : BitVec 32 := 0#32
  let v245 : Index := Scalar.indexCast c0_i32_144
  let c0_i32_86 : BitVec 32 := 0#32
  let c1_i32_88 : BitVec 32 := 1#32
  let arg21 : BitVec 32 := Scf.iv c0_i32_86 c1_i32_88 k0_t2
  let v246 : Index := Scalar.indexCast arg21
  let c192 : Index := 192#32
  ![0, v246.toNat, 192]
def k0_off42 (k0_t2 : Fin k0_t2_loop.trips) : Fin 3 → Nat :=
  let c1_i32_145 : BitVec 32 := 1#32
  let v248 : Index := Scalar.indexCast c1_i32_145
  let c0_i32_86 : BitVec 32 := 0#32
  let c1_i32_88 : BitVec 32 := 1#32
  let arg21 : BitVec 32 := Scf.iv c0_i32_86 c1_i32_88 k0_t2
  let v249 : Index := Scalar.indexCast arg21
  let c192_146 : Index := 192#32
  ![1, v249.toNat, 192]
def k0_off43 (k0_t2 : Fin k0_t2_loop.trips) : Fin 2 → Nat :=
  let c0_i32_86 : BitVec 32 := 0#32
  let c1_i32_88 : BitVec 32 := 1#32
  let arg21 : BitVec 32 := Scf.iv c0_i32_86 c1_i32_88 k0_t2
  let v252 : Index := Scalar.indexCast arg21
  let c192_147 : Index := 192#32
  ![v252.toNat, 192]
def k0_off44 (k0_t2 : Fin k0_t2_loop.trips) : Fin 3 → Nat :=
  let c0_i32_148 : BitVec 32 := 0#32
  let v254 : Index := Scalar.indexCast c0_i32_148
  let c0_i32_86 : BitVec 32 := 0#32
  let c1_i32_88 : BitVec 32 := 1#32
  let arg21 : BitVec 32 := Scf.iv c0_i32_86 c1_i32_88 k0_t2
  let v255 : Index := Scalar.indexCast arg21
  let c208 : Index := 208#32
  ![0, v255.toNat, 208]
def k0_off45 (k0_t2 : Fin k0_t2_loop.trips) : Fin 3 → Nat :=
  let c1_i32_149 : BitVec 32 := 1#32
  let v257 : Index := Scalar.indexCast c1_i32_149
  let c0_i32_86 : BitVec 32 := 0#32
  let c1_i32_88 : BitVec 32 := 1#32
  let arg21 : BitVec 32 := Scf.iv c0_i32_86 c1_i32_88 k0_t2
  let v258 : Index := Scalar.indexCast arg21
  let c208_150 : Index := 208#32
  ![1, v258.toNat, 208]
def k0_off46 (k0_t2 : Fin k0_t2_loop.trips) : Fin 2 → Nat :=
  let c0_i32_86 : BitVec 32 := 0#32
  let c1_i32_88 : BitVec 32 := 1#32
  let arg21 : BitVec 32 := Scf.iv c0_i32_86 c1_i32_88 k0_t2
  let v261 : Index := Scalar.indexCast arg21
  let c208_151 : Index := 208#32
  ![v261.toNat, 208]
def k0_off47 (k0_t2 : Fin k0_t2_loop.trips) : Fin 3 → Nat :=
  let c0_i32_152 : BitVec 32 := 0#32
  let v263 : Index := Scalar.indexCast c0_i32_152
  let c0_i32_86 : BitVec 32 := 0#32
  let c1_i32_88 : BitVec 32 := 1#32
  let arg21 : BitVec 32 := Scf.iv c0_i32_86 c1_i32_88 k0_t2
  let v264 : Index := Scalar.indexCast arg21
  let c224 : Index := 224#32
  ![0, v264.toNat, 224]
def k0_off48 (k0_t2 : Fin k0_t2_loop.trips) : Fin 3 → Nat :=
  let c1_i32_153 : BitVec 32 := 1#32
  let v266 : Index := Scalar.indexCast c1_i32_153
  let c0_i32_86 : BitVec 32 := 0#32
  let c1_i32_88 : BitVec 32 := 1#32
  let arg21 : BitVec 32 := Scf.iv c0_i32_86 c1_i32_88 k0_t2
  let v267 : Index := Scalar.indexCast arg21
  let c224_154 : Index := 224#32
  ![1, v267.toNat, 224]
def k0_off49 (k0_t2 : Fin k0_t2_loop.trips) : Fin 2 → Nat :=
  let c0_i32_86 : BitVec 32 := 0#32
  let c1_i32_88 : BitVec 32 := 1#32
  let arg21 : BitVec 32 := Scf.iv c0_i32_86 c1_i32_88 k0_t2
  let v270 : Index := Scalar.indexCast arg21
  let c224_155 : Index := 224#32
  ![v270.toNat, 224]
def k0_off50 (k0_t2 : Fin k0_t2_loop.trips) : Fin 3 → Nat :=
  let c0_i32_156 : BitVec 32 := 0#32
  let v272 : Index := Scalar.indexCast c0_i32_156
  let c0_i32_86 : BitVec 32 := 0#32
  let c1_i32_88 : BitVec 32 := 1#32
  let arg21 : BitVec 32 := Scf.iv c0_i32_86 c1_i32_88 k0_t2
  let v273 : Index := Scalar.indexCast arg21
  let c240 : Index := 240#32
  ![0, v273.toNat, 240]
def k0_off51 (k0_t2 : Fin k0_t2_loop.trips) : Fin 3 → Nat :=
  let c1_i32_157 : BitVec 32 := 1#32
  let v275 : Index := Scalar.indexCast c1_i32_157
  let c0_i32_86 : BitVec 32 := 0#32
  let c1_i32_88 : BitVec 32 := 1#32
  let arg21 : BitVec 32 := Scf.iv c0_i32_86 c1_i32_88 k0_t2
  let v276 : Index := Scalar.indexCast arg21
  let c240_158 : Index := 240#32
  ![1, v276.toNat, 240]
def k0_off52 (k0_t2 : Fin k0_t2_loop.trips) : Fin 2 → Nat :=
  let c0_i32_86 : BitVec 32 := 0#32
  let c1_i32_88 : BitVec 32 := 1#32
  let arg21 : BitVec 32 := Scf.iv c0_i32_86 c1_i32_88 k0_t2
  let v279 : Index := Scalar.indexCast arg21
  let c240_159 : Index := 240#32
  ![v279.toNat, 240]
def k0_off53 (k0_t2 : Fin k0_t2_loop.trips) : Fin 3 → Nat :=
  let c0_i32_160 : BitVec 32 := 0#32
  let v281 : Index := Scalar.indexCast c0_i32_160
  let c0_i32_86 : BitVec 32 := 0#32
  let c1_i32_88 : BitVec 32 := 1#32
  let arg21 : BitVec 32 := Scf.iv c0_i32_86 c1_i32_88 k0_t2
  let v282 : Index := Scalar.indexCast arg21
  let c256 : Index := 256#32
  ![0, v282.toNat, 256]
def k0_off54 (k0_t2 : Fin k0_t2_loop.trips) : Fin 3 → Nat :=
  let c1_i32_161 : BitVec 32 := 1#32
  let v284 : Index := Scalar.indexCast c1_i32_161
  let c0_i32_86 : BitVec 32 := 0#32
  let c1_i32_88 : BitVec 32 := 1#32
  let arg21 : BitVec 32 := Scf.iv c0_i32_86 c1_i32_88 k0_t2
  let v285 : Index := Scalar.indexCast arg21
  let c256_162 : Index := 256#32
  ![1, v285.toNat, 256]
def k0_off55 (k0_t2 : Fin k0_t2_loop.trips) : Fin 2 → Nat :=
  let c0_i32_86 : BitVec 32 := 0#32
  let c1_i32_88 : BitVec 32 := 1#32
  let arg21 : BitVec 32 := Scf.iv c0_i32_86 c1_i32_88 k0_t2
  let v288 : Index := Scalar.indexCast arg21
  let c256_163 : Index := 256#32
  ![v288.toNat, 256]
def k0_off56 (k0_t2 : Fin k0_t2_loop.trips) : Fin 3 → Nat :=
  let c0_i32_164 : BitVec 32 := 0#32
  let v290 : Index := Scalar.indexCast c0_i32_164
  let c0_i32_86 : BitVec 32 := 0#32
  let c1_i32_88 : BitVec 32 := 1#32
  let arg21 : BitVec 32 := Scf.iv c0_i32_86 c1_i32_88 k0_t2
  let v291 : Index := Scalar.indexCast arg21
  let c272 : Index := 272#32
  ![0, v291.toNat, 272]
def k0_off57 (k0_t2 : Fin k0_t2_loop.trips) : Fin 3 → Nat :=
  let c1_i32_165 : BitVec 32 := 1#32
  let v293 : Index := Scalar.indexCast c1_i32_165
  let c0_i32_86 : BitVec 32 := 0#32
  let c1_i32_88 : BitVec 32 := 1#32
  let arg21 : BitVec 32 := Scf.iv c0_i32_86 c1_i32_88 k0_t2
  let v294 : Index := Scalar.indexCast arg21
  let c272_166 : Index := 272#32
  ![1, v294.toNat, 272]
def k0_off58 (k0_t2 : Fin k0_t2_loop.trips) : Fin 2 → Nat :=
  let c0_i32_86 : BitVec 32 := 0#32
  let c1_i32_88 : BitVec 32 := 1#32
  let arg21 : BitVec 32 := Scf.iv c0_i32_86 c1_i32_88 k0_t2
  let v297 : Index := Scalar.indexCast arg21
  let c272_167 : Index := 272#32
  ![v297.toNat, 272]
def k0_off59 (k0_t2 : Fin k0_t2_loop.trips) : Fin 3 → Nat :=
  let c0_i32_168 : BitVec 32 := 0#32
  let v299 : Index := Scalar.indexCast c0_i32_168
  let c0_i32_86 : BitVec 32 := 0#32
  let c1_i32_88 : BitVec 32 := 1#32
  let arg21 : BitVec 32 := Scf.iv c0_i32_86 c1_i32_88 k0_t2
  let v300 : Index := Scalar.indexCast arg21
  let c288 : Index := 288#32
  ![0, v300.toNat, 288]
def k0_off60 (k0_t2 : Fin k0_t2_loop.trips) : Fin 3 → Nat :=
  let c1_i32_169 : BitVec 32 := 1#32
  let v302 : Index := Scalar.indexCast c1_i32_169
  let c0_i32_86 : BitVec 32 := 0#32
  let c1_i32_88 : BitVec 32 := 1#32
  let arg21 : BitVec 32 := Scf.iv c0_i32_86 c1_i32_88 k0_t2
  let v303 : Index := Scalar.indexCast arg21
  let c288_170 : Index := 288#32
  ![1, v303.toNat, 288]
def k0_off61 (k0_t2 : Fin k0_t2_loop.trips) : Fin 2 → Nat :=
  let c0_i32_86 : BitVec 32 := 0#32
  let c1_i32_88 : BitVec 32 := 1#32
  let arg21 : BitVec 32 := Scf.iv c0_i32_86 c1_i32_88 k0_t2
  let v306 : Index := Scalar.indexCast arg21
  let c288_171 : Index := 288#32
  ![v306.toNat, 288]
def k0_off62 (k0_t2 : Fin k0_t2_loop.trips) : Fin 3 → Nat :=
  let c0_i32_172 : BitVec 32 := 0#32
  let v308 : Index := Scalar.indexCast c0_i32_172
  let c0_i32_86 : BitVec 32 := 0#32
  let c1_i32_88 : BitVec 32 := 1#32
  let arg21 : BitVec 32 := Scf.iv c0_i32_86 c1_i32_88 k0_t2
  let v309 : Index := Scalar.indexCast arg21
  let c304 : Index := 304#32
  ![0, v309.toNat, 304]
def k0_off63 (k0_t2 : Fin k0_t2_loop.trips) : Fin 3 → Nat :=
  let c1_i32_173 : BitVec 32 := 1#32
  let v311 : Index := Scalar.indexCast c1_i32_173
  let c0_i32_86 : BitVec 32 := 0#32
  let c1_i32_88 : BitVec 32 := 1#32
  let arg21 : BitVec 32 := Scf.iv c0_i32_86 c1_i32_88 k0_t2
  let v312 : Index := Scalar.indexCast arg21
  let c304_174 : Index := 304#32
  ![1, v312.toNat, 304]
def k0_off64 (k0_t2 : Fin k0_t2_loop.trips) : Fin 2 → Nat :=
  let c0_i32_86 : BitVec 32 := 0#32
  let c1_i32_88 : BitVec 32 := 1#32
  let arg21 : BitVec 32 := Scf.iv c0_i32_86 c1_i32_88 k0_t2
  let v315 : Index := Scalar.indexCast arg21
  let c304_175 : Index := 304#32
  ![v315.toNat, 304]
def k0_off65 (k0_t2 : Fin k0_t2_loop.trips) : Fin 3 → Nat :=
  let c0_i32_176 : BitVec 32 := 0#32
  let v317 : Index := Scalar.indexCast c0_i32_176
  let c0_i32_86 : BitVec 32 := 0#32
  let c1_i32_88 : BitVec 32 := 1#32
  let arg21 : BitVec 32 := Scf.iv c0_i32_86 c1_i32_88 k0_t2
  let v318 : Index := Scalar.indexCast arg21
  let c320 : Index := 320#32
  ![0, v318.toNat, 320]
def k0_off66 (k0_t2 : Fin k0_t2_loop.trips) : Fin 3 → Nat :=
  let c1_i32_177 : BitVec 32 := 1#32
  let v320 : Index := Scalar.indexCast c1_i32_177
  let c0_i32_86 : BitVec 32 := 0#32
  let c1_i32_88 : BitVec 32 := 1#32
  let arg21 : BitVec 32 := Scf.iv c0_i32_86 c1_i32_88 k0_t2
  let v321 : Index := Scalar.indexCast arg21
  let c320_178 : Index := 320#32
  ![1, v321.toNat, 320]
def k0_off67 (k0_t2 : Fin k0_t2_loop.trips) : Fin 2 → Nat :=
  let c0_i32_86 : BitVec 32 := 0#32
  let c1_i32_88 : BitVec 32 := 1#32
  let arg21 : BitVec 32 := Scf.iv c0_i32_86 c1_i32_88 k0_t2
  let v324 : Index := Scalar.indexCast arg21
  let c320_179 : Index := 320#32
  ![v324.toNat, 320]
def k0_off68 (k0_t2 : Fin k0_t2_loop.trips) : Fin 3 → Nat :=
  let c0_i32_180 : BitVec 32 := 0#32
  let v326 : Index := Scalar.indexCast c0_i32_180
  let c0_i32_86 : BitVec 32 := 0#32
  let c1_i32_88 : BitVec 32 := 1#32
  let arg21 : BitVec 32 := Scf.iv c0_i32_86 c1_i32_88 k0_t2
  let v327 : Index := Scalar.indexCast arg21
  let c336 : Index := 336#32
  ![0, v327.toNat, 336]
def k0_off69 (k0_t2 : Fin k0_t2_loop.trips) : Fin 3 → Nat :=
  let c1_i32_181 : BitVec 32 := 1#32
  let v329 : Index := Scalar.indexCast c1_i32_181
  let c0_i32_86 : BitVec 32 := 0#32
  let c1_i32_88 : BitVec 32 := 1#32
  let arg21 : BitVec 32 := Scf.iv c0_i32_86 c1_i32_88 k0_t2
  let v330 : Index := Scalar.indexCast arg21
  let c336_182 : Index := 336#32
  ![1, v330.toNat, 336]
def k0_off70 (k0_t2 : Fin k0_t2_loop.trips) : Fin 2 → Nat :=
  let c0_i32_86 : BitVec 32 := 0#32
  let c1_i32_88 : BitVec 32 := 1#32
  let arg21 : BitVec 32 := Scf.iv c0_i32_86 c1_i32_88 k0_t2
  let v333 : Index := Scalar.indexCast arg21
  let c336_183 : Index := 336#32
  ![v333.toNat, 336]
def k0_off71 (k0_t2 : Fin k0_t2_loop.trips) : Fin 3 → Nat :=
  let c0_i32_184 : BitVec 32 := 0#32
  let v335 : Index := Scalar.indexCast c0_i32_184
  let c0_i32_86 : BitVec 32 := 0#32
  let c1_i32_88 : BitVec 32 := 1#32
  let arg21 : BitVec 32 := Scf.iv c0_i32_86 c1_i32_88 k0_t2
  let v336 : Index := Scalar.indexCast arg21
  let c352 : Index := 352#32
  ![0, v336.toNat, 352]
def k0_off72 (k0_t2 : Fin k0_t2_loop.trips) : Fin 3 → Nat :=
  let c1_i32_185 : BitVec 32 := 1#32
  let v338 : Index := Scalar.indexCast c1_i32_185
  let c0_i32_86 : BitVec 32 := 0#32
  let c1_i32_88 : BitVec 32 := 1#32
  let arg21 : BitVec 32 := Scf.iv c0_i32_86 c1_i32_88 k0_t2
  let v339 : Index := Scalar.indexCast arg21
  let c352_186 : Index := 352#32
  ![1, v339.toNat, 352]
def k0_off73 (k0_t2 : Fin k0_t2_loop.trips) : Fin 2 → Nat :=
  let c0_i32_86 : BitVec 32 := 0#32
  let c1_i32_88 : BitVec 32 := 1#32
  let arg21 : BitVec 32 := Scf.iv c0_i32_86 c1_i32_88 k0_t2
  let v342 : Index := Scalar.indexCast arg21
  let c352_187 : Index := 352#32
  ![v342.toNat, 352]
def k0_off74 (k0_t2 : Fin k0_t2_loop.trips) : Fin 3 → Nat :=
  let c0_i32_188 : BitVec 32 := 0#32
  let v344 : Index := Scalar.indexCast c0_i32_188
  let c0_i32_86 : BitVec 32 := 0#32
  let c1_i32_88 : BitVec 32 := 1#32
  let arg21 : BitVec 32 := Scf.iv c0_i32_86 c1_i32_88 k0_t2
  let v345 : Index := Scalar.indexCast arg21
  let c368 : Index := 368#32
  ![0, v345.toNat, 368]
def k0_off75 (k0_t2 : Fin k0_t2_loop.trips) : Fin 3 → Nat :=
  let c1_i32_189 : BitVec 32 := 1#32
  let v347 : Index := Scalar.indexCast c1_i32_189
  let c0_i32_86 : BitVec 32 := 0#32
  let c1_i32_88 : BitVec 32 := 1#32
  let arg21 : BitVec 32 := Scf.iv c0_i32_86 c1_i32_88 k0_t2
  let v348 : Index := Scalar.indexCast arg21
  let c368_190 : Index := 368#32
  ![1, v348.toNat, 368]
def k0_off76 (k0_t2 : Fin k0_t2_loop.trips) : Fin 2 → Nat :=
  let c0_i32_86 : BitVec 32 := 0#32
  let c1_i32_88 : BitVec 32 := 1#32
  let arg21 : BitVec 32 := Scf.iv c0_i32_86 c1_i32_88 k0_t2
  let v351 : Index := Scalar.indexCast arg21
  let c368_191 : Index := 368#32
  ![v351.toNat, 368]
def k0_off77 (k0_t2 : Fin k0_t2_loop.trips) : Fin 3 → Nat :=
  let c0_i32_192 : BitVec 32 := 0#32
  let v353 : Index := Scalar.indexCast c0_i32_192
  let c0_i32_86 : BitVec 32 := 0#32
  let c1_i32_88 : BitVec 32 := 1#32
  let arg21 : BitVec 32 := Scf.iv c0_i32_86 c1_i32_88 k0_t2
  let v354 : Index := Scalar.indexCast arg21
  let c384 : Index := 384#32
  ![0, v354.toNat, 384]
def k0_off78 (k0_t2 : Fin k0_t2_loop.trips) : Fin 3 → Nat :=
  let c1_i32_193 : BitVec 32 := 1#32
  let v356 : Index := Scalar.indexCast c1_i32_193
  let c0_i32_86 : BitVec 32 := 0#32
  let c1_i32_88 : BitVec 32 := 1#32
  let arg21 : BitVec 32 := Scf.iv c0_i32_86 c1_i32_88 k0_t2
  let v357 : Index := Scalar.indexCast arg21
  let c384_194 : Index := 384#32
  ![1, v357.toNat, 384]
def k0_off79 (k0_t2 : Fin k0_t2_loop.trips) : Fin 2 → Nat :=
  let c0_i32_86 : BitVec 32 := 0#32
  let c1_i32_88 : BitVec 32 := 1#32
  let arg21 : BitVec 32 := Scf.iv c0_i32_86 c1_i32_88 k0_t2
  let v360 : Index := Scalar.indexCast arg21
  let c384_195 : Index := 384#32
  ![v360.toNat, 384]
def k0_off80 (k0_t2 : Fin k0_t2_loop.trips) : Fin 3 → Nat :=
  let c0_i32_196 : BitVec 32 := 0#32
  let v362 : Index := Scalar.indexCast c0_i32_196
  let c0_i32_86 : BitVec 32 := 0#32
  let c1_i32_88 : BitVec 32 := 1#32
  let arg21 : BitVec 32 := Scf.iv c0_i32_86 c1_i32_88 k0_t2
  let v363 : Index := Scalar.indexCast arg21
  let c400 : Index := 400#32
  ![0, v363.toNat, 400]
def k0_off81 (k0_t2 : Fin k0_t2_loop.trips) : Fin 3 → Nat :=
  let c1_i32_197 : BitVec 32 := 1#32
  let v365 : Index := Scalar.indexCast c1_i32_197
  let c0_i32_86 : BitVec 32 := 0#32
  let c1_i32_88 : BitVec 32 := 1#32
  let arg21 : BitVec 32 := Scf.iv c0_i32_86 c1_i32_88 k0_t2
  let v366 : Index := Scalar.indexCast arg21
  let c400_198 : Index := 400#32
  ![1, v366.toNat, 400]
def k0_off82 (k0_t2 : Fin k0_t2_loop.trips) : Fin 2 → Nat :=
  let c0_i32_86 : BitVec 32 := 0#32
  let c1_i32_88 : BitVec 32 := 1#32
  let arg21 : BitVec 32 := Scf.iv c0_i32_86 c1_i32_88 k0_t2
  let v369 : Index := Scalar.indexCast arg21
  let c400_199 : Index := 400#32
  ![v369.toNat, 400]
def k0_off83 (k0_t2 : Fin k0_t2_loop.trips) : Fin 3 → Nat :=
  let c0_i32_200 : BitVec 32 := 0#32
  let v371 : Index := Scalar.indexCast c0_i32_200
  let c0_i32_86 : BitVec 32 := 0#32
  let c1_i32_88 : BitVec 32 := 1#32
  let arg21 : BitVec 32 := Scf.iv c0_i32_86 c1_i32_88 k0_t2
  let v372 : Index := Scalar.indexCast arg21
  let c416 : Index := 416#32
  ![0, v372.toNat, 416]
def k0_off84 (k0_t2 : Fin k0_t2_loop.trips) : Fin 3 → Nat :=
  let c1_i32_201 : BitVec 32 := 1#32
  let v374 : Index := Scalar.indexCast c1_i32_201
  let c0_i32_86 : BitVec 32 := 0#32
  let c1_i32_88 : BitVec 32 := 1#32
  let arg21 : BitVec 32 := Scf.iv c0_i32_86 c1_i32_88 k0_t2
  let v375 : Index := Scalar.indexCast arg21
  let c416_202 : Index := 416#32
  ![1, v375.toNat, 416]
def k0_off85 (k0_t2 : Fin k0_t2_loop.trips) : Fin 2 → Nat :=
  let c0_i32_86 : BitVec 32 := 0#32
  let c1_i32_88 : BitVec 32 := 1#32
  let arg21 : BitVec 32 := Scf.iv c0_i32_86 c1_i32_88 k0_t2
  let v378 : Index := Scalar.indexCast arg21
  let c416_203 : Index := 416#32
  ![v378.toNat, 416]
def k0_off86 (k0_t2 : Fin k0_t2_loop.trips) : Fin 3 → Nat :=
  let c0_i32_204 : BitVec 32 := 0#32
  let v380 : Index := Scalar.indexCast c0_i32_204
  let c0_i32_86 : BitVec 32 := 0#32
  let c1_i32_88 : BitVec 32 := 1#32
  let arg21 : BitVec 32 := Scf.iv c0_i32_86 c1_i32_88 k0_t2
  let v381 : Index := Scalar.indexCast arg21
  let c432 : Index := 432#32
  ![0, v381.toNat, 432]
def k0_off87 (k0_t2 : Fin k0_t2_loop.trips) : Fin 3 → Nat :=
  let c1_i32_205 : BitVec 32 := 1#32
  let v383 : Index := Scalar.indexCast c1_i32_205
  let c0_i32_86 : BitVec 32 := 0#32
  let c1_i32_88 : BitVec 32 := 1#32
  let arg21 : BitVec 32 := Scf.iv c0_i32_86 c1_i32_88 k0_t2
  let v384 : Index := Scalar.indexCast arg21
  let c432_206 : Index := 432#32
  ![1, v384.toNat, 432]
def k0_off88 (k0_t2 : Fin k0_t2_loop.trips) : Fin 2 → Nat :=
  let c0_i32_86 : BitVec 32 := 0#32
  let c1_i32_88 : BitVec 32 := 1#32
  let arg21 : BitVec 32 := Scf.iv c0_i32_86 c1_i32_88 k0_t2
  let v387 : Index := Scalar.indexCast arg21
  let c432_207 : Index := 432#32
  ![v387.toNat, 432]
def k0_off89 (k0_t2 : Fin k0_t2_loop.trips) : Fin 3 → Nat :=
  let c0_i32_208 : BitVec 32 := 0#32
  let v389 : Index := Scalar.indexCast c0_i32_208
  let c0_i32_86 : BitVec 32 := 0#32
  let c1_i32_88 : BitVec 32 := 1#32
  let arg21 : BitVec 32 := Scf.iv c0_i32_86 c1_i32_88 k0_t2
  let v390 : Index := Scalar.indexCast arg21
  let c448 : Index := 448#32
  ![0, v390.toNat, 448]
def k0_off90 (k0_t2 : Fin k0_t2_loop.trips) : Fin 3 → Nat :=
  let c1_i32_209 : BitVec 32 := 1#32
  let v392 : Index := Scalar.indexCast c1_i32_209
  let c0_i32_86 : BitVec 32 := 0#32
  let c1_i32_88 : BitVec 32 := 1#32
  let arg21 : BitVec 32 := Scf.iv c0_i32_86 c1_i32_88 k0_t2
  let v393 : Index := Scalar.indexCast arg21
  let c448_210 : Index := 448#32
  ![1, v393.toNat, 448]
def k0_off91 (k0_t2 : Fin k0_t2_loop.trips) : Fin 2 → Nat :=
  let c0_i32_86 : BitVec 32 := 0#32
  let c1_i32_88 : BitVec 32 := 1#32
  let arg21 : BitVec 32 := Scf.iv c0_i32_86 c1_i32_88 k0_t2
  let v396 : Index := Scalar.indexCast arg21
  let c448_211 : Index := 448#32
  ![v396.toNat, 448]
def k0_off92 (k0_t2 : Fin k0_t2_loop.trips) : Fin 3 → Nat :=
  let c0_i32_212 : BitVec 32 := 0#32
  let v398 : Index := Scalar.indexCast c0_i32_212
  let c0_i32_86 : BitVec 32 := 0#32
  let c1_i32_88 : BitVec 32 := 1#32
  let arg21 : BitVec 32 := Scf.iv c0_i32_86 c1_i32_88 k0_t2
  let v399 : Index := Scalar.indexCast arg21
  let c464 : Index := 464#32
  ![0, v399.toNat, 464]
def k0_off93 (k0_t2 : Fin k0_t2_loop.trips) : Fin 3 → Nat :=
  let c1_i32_213 : BitVec 32 := 1#32
  let v401 : Index := Scalar.indexCast c1_i32_213
  let c0_i32_86 : BitVec 32 := 0#32
  let c1_i32_88 : BitVec 32 := 1#32
  let arg21 : BitVec 32 := Scf.iv c0_i32_86 c1_i32_88 k0_t2
  let v402 : Index := Scalar.indexCast arg21
  let c464_214 : Index := 464#32
  ![1, v402.toNat, 464]
def k0_off94 (k0_t2 : Fin k0_t2_loop.trips) : Fin 2 → Nat :=
  let c0_i32_86 : BitVec 32 := 0#32
  let c1_i32_88 : BitVec 32 := 1#32
  let arg21 : BitVec 32 := Scf.iv c0_i32_86 c1_i32_88 k0_t2
  let v405 : Index := Scalar.indexCast arg21
  let c464_215 : Index := 464#32
  ![v405.toNat, 464]
def k0_off95 (k0_t2 : Fin k0_t2_loop.trips) : Fin 3 → Nat :=
  let c0_i32_216 : BitVec 32 := 0#32
  let v407 : Index := Scalar.indexCast c0_i32_216
  let c0_i32_86 : BitVec 32 := 0#32
  let c1_i32_88 : BitVec 32 := 1#32
  let arg21 : BitVec 32 := Scf.iv c0_i32_86 c1_i32_88 k0_t2
  let v408 : Index := Scalar.indexCast arg21
  let c480 : Index := 480#32
  ![0, v408.toNat, 480]
def k0_off96 (k0_t2 : Fin k0_t2_loop.trips) : Fin 3 → Nat :=
  let c1_i32_217 : BitVec 32 := 1#32
  let v410 : Index := Scalar.indexCast c1_i32_217
  let c0_i32_86 : BitVec 32 := 0#32
  let c1_i32_88 : BitVec 32 := 1#32
  let arg21 : BitVec 32 := Scf.iv c0_i32_86 c1_i32_88 k0_t2
  let v411 : Index := Scalar.indexCast arg21
  let c480_218 : Index := 480#32
  ![1, v411.toNat, 480]
def k0_off97 (k0_t2 : Fin k0_t2_loop.trips) : Fin 2 → Nat :=
  let c0_i32_86 : BitVec 32 := 0#32
  let c1_i32_88 : BitVec 32 := 1#32
  let arg21 : BitVec 32 := Scf.iv c0_i32_86 c1_i32_88 k0_t2
  let v414 : Index := Scalar.indexCast arg21
  let c480_219 : Index := 480#32
  ![v414.toNat, 480]
def k0_off98 (k0_t2 : Fin k0_t2_loop.trips) : Fin 3 → Nat :=
  let c0_i32_220 : BitVec 32 := 0#32
  let v416 : Index := Scalar.indexCast c0_i32_220
  let c0_i32_86 : BitVec 32 := 0#32
  let c1_i32_88 : BitVec 32 := 1#32
  let arg21 : BitVec 32 := Scf.iv c0_i32_86 c1_i32_88 k0_t2
  let v417 : Index := Scalar.indexCast arg21
  let c496 : Index := 496#32
  ![0, v417.toNat, 496]
def k0_off99 (k0_t2 : Fin k0_t2_loop.trips) : Fin 3 → Nat :=
  let c1_i32_221 : BitVec 32 := 1#32
  let v419 : Index := Scalar.indexCast c1_i32_221
  let c0_i32_86 : BitVec 32 := 0#32
  let c1_i32_88 : BitVec 32 := 1#32
  let arg21 : BitVec 32 := Scf.iv c0_i32_86 c1_i32_88 k0_t2
  let v420 : Index := Scalar.indexCast arg21
  let c496_222 : Index := 496#32
  ![1, v420.toNat, 496]
def k0_off100 (k0_t2 : Fin k0_t2_loop.trips) : Fin 2 → Nat :=
  let c0_i32_86 : BitVec 32 := 0#32
  let c1_i32_88 : BitVec 32 := 1#32
  let arg21 : BitVec 32 := Scf.iv c0_i32_86 c1_i32_88 k0_t2
  let v423 : Index := Scalar.indexCast arg21
  let c496_223 : Index := 496#32
  ![v423.toNat, 496]
def k0_off101 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_19 : BitVec 32 := 0#32
  let c1_i32 : BitVec 32 := 1#32
  let arg20 : BitVec 32 := Scf.iv c0_i32_19 c1_i32 k0_t1
  let c4_i32_28 : BitVec 32 := 4#32
  let v43 : BitVec 32 := Scalar.muli arg20 c4_i32_28
  let c0_i32_29 : BitVec 32 := 0#32
  let v44 : BitVec 32 := Scalar.addi v43 c0_i32_29
  let c32_i32_90 : BitVec 32 := 32#32
  let v128 : BitVec 32 := Scalar.muli v44 c32_i32_90
  let v129 : BitVec 32 := Scalar.addi v1 v128
  let c4_i32_91 : BitVec 32 := 4#32
  let v130 : BitVec 32 := Scalar.shrui v129 c4_i32_91
  let c15_i32_92 : BitVec 32 := 15#32
  let v131 : BitVec 32 := Scalar.andi v129 c15_i32_92
  let c8_i32_93 : BitVec 32 := 8#32
  let v132 : BitVec 32 := Scalar.muli v131 c8_i32_93
  let c0_i32_94 : BitVec 32 := 0#32
  ![v130.toNat, v132.toNat, 0]
def k0_cond5 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_19 : BitVec 32 := 0#32
  let c1_i32 : BitVec 32 := 1#32
  let arg20 : BitVec 32 := Scf.iv c0_i32_19 c1_i32 k0_t1
  let c4_i32_41 : BitVec 32 := 4#32
  let v64 : BitVec 32 := Scalar.muli arg20 c4_i32_41
  let c1_i32_42 : BitVec 32 := 1#32
  let v65 : BitVec 32 := Scalar.addi v64 c1_i32_42
  let c32_i32_43 : BitVec 32 := 32#32
  let v66 : BitVec 32 := Scalar.muli v65 c32_i32_43
  let v67 : BitVec 32 := Scalar.addi v1 v66
  let c96_i32_47 : BitVec 32 := 96#32
  let v71 : BitVec 32 := Scalar.addi v67 c96_i32_47
  let c1584_i32_48 : BitVec 32 := 1584#32
  let v72 : BitVec 1 := Scalar.cmpi .slt v71 c1584_i32_48
  let v73 : BitVec 32 := Scalar.extui v72
  let c0_i32_49 : BitVec 32 := 0#32
  let v74 : BitVec 1 := Scalar.cmpi .ne v73 c0_i32_49
  v74

def k0_off102 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_19 : BitVec 32 := 0#32
  let c1_i32 : BitVec 32 := 1#32
  let arg20 : BitVec 32 := Scf.iv c0_i32_19 c1_i32 k0_t1
  let c4_i32_41 : BitVec 32 := 4#32
  let v64 : BitVec 32 := Scalar.muli arg20 c4_i32_41
  let c1_i32_42 : BitVec 32 := 1#32
  let v65 : BitVec 32 := Scalar.addi v64 c1_i32_42
  let c4_i32_85 : BitVec 32 := 4#32
  let v127 : BitVec 32 := Scalar.addi v65 c4_i32_85
  let c1_i32_86 : BitVec 32 := 1#32
  let v128 : BitVec 32 := Scalar.subi v127 c1_i32_86
  let c32_i32_87 : BitVec 32 := 32#32
  let v129 : BitVec 32 := Scalar.muli v128 c32_i32_87
  let v130 : BitVec 32 := Scalar.addi v1 v129
  let c4_i32_88 : BitVec 32 := 4#32
  let v131 : BitVec 32 := Scalar.shrui v130 c4_i32_88
  let c0_i32_91 : BitVec 32 := 0#32
  let c15_i32_89 : BitVec 32 := 15#32
  let v132 : BitVec 32 := Scalar.andi v130 c15_i32_89
  let c8_i32_90 : BitVec 32 := 8#32
  let v133 : BitVec 32 := Scalar.muli v132 c8_i32_90
  let c0_i32_92 : BitVec 32 := 0#32
  ![v131.toNat, 0, v133.toNat, 0]
def k0_cond6 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_19 : BitVec 32 := 0#32
  let c1_i32 : BitVec 32 := 1#32
  let arg20 : BitVec 32 := Scf.iv c0_i32_19 c1_i32 k0_t1
  let c4_i32_41 : BitVec 32 := 4#32
  let v64 : BitVec 32 := Scalar.muli arg20 c4_i32_41
  let c1_i32_42 : BitVec 32 := 1#32
  let v65 : BitVec 32 := Scalar.addi v64 c1_i32_42
  let c32_i32_43 : BitVec 32 := 32#32
  let v66 : BitVec 32 := Scalar.muli v65 c32_i32_43
  let v67 : BitVec 32 := Scalar.addi v1 v66
  let c1584_i32_44 : BitVec 32 := 1584#32
  let v68 : BitVec 1 := Scalar.cmpi .slt v67 c1584_i32_44
  let v75 : BitVec 32 := Scalar.extui v68
  let c0_i32_50 : BitVec 32 := 0#32
  let v76 : BitVec 1 := Scalar.cmpi .ne v75 c0_i32_50
  v76

def k0_off103 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_19 : BitVec 32 := 0#32
  let c1_i32 : BitVec 32 := 1#32
  let arg20 : BitVec 32 := Scf.iv c0_i32_19 c1_i32 k0_t1
  let c4_i32_41 : BitVec 32 := 4#32
  let v64 : BitVec 32 := Scalar.muli arg20 c4_i32_41
  let c1_i32_42 : BitVec 32 := 1#32
  let v65 : BitVec 32 := Scalar.addi v64 c1_i32_42
  let c32_i32_85 : BitVec 32 := 32#32
  let v127 : BitVec 32 := Scalar.muli v65 c32_i32_85
  let v128 : BitVec 32 := Scalar.addi v1 v127
  let c4_i32_86 : BitVec 32 := 4#32
  let v129 : BitVec 32 := Scalar.shrui v128 c4_i32_86
  let c0_i32_89 : BitVec 32 := 0#32
  let c15_i32_87 : BitVec 32 := 15#32
  let v130 : BitVec 32 := Scalar.andi v128 c15_i32_87
  let c8_i32_88 : BitVec 32 := 8#32
  let v131 : BitVec 32 := Scalar.muli v130 c8_i32_88
  let c0_i32_90 : BitVec 32 := 0#32
  ![v129.toNat, 0, v131.toNat, 0]
def k0_cond7 (i : grid0.Coords) (k0_t1 : Fin k0_t1_loop.trips) : BitVec 1 :=
  let c0_i32_19 : BitVec 32 := 0#32
  let c1_i32 : BitVec 32 := 1#32
  let arg20 : BitVec 32 := Scf.iv c0_i32_19 c1_i32 k0_t1
  let c4_i32_41 : BitVec 32 := 4#32
  let v64 : BitVec 32 := Scalar.muli arg20 c4_i32_41
  let c1_i32_42 : BitVec 32 := 1#32
  let v65 : BitVec 32 := Scalar.addi v64 c1_i32_42
  let c4_i32_51 : BitVec 32 := 4#32
  let v77 : BitVec 1 := Scalar.cmpi .sge v65 c4_i32_51
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_43 : BitVec 32 := 32#32
  let v66 : BitVec 32 := Scalar.muli v65 c32_i32_43
  let v67 : BitVec 32 := Scalar.addi v1 v66
  let c128_i32_52 : BitVec 32 := 128#32
  let v78 : BitVec 32 := Scalar.subi v67 c128_i32_52
  let c1584_i32_53 : BitVec 32 := 1584#32
  let v79 : BitVec 1 := Scalar.cmpi .slt v78 c1584_i32_53
  let v80 : BitVec 1 := Scalar.andi v77 v79
  let v81 : BitVec 32 := Scalar.extui v80
  let c0_i32_54 : BitVec 32 := 0#32
  let v82 : BitVec 1 := Scalar.cmpi .ne v81 c0_i32_54
  v82

def k0_off104 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_19 : BitVec 32 := 0#32
  let c1_i32 : BitVec 32 := 1#32
  let arg20 : BitVec 32 := Scf.iv c0_i32_19 c1_i32 k0_t1
  let c4_i32_41 : BitVec 32 := 4#32
  let v64 : BitVec 32 := Scalar.muli arg20 c4_i32_41
  let c1_i32_42 : BitVec 32 := 1#32
  let v65 : BitVec 32 := Scalar.addi v64 c1_i32_42
  let c4_i32_45 : BitVec 32 := 4#32
  let v69 : BitVec 32 := Scalar.subi v65 c4_i32_45
  let c0_i32_46 : BitVec 32 := 0#32
  let v70 : BitVec 32 := Scalar.maxsi v69 c0_i32_46
  let c32_i32_85 : BitVec 32 := 32#32
  let v127 : BitVec 32 := Scalar.muli v70 c32_i32_85
  let v128 : BitVec 32 := Scalar.addi v1 v127
  let c4_i32_86 : BitVec 32 := 4#32
  let v129 : BitVec 32 := Scalar.shrui v128 c4_i32_86
  let c15_i32_87 : BitVec 32 := 15#32
  let v130 : BitVec 32 := Scalar.andi v128 c15_i32_87
  let c8_i32_88 : BitVec 32 := 8#32
  let v131 : BitVec 32 := Scalar.muli v130 c8_i32_88
  let c0_i32_89 : BitVec 32 := 0#32
  ![v129.toNat, v131.toNat, 0]
def k0_cond8 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_19 : BitVec 32 := 0#32
  let c1_i32 : BitVec 32 := 1#32
  let arg20 : BitVec 32 := Scf.iv c0_i32_19 c1_i32 k0_t1
  let c4_i32_41 : BitVec 32 := 4#32
  let v64 : BitVec 32 := Scalar.muli arg20 c4_i32_41
  let c1_i32_42 : BitVec 32 := 1#32
  let v65 : BitVec 32 := Scalar.addi v64 c1_i32_42
  let c32_i32_43 : BitVec 32 := 32#32
  let v66 : BitVec 32 := Scalar.muli v65 c32_i32_43
  let v67 : BitVec 32 := Scalar.addi v1 v66
  let c1584_i32_44 : BitVec 32 := 1584#32
  let v68 : BitVec 1 := Scalar.cmpi .slt v67 c1584_i32_44
  let v83 : BitVec 32 := Scalar.extui v68
  let c0_i32_55 : BitVec 32 := 0#32
  let v84 : BitVec 1 := Scalar.cmpi .ne v83 c0_i32_55
  v84

@[reducible] def k0_t3_loop : Scf.Loop 32 :=
  let c0_i32_86 : BitVec 32 := 0#32
  let c8_i32_87 : BitVec 32 := 8#32
  let v127 : BitVec 32 := Scalar.addi c0_i32_86 c8_i32_87
  let c1_i32_88 : BitVec 32 := 1#32
  ⟨c0_i32_86, v127, c1_i32_88⟩
def k0_off105 (k0_t3 : Fin k0_t3_loop.trips) : Fin 3 → Nat :=
  let c0_i32_96 : BitVec 32 := 0#32
  let v137 : Index := Scalar.indexCast c0_i32_96
  let c0_i32_86 : BitVec 32 := 0#32
  let c1_i32_88 : BitVec 32 := 1#32
  let arg21 : BitVec 32 := Scf.iv c0_i32_86 c1_i32_88 k0_t3
  let v138 : Index := Scalar.indexCast arg21
  let c0 : Index := 0#32
  ![0, v138.toNat, 0]
def k0_off106 (k0_t3 : Fin k0_t3_loop.trips) : Fin 3 → Nat :=
  let c1_i32_97 : BitVec 32 := 1#32
  let v140 : Index := Scalar.indexCast c1_i32_97
  let c0_i32_86 : BitVec 32 := 0#32
  let c1_i32_88 : BitVec 32 := 1#32
  let arg21 : BitVec 32 := Scf.iv c0_i32_86 c1_i32_88 k0_t3
  let v141 : Index := Scalar.indexCast arg21
  let c0_98 : Index := 0#32
  ![1, v141.toNat, 0]
def k0_off107 (k0_t3 : Fin k0_t3_loop.trips) : Fin 2 → Nat :=
  let c0_i32_86 : BitVec 32 := 0#32
  let c1_i32_88 : BitVec 32 := 1#32
  let arg21 : BitVec 32 := Scf.iv c0_i32_86 c1_i32_88 k0_t3
  let v144 : Index := Scalar.indexCast arg21
  let c0_99 : Index := 0#32
  ![v144.toNat, 0]
def k0_off108 (k0_t3 : Fin k0_t3_loop.trips) : Fin 3 → Nat :=
  let c0_i32_100 : BitVec 32 := 0#32
  let v146 : Index := Scalar.indexCast c0_i32_100
  let c0_i32_86 : BitVec 32 := 0#32
  let c1_i32_88 : BitVec 32 := 1#32
  let arg21 : BitVec 32 := Scf.iv c0_i32_86 c1_i32_88 k0_t3
  let v147 : Index := Scalar.indexCast arg21
  let c16 : Index := 16#32
  ![0, v147.toNat, 16]
def k0_off109 (k0_t3 : Fin k0_t3_loop.trips) : Fin 3 → Nat :=
  let c1_i32_101 : BitVec 32 := 1#32
  let v149 : Index := Scalar.indexCast c1_i32_101
  let c0_i32_86 : BitVec 32 := 0#32
  let c1_i32_88 : BitVec 32 := 1#32
  let arg21 : BitVec 32 := Scf.iv c0_i32_86 c1_i32_88 k0_t3
  let v150 : Index := Scalar.indexCast arg21
  let c16_102 : Index := 16#32
  ![1, v150.toNat, 16]
def k0_off110 (k0_t3 : Fin k0_t3_loop.trips) : Fin 2 → Nat :=
  let c0_i32_86 : BitVec 32 := 0#32
  let c1_i32_88 : BitVec 32 := 1#32
  let arg21 : BitVec 32 := Scf.iv c0_i32_86 c1_i32_88 k0_t3
  let v153 : Index := Scalar.indexCast arg21
  let c16_103 : Index := 16#32
  ![v153.toNat, 16]
def k0_off111 (k0_t3 : Fin k0_t3_loop.trips) : Fin 3 → Nat :=
  let c0_i32_104 : BitVec 32 := 0#32
  let v155 : Index := Scalar.indexCast c0_i32_104
  let c0_i32_86 : BitVec 32 := 0#32
  let c1_i32_88 : BitVec 32 := 1#32
  let arg21 : BitVec 32 := Scf.iv c0_i32_86 c1_i32_88 k0_t3
  let v156 : Index := Scalar.indexCast arg21
  let c32 : Index := 32#32
  ![0, v156.toNat, 32]
def k0_off112 (k0_t3 : Fin k0_t3_loop.trips) : Fin 3 → Nat :=
  let c1_i32_105 : BitVec 32 := 1#32
  let v158 : Index := Scalar.indexCast c1_i32_105
  let c0_i32_86 : BitVec 32 := 0#32
  let c1_i32_88 : BitVec 32 := 1#32
  let arg21 : BitVec 32 := Scf.iv c0_i32_86 c1_i32_88 k0_t3
  let v159 : Index := Scalar.indexCast arg21
  let c32_106 : Index := 32#32
  ![1, v159.toNat, 32]
def k0_off113 (k0_t3 : Fin k0_t3_loop.trips) : Fin 2 → Nat :=
  let c0_i32_86 : BitVec 32 := 0#32
  let c1_i32_88 : BitVec 32 := 1#32
  let arg21 : BitVec 32 := Scf.iv c0_i32_86 c1_i32_88 k0_t3
  let v162 : Index := Scalar.indexCast arg21
  let c32_107 : Index := 32#32
  ![v162.toNat, 32]
def k0_off114 (k0_t3 : Fin k0_t3_loop.trips) : Fin 3 → Nat :=
  let c0_i32_108 : BitVec 32 := 0#32
  let v164 : Index := Scalar.indexCast c0_i32_108
  let c0_i32_86 : BitVec 32 := 0#32
  let c1_i32_88 : BitVec 32 := 1#32
  let arg21 : BitVec 32 := Scf.iv c0_i32_86 c1_i32_88 k0_t3
  let v165 : Index := Scalar.indexCast arg21
  let c48 : Index := 48#32
  ![0, v165.toNat, 48]
def k0_off115 (k0_t3 : Fin k0_t3_loop.trips) : Fin 3 → Nat :=
  let c1_i32_109 : BitVec 32 := 1#32
  let v167 : Index := Scalar.indexCast c1_i32_109
  let c0_i32_86 : BitVec 32 := 0#32
  let c1_i32_88 : BitVec 32 := 1#32
  let arg21 : BitVec 32 := Scf.iv c0_i32_86 c1_i32_88 k0_t3
  let v168 : Index := Scalar.indexCast arg21
  let c48_110 : Index := 48#32
  ![1, v168.toNat, 48]
def k0_off116 (k0_t3 : Fin k0_t3_loop.trips) : Fin 2 → Nat :=
  let c0_i32_86 : BitVec 32 := 0#32
  let c1_i32_88 : BitVec 32 := 1#32
  let arg21 : BitVec 32 := Scf.iv c0_i32_86 c1_i32_88 k0_t3
  let v171 : Index := Scalar.indexCast arg21
  let c48_111 : Index := 48#32
  ![v171.toNat, 48]
def k0_off117 (k0_t3 : Fin k0_t3_loop.trips) : Fin 3 → Nat :=
  let c0_i32_112 : BitVec 32 := 0#32
  let v173 : Index := Scalar.indexCast c0_i32_112
  let c0_i32_86 : BitVec 32 := 0#32
  let c1_i32_88 : BitVec 32 := 1#32
  let arg21 : BitVec 32 := Scf.iv c0_i32_86 c1_i32_88 k0_t3
  let v174 : Index := Scalar.indexCast arg21
  let c64 : Index := 64#32
  ![0, v174.toNat, 64]
def k0_off118 (k0_t3 : Fin k0_t3_loop.trips) : Fin 3 → Nat :=
  let c1_i32_113 : BitVec 32 := 1#32
  let v176 : Index := Scalar.indexCast c1_i32_113
  let c0_i32_86 : BitVec 32 := 0#32
  let c1_i32_88 : BitVec 32 := 1#32
  let arg21 : BitVec 32 := Scf.iv c0_i32_86 c1_i32_88 k0_t3
  let v177 : Index := Scalar.indexCast arg21
  let c64_114 : Index := 64#32
  ![1, v177.toNat, 64]
def k0_off119 (k0_t3 : Fin k0_t3_loop.trips) : Fin 2 → Nat :=
  let c0_i32_86 : BitVec 32 := 0#32
  let c1_i32_88 : BitVec 32 := 1#32
  let arg21 : BitVec 32 := Scf.iv c0_i32_86 c1_i32_88 k0_t3
  let v180 : Index := Scalar.indexCast arg21
  let c64_115 : Index := 64#32
  ![v180.toNat, 64]
def k0_off120 (k0_t3 : Fin k0_t3_loop.trips) : Fin 3 → Nat :=
  let c0_i32_116 : BitVec 32 := 0#32
  let v182 : Index := Scalar.indexCast c0_i32_116
  let c0_i32_86 : BitVec 32 := 0#32
  let c1_i32_88 : BitVec 32 := 1#32
  let arg21 : BitVec 32 := Scf.iv c0_i32_86 c1_i32_88 k0_t3
  let v183 : Index := Scalar.indexCast arg21
  let c80 : Index := 80#32
  ![0, v183.toNat, 80]
def k0_off121 (k0_t3 : Fin k0_t3_loop.trips) : Fin 3 → Nat :=
  let c1_i32_117 : BitVec 32 := 1#32
  let v185 : Index := Scalar.indexCast c1_i32_117
  let c0_i32_86 : BitVec 32 := 0#32
  let c1_i32_88 : BitVec 32 := 1#32
  let arg21 : BitVec 32 := Scf.iv c0_i32_86 c1_i32_88 k0_t3
  let v186 : Index := Scalar.indexCast arg21
  let c80_118 : Index := 80#32
  ![1, v186.toNat, 80]
def k0_off122 (k0_t3 : Fin k0_t3_loop.trips) : Fin 2 → Nat :=
  let c0_i32_86 : BitVec 32 := 0#32
  let c1_i32_88 : BitVec 32 := 1#32
  let arg21 : BitVec 32 := Scf.iv c0_i32_86 c1_i32_88 k0_t3
  let v189 : Index := Scalar.indexCast arg21
  let c80_119 : Index := 80#32
  ![v189.toNat, 80]
def k0_off123 (k0_t3 : Fin k0_t3_loop.trips) : Fin 3 → Nat :=
  let c0_i32_120 : BitVec 32 := 0#32
  let v191 : Index := Scalar.indexCast c0_i32_120
  let c0_i32_86 : BitVec 32 := 0#32
  let c1_i32_88 : BitVec 32 := 1#32
  let arg21 : BitVec 32 := Scf.iv c0_i32_86 c1_i32_88 k0_t3
  let v192 : Index := Scalar.indexCast arg21
  let c96 : Index := 96#32
  ![0, v192.toNat, 96]
def k0_off124 (k0_t3 : Fin k0_t3_loop.trips) : Fin 3 → Nat :=
  let c1_i32_121 : BitVec 32 := 1#32
  let v194 : Index := Scalar.indexCast c1_i32_121
  let c0_i32_86 : BitVec 32 := 0#32
  let c1_i32_88 : BitVec 32 := 1#32
  let arg21 : BitVec 32 := Scf.iv c0_i32_86 c1_i32_88 k0_t3
  let v195 : Index := Scalar.indexCast arg21
  let c96_122 : Index := 96#32
  ![1, v195.toNat, 96]
def k0_off125 (k0_t3 : Fin k0_t3_loop.trips) : Fin 2 → Nat :=
  let c0_i32_86 : BitVec 32 := 0#32
  let c1_i32_88 : BitVec 32 := 1#32
  let arg21 : BitVec 32 := Scf.iv c0_i32_86 c1_i32_88 k0_t3
  let v198 : Index := Scalar.indexCast arg21
  let c96_123 : Index := 96#32
  ![v198.toNat, 96]
def k0_off126 (k0_t3 : Fin k0_t3_loop.trips) : Fin 3 → Nat :=
  let c0_i32_124 : BitVec 32 := 0#32
  let v200 : Index := Scalar.indexCast c0_i32_124
  let c0_i32_86 : BitVec 32 := 0#32
  let c1_i32_88 : BitVec 32 := 1#32
  let arg21 : BitVec 32 := Scf.iv c0_i32_86 c1_i32_88 k0_t3
  let v201 : Index := Scalar.indexCast arg21
  let c112 : Index := 112#32
  ![0, v201.toNat, 112]
def k0_off127 (k0_t3 : Fin k0_t3_loop.trips) : Fin 3 → Nat :=
  let c1_i32_125 : BitVec 32 := 1#32
  let v203 : Index := Scalar.indexCast c1_i32_125
  let c0_i32_86 : BitVec 32 := 0#32
  let c1_i32_88 : BitVec 32 := 1#32
  let arg21 : BitVec 32 := Scf.iv c0_i32_86 c1_i32_88 k0_t3
  let v204 : Index := Scalar.indexCast arg21
  let c112_126 : Index := 112#32
  ![1, v204.toNat, 112]
def k0_off128 (k0_t3 : Fin k0_t3_loop.trips) : Fin 2 → Nat :=
  let c0_i32_86 : BitVec 32 := 0#32
  let c1_i32_88 : BitVec 32 := 1#32
  let arg21 : BitVec 32 := Scf.iv c0_i32_86 c1_i32_88 k0_t3
  let v207 : Index := Scalar.indexCast arg21
  let c112_127 : Index := 112#32
  ![v207.toNat, 112]
def k0_off129 (k0_t3 : Fin k0_t3_loop.trips) : Fin 3 → Nat :=
  let c0_i32_128 : BitVec 32 := 0#32
  let v209 : Index := Scalar.indexCast c0_i32_128
  let c0_i32_86 : BitVec 32 := 0#32
  let c1_i32_88 : BitVec 32 := 1#32
  let arg21 : BitVec 32 := Scf.iv c0_i32_86 c1_i32_88 k0_t3
  let v210 : Index := Scalar.indexCast arg21
  let c128 : Index := 128#32
  ![0, v210.toNat, 128]
def k0_off130 (k0_t3 : Fin k0_t3_loop.trips) : Fin 3 → Nat :=
  let c1_i32_129 : BitVec 32 := 1#32
  let v212 : Index := Scalar.indexCast c1_i32_129
  let c0_i32_86 : BitVec 32 := 0#32
  let c1_i32_88 : BitVec 32 := 1#32
  let arg21 : BitVec 32 := Scf.iv c0_i32_86 c1_i32_88 k0_t3
  let v213 : Index := Scalar.indexCast arg21
  let c128_130 : Index := 128#32
  ![1, v213.toNat, 128]
def k0_off131 (k0_t3 : Fin k0_t3_loop.trips) : Fin 2 → Nat :=
  let c0_i32_86 : BitVec 32 := 0#32
  let c1_i32_88 : BitVec 32 := 1#32
  let arg21 : BitVec 32 := Scf.iv c0_i32_86 c1_i32_88 k0_t3
  let v216 : Index := Scalar.indexCast arg21
  let c128_131 : Index := 128#32
  ![v216.toNat, 128]
def k0_off132 (k0_t3 : Fin k0_t3_loop.trips) : Fin 3 → Nat :=
  let c0_i32_132 : BitVec 32 := 0#32
  let v218 : Index := Scalar.indexCast c0_i32_132
  let c0_i32_86 : BitVec 32 := 0#32
  let c1_i32_88 : BitVec 32 := 1#32
  let arg21 : BitVec 32 := Scf.iv c0_i32_86 c1_i32_88 k0_t3
  let v219 : Index := Scalar.indexCast arg21
  let c144 : Index := 144#32
  ![0, v219.toNat, 144]
def k0_off133 (k0_t3 : Fin k0_t3_loop.trips) : Fin 3 → Nat :=
  let c1_i32_133 : BitVec 32 := 1#32
  let v221 : Index := Scalar.indexCast c1_i32_133
  let c0_i32_86 : BitVec 32 := 0#32
  let c1_i32_88 : BitVec 32 := 1#32
  let arg21 : BitVec 32 := Scf.iv c0_i32_86 c1_i32_88 k0_t3
  let v222 : Index := Scalar.indexCast arg21
  let c144_134 : Index := 144#32
  ![1, v222.toNat, 144]
def k0_off134 (k0_t3 : Fin k0_t3_loop.trips) : Fin 2 → Nat :=
  let c0_i32_86 : BitVec 32 := 0#32
  let c1_i32_88 : BitVec 32 := 1#32
  let arg21 : BitVec 32 := Scf.iv c0_i32_86 c1_i32_88 k0_t3
  let v225 : Index := Scalar.indexCast arg21
  let c144_135 : Index := 144#32
  ![v225.toNat, 144]
def k0_off135 (k0_t3 : Fin k0_t3_loop.trips) : Fin 3 → Nat :=
  let c0_i32_136 : BitVec 32 := 0#32
  let v227 : Index := Scalar.indexCast c0_i32_136
  let c0_i32_86 : BitVec 32 := 0#32
  let c1_i32_88 : BitVec 32 := 1#32
  let arg21 : BitVec 32 := Scf.iv c0_i32_86 c1_i32_88 k0_t3
  let v228 : Index := Scalar.indexCast arg21
  let c160 : Index := 160#32
  ![0, v228.toNat, 160]
def k0_off136 (k0_t3 : Fin k0_t3_loop.trips) : Fin 3 → Nat :=
  let c1_i32_137 : BitVec 32 := 1#32
  let v230 : Index := Scalar.indexCast c1_i32_137
  let c0_i32_86 : BitVec 32 := 0#32
  let c1_i32_88 : BitVec 32 := 1#32
  let arg21 : BitVec 32 := Scf.iv c0_i32_86 c1_i32_88 k0_t3
  let v231 : Index := Scalar.indexCast arg21
  let c160_138 : Index := 160#32
  ![1, v231.toNat, 160]
def k0_off137 (k0_t3 : Fin k0_t3_loop.trips) : Fin 2 → Nat :=
  let c0_i32_86 : BitVec 32 := 0#32
  let c1_i32_88 : BitVec 32 := 1#32
  let arg21 : BitVec 32 := Scf.iv c0_i32_86 c1_i32_88 k0_t3
  let v234 : Index := Scalar.indexCast arg21
  let c160_139 : Index := 160#32
  ![v234.toNat, 160]
def k0_off138 (k0_t3 : Fin k0_t3_loop.trips) : Fin 3 → Nat :=
  let c0_i32_140 : BitVec 32 := 0#32
  let v236 : Index := Scalar.indexCast c0_i32_140
  let c0_i32_86 : BitVec 32 := 0#32
  let c1_i32_88 : BitVec 32 := 1#32
  let arg21 : BitVec 32 := Scf.iv c0_i32_86 c1_i32_88 k0_t3
  let v237 : Index := Scalar.indexCast arg21
  let c176 : Index := 176#32
  ![0, v237.toNat, 176]
def k0_off139 (k0_t3 : Fin k0_t3_loop.trips) : Fin 3 → Nat :=
  let c1_i32_141 : BitVec 32 := 1#32
  let v239 : Index := Scalar.indexCast c1_i32_141
  let c0_i32_86 : BitVec 32 := 0#32
  let c1_i32_88 : BitVec 32 := 1#32
  let arg21 : BitVec 32 := Scf.iv c0_i32_86 c1_i32_88 k0_t3
  let v240 : Index := Scalar.indexCast arg21
  let c176_142 : Index := 176#32
  ![1, v240.toNat, 176]
def k0_off140 (k0_t3 : Fin k0_t3_loop.trips) : Fin 2 → Nat :=
  let c0_i32_86 : BitVec 32 := 0#32
  let c1_i32_88 : BitVec 32 := 1#32
  let arg21 : BitVec 32 := Scf.iv c0_i32_86 c1_i32_88 k0_t3
  let v243 : Index := Scalar.indexCast arg21
  let c176_143 : Index := 176#32
  ![v243.toNat, 176]
def k0_off141 (k0_t3 : Fin k0_t3_loop.trips) : Fin 3 → Nat :=
  let c0_i32_144 : BitVec 32 := 0#32
  let v245 : Index := Scalar.indexCast c0_i32_144
  let c0_i32_86 : BitVec 32 := 0#32
  let c1_i32_88 : BitVec 32 := 1#32
  let arg21 : BitVec 32 := Scf.iv c0_i32_86 c1_i32_88 k0_t3
  let v246 : Index := Scalar.indexCast arg21
  let c192 : Index := 192#32
  ![0, v246.toNat, 192]
def k0_off142 (k0_t3 : Fin k0_t3_loop.trips) : Fin 3 → Nat :=
  let c1_i32_145 : BitVec 32 := 1#32
  let v248 : Index := Scalar.indexCast c1_i32_145
  let c0_i32_86 : BitVec 32 := 0#32
  let c1_i32_88 : BitVec 32 := 1#32
  let arg21 : BitVec 32 := Scf.iv c0_i32_86 c1_i32_88 k0_t3
  let v249 : Index := Scalar.indexCast arg21
  let c192_146 : Index := 192#32
  ![1, v249.toNat, 192]
def k0_off143 (k0_t3 : Fin k0_t3_loop.trips) : Fin 2 → Nat :=
  let c0_i32_86 : BitVec 32 := 0#32
  let c1_i32_88 : BitVec 32 := 1#32
  let arg21 : BitVec 32 := Scf.iv c0_i32_86 c1_i32_88 k0_t3
  let v252 : Index := Scalar.indexCast arg21
  let c192_147 : Index := 192#32
  ![v252.toNat, 192]
def k0_off144 (k0_t3 : Fin k0_t3_loop.trips) : Fin 3 → Nat :=
  let c0_i32_148 : BitVec 32 := 0#32
  let v254 : Index := Scalar.indexCast c0_i32_148
  let c0_i32_86 : BitVec 32 := 0#32
  let c1_i32_88 : BitVec 32 := 1#32
  let arg21 : BitVec 32 := Scf.iv c0_i32_86 c1_i32_88 k0_t3
  let v255 : Index := Scalar.indexCast arg21
  let c208 : Index := 208#32
  ![0, v255.toNat, 208]
def k0_off145 (k0_t3 : Fin k0_t3_loop.trips) : Fin 3 → Nat :=
  let c1_i32_149 : BitVec 32 := 1#32
  let v257 : Index := Scalar.indexCast c1_i32_149
  let c0_i32_86 : BitVec 32 := 0#32
  let c1_i32_88 : BitVec 32 := 1#32
  let arg21 : BitVec 32 := Scf.iv c0_i32_86 c1_i32_88 k0_t3
  let v258 : Index := Scalar.indexCast arg21
  let c208_150 : Index := 208#32
  ![1, v258.toNat, 208]
def k0_off146 (k0_t3 : Fin k0_t3_loop.trips) : Fin 2 → Nat :=
  let c0_i32_86 : BitVec 32 := 0#32
  let c1_i32_88 : BitVec 32 := 1#32
  let arg21 : BitVec 32 := Scf.iv c0_i32_86 c1_i32_88 k0_t3
  let v261 : Index := Scalar.indexCast arg21
  let c208_151 : Index := 208#32
  ![v261.toNat, 208]
def k0_off147 (k0_t3 : Fin k0_t3_loop.trips) : Fin 3 → Nat :=
  let c0_i32_152 : BitVec 32 := 0#32
  let v263 : Index := Scalar.indexCast c0_i32_152
  let c0_i32_86 : BitVec 32 := 0#32
  let c1_i32_88 : BitVec 32 := 1#32
  let arg21 : BitVec 32 := Scf.iv c0_i32_86 c1_i32_88 k0_t3
  let v264 : Index := Scalar.indexCast arg21
  let c224 : Index := 224#32
  ![0, v264.toNat, 224]
def k0_off148 (k0_t3 : Fin k0_t3_loop.trips) : Fin 3 → Nat :=
  let c1_i32_153 : BitVec 32 := 1#32
  let v266 : Index := Scalar.indexCast c1_i32_153
  let c0_i32_86 : BitVec 32 := 0#32
  let c1_i32_88 : BitVec 32 := 1#32
  let arg21 : BitVec 32 := Scf.iv c0_i32_86 c1_i32_88 k0_t3
  let v267 : Index := Scalar.indexCast arg21
  let c224_154 : Index := 224#32
  ![1, v267.toNat, 224]
def k0_off149 (k0_t3 : Fin k0_t3_loop.trips) : Fin 2 → Nat :=
  let c0_i32_86 : BitVec 32 := 0#32
  let c1_i32_88 : BitVec 32 := 1#32
  let arg21 : BitVec 32 := Scf.iv c0_i32_86 c1_i32_88 k0_t3
  let v270 : Index := Scalar.indexCast arg21
  let c224_155 : Index := 224#32
  ![v270.toNat, 224]
def k0_off150 (k0_t3 : Fin k0_t3_loop.trips) : Fin 3 → Nat :=
  let c0_i32_156 : BitVec 32 := 0#32
  let v272 : Index := Scalar.indexCast c0_i32_156
  let c0_i32_86 : BitVec 32 := 0#32
  let c1_i32_88 : BitVec 32 := 1#32
  let arg21 : BitVec 32 := Scf.iv c0_i32_86 c1_i32_88 k0_t3
  let v273 : Index := Scalar.indexCast arg21
  let c240 : Index := 240#32
  ![0, v273.toNat, 240]
def k0_off151 (k0_t3 : Fin k0_t3_loop.trips) : Fin 3 → Nat :=
  let c1_i32_157 : BitVec 32 := 1#32
  let v275 : Index := Scalar.indexCast c1_i32_157
  let c0_i32_86 : BitVec 32 := 0#32
  let c1_i32_88 : BitVec 32 := 1#32
  let arg21 : BitVec 32 := Scf.iv c0_i32_86 c1_i32_88 k0_t3
  let v276 : Index := Scalar.indexCast arg21
  let c240_158 : Index := 240#32
  ![1, v276.toNat, 240]
def k0_off152 (k0_t3 : Fin k0_t3_loop.trips) : Fin 2 → Nat :=
  let c0_i32_86 : BitVec 32 := 0#32
  let c1_i32_88 : BitVec 32 := 1#32
  let arg21 : BitVec 32 := Scf.iv c0_i32_86 c1_i32_88 k0_t3
  let v279 : Index := Scalar.indexCast arg21
  let c240_159 : Index := 240#32
  ![v279.toNat, 240]
def k0_off153 (k0_t3 : Fin k0_t3_loop.trips) : Fin 3 → Nat :=
  let c0_i32_160 : BitVec 32 := 0#32
  let v281 : Index := Scalar.indexCast c0_i32_160
  let c0_i32_86 : BitVec 32 := 0#32
  let c1_i32_88 : BitVec 32 := 1#32
  let arg21 : BitVec 32 := Scf.iv c0_i32_86 c1_i32_88 k0_t3
  let v282 : Index := Scalar.indexCast arg21
  let c256 : Index := 256#32
  ![0, v282.toNat, 256]
def k0_off154 (k0_t3 : Fin k0_t3_loop.trips) : Fin 3 → Nat :=
  let c1_i32_161 : BitVec 32 := 1#32
  let v284 : Index := Scalar.indexCast c1_i32_161
  let c0_i32_86 : BitVec 32 := 0#32
  let c1_i32_88 : BitVec 32 := 1#32
  let arg21 : BitVec 32 := Scf.iv c0_i32_86 c1_i32_88 k0_t3
  let v285 : Index := Scalar.indexCast arg21
  let c256_162 : Index := 256#32
  ![1, v285.toNat, 256]
def k0_off155 (k0_t3 : Fin k0_t3_loop.trips) : Fin 2 → Nat :=
  let c0_i32_86 : BitVec 32 := 0#32
  let c1_i32_88 : BitVec 32 := 1#32
  let arg21 : BitVec 32 := Scf.iv c0_i32_86 c1_i32_88 k0_t3
  let v288 : Index := Scalar.indexCast arg21
  let c256_163 : Index := 256#32
  ![v288.toNat, 256]
def k0_off156 (k0_t3 : Fin k0_t3_loop.trips) : Fin 3 → Nat :=
  let c0_i32_164 : BitVec 32 := 0#32
  let v290 : Index := Scalar.indexCast c0_i32_164
  let c0_i32_86 : BitVec 32 := 0#32
  let c1_i32_88 : BitVec 32 := 1#32
  let arg21 : BitVec 32 := Scf.iv c0_i32_86 c1_i32_88 k0_t3
  let v291 : Index := Scalar.indexCast arg21
  let c272 : Index := 272#32
  ![0, v291.toNat, 272]
def k0_off157 (k0_t3 : Fin k0_t3_loop.trips) : Fin 3 → Nat :=
  let c1_i32_165 : BitVec 32 := 1#32
  let v293 : Index := Scalar.indexCast c1_i32_165
  let c0_i32_86 : BitVec 32 := 0#32
  let c1_i32_88 : BitVec 32 := 1#32
  let arg21 : BitVec 32 := Scf.iv c0_i32_86 c1_i32_88 k0_t3
  let v294 : Index := Scalar.indexCast arg21
  let c272_166 : Index := 272#32
  ![1, v294.toNat, 272]
def k0_off158 (k0_t3 : Fin k0_t3_loop.trips) : Fin 2 → Nat :=
  let c0_i32_86 : BitVec 32 := 0#32
  let c1_i32_88 : BitVec 32 := 1#32
  let arg21 : BitVec 32 := Scf.iv c0_i32_86 c1_i32_88 k0_t3
  let v297 : Index := Scalar.indexCast arg21
  let c272_167 : Index := 272#32
  ![v297.toNat, 272]
def k0_off159 (k0_t3 : Fin k0_t3_loop.trips) : Fin 3 → Nat :=
  let c0_i32_168 : BitVec 32 := 0#32
  let v299 : Index := Scalar.indexCast c0_i32_168
  let c0_i32_86 : BitVec 32 := 0#32
  let c1_i32_88 : BitVec 32 := 1#32
  let arg21 : BitVec 32 := Scf.iv c0_i32_86 c1_i32_88 k0_t3
  let v300 : Index := Scalar.indexCast arg21
  let c288 : Index := 288#32
  ![0, v300.toNat, 288]
def k0_off160 (k0_t3 : Fin k0_t3_loop.trips) : Fin 3 → Nat :=
  let c1_i32_169 : BitVec 32 := 1#32
  let v302 : Index := Scalar.indexCast c1_i32_169
  let c0_i32_86 : BitVec 32 := 0#32
  let c1_i32_88 : BitVec 32 := 1#32
  let arg21 : BitVec 32 := Scf.iv c0_i32_86 c1_i32_88 k0_t3
  let v303 : Index := Scalar.indexCast arg21
  let c288_170 : Index := 288#32
  ![1, v303.toNat, 288]
def k0_off161 (k0_t3 : Fin k0_t3_loop.trips) : Fin 2 → Nat :=
  let c0_i32_86 : BitVec 32 := 0#32
  let c1_i32_88 : BitVec 32 := 1#32
  let arg21 : BitVec 32 := Scf.iv c0_i32_86 c1_i32_88 k0_t3
  let v306 : Index := Scalar.indexCast arg21
  let c288_171 : Index := 288#32
  ![v306.toNat, 288]
def k0_off162 (k0_t3 : Fin k0_t3_loop.trips) : Fin 3 → Nat :=
  let c0_i32_172 : BitVec 32 := 0#32
  let v308 : Index := Scalar.indexCast c0_i32_172
  let c0_i32_86 : BitVec 32 := 0#32
  let c1_i32_88 : BitVec 32 := 1#32
  let arg21 : BitVec 32 := Scf.iv c0_i32_86 c1_i32_88 k0_t3
  let v309 : Index := Scalar.indexCast arg21
  let c304 : Index := 304#32
  ![0, v309.toNat, 304]
def k0_off163 (k0_t3 : Fin k0_t3_loop.trips) : Fin 3 → Nat :=
  let c1_i32_173 : BitVec 32 := 1#32
  let v311 : Index := Scalar.indexCast c1_i32_173
  let c0_i32_86 : BitVec 32 := 0#32
  let c1_i32_88 : BitVec 32 := 1#32
  let arg21 : BitVec 32 := Scf.iv c0_i32_86 c1_i32_88 k0_t3
  let v312 : Index := Scalar.indexCast arg21
  let c304_174 : Index := 304#32
  ![1, v312.toNat, 304]
def k0_off164 (k0_t3 : Fin k0_t3_loop.trips) : Fin 2 → Nat :=
  let c0_i32_86 : BitVec 32 := 0#32
  let c1_i32_88 : BitVec 32 := 1#32
  let arg21 : BitVec 32 := Scf.iv c0_i32_86 c1_i32_88 k0_t3
  let v315 : Index := Scalar.indexCast arg21
  let c304_175 : Index := 304#32
  ![v315.toNat, 304]
def k0_off165 (k0_t3 : Fin k0_t3_loop.trips) : Fin 3 → Nat :=
  let c0_i32_176 : BitVec 32 := 0#32
  let v317 : Index := Scalar.indexCast c0_i32_176
  let c0_i32_86 : BitVec 32 := 0#32
  let c1_i32_88 : BitVec 32 := 1#32
  let arg21 : BitVec 32 := Scf.iv c0_i32_86 c1_i32_88 k0_t3
  let v318 : Index := Scalar.indexCast arg21
  let c320 : Index := 320#32
  ![0, v318.toNat, 320]
def k0_off166 (k0_t3 : Fin k0_t3_loop.trips) : Fin 3 → Nat :=
  let c1_i32_177 : BitVec 32 := 1#32
  let v320 : Index := Scalar.indexCast c1_i32_177
  let c0_i32_86 : BitVec 32 := 0#32
  let c1_i32_88 : BitVec 32 := 1#32
  let arg21 : BitVec 32 := Scf.iv c0_i32_86 c1_i32_88 k0_t3
  let v321 : Index := Scalar.indexCast arg21
  let c320_178 : Index := 320#32
  ![1, v321.toNat, 320]
def k0_off167 (k0_t3 : Fin k0_t3_loop.trips) : Fin 2 → Nat :=
  let c0_i32_86 : BitVec 32 := 0#32
  let c1_i32_88 : BitVec 32 := 1#32
  let arg21 : BitVec 32 := Scf.iv c0_i32_86 c1_i32_88 k0_t3
  let v324 : Index := Scalar.indexCast arg21
  let c320_179 : Index := 320#32
  ![v324.toNat, 320]
def k0_off168 (k0_t3 : Fin k0_t3_loop.trips) : Fin 3 → Nat :=
  let c0_i32_180 : BitVec 32 := 0#32
  let v326 : Index := Scalar.indexCast c0_i32_180
  let c0_i32_86 : BitVec 32 := 0#32
  let c1_i32_88 : BitVec 32 := 1#32
  let arg21 : BitVec 32 := Scf.iv c0_i32_86 c1_i32_88 k0_t3
  let v327 : Index := Scalar.indexCast arg21
  let c336 : Index := 336#32
  ![0, v327.toNat, 336]
def k0_off169 (k0_t3 : Fin k0_t3_loop.trips) : Fin 3 → Nat :=
  let c1_i32_181 : BitVec 32 := 1#32
  let v329 : Index := Scalar.indexCast c1_i32_181
  let c0_i32_86 : BitVec 32 := 0#32
  let c1_i32_88 : BitVec 32 := 1#32
  let arg21 : BitVec 32 := Scf.iv c0_i32_86 c1_i32_88 k0_t3
  let v330 : Index := Scalar.indexCast arg21
  let c336_182 : Index := 336#32
  ![1, v330.toNat, 336]
def k0_off170 (k0_t3 : Fin k0_t3_loop.trips) : Fin 2 → Nat :=
  let c0_i32_86 : BitVec 32 := 0#32
  let c1_i32_88 : BitVec 32 := 1#32
  let arg21 : BitVec 32 := Scf.iv c0_i32_86 c1_i32_88 k0_t3
  let v333 : Index := Scalar.indexCast arg21
  let c336_183 : Index := 336#32
  ![v333.toNat, 336]
def k0_off171 (k0_t3 : Fin k0_t3_loop.trips) : Fin 3 → Nat :=
  let c0_i32_184 : BitVec 32 := 0#32
  let v335 : Index := Scalar.indexCast c0_i32_184
  let c0_i32_86 : BitVec 32 := 0#32
  let c1_i32_88 : BitVec 32 := 1#32
  let arg21 : BitVec 32 := Scf.iv c0_i32_86 c1_i32_88 k0_t3
  let v336 : Index := Scalar.indexCast arg21
  let c352 : Index := 352#32
  ![0, v336.toNat, 352]
def k0_off172 (k0_t3 : Fin k0_t3_loop.trips) : Fin 3 → Nat :=
  let c1_i32_185 : BitVec 32 := 1#32
  let v338 : Index := Scalar.indexCast c1_i32_185
  let c0_i32_86 : BitVec 32 := 0#32
  let c1_i32_88 : BitVec 32 := 1#32
  let arg21 : BitVec 32 := Scf.iv c0_i32_86 c1_i32_88 k0_t3
  let v339 : Index := Scalar.indexCast arg21
  let c352_186 : Index := 352#32
  ![1, v339.toNat, 352]
def k0_off173 (k0_t3 : Fin k0_t3_loop.trips) : Fin 2 → Nat :=
  let c0_i32_86 : BitVec 32 := 0#32
  let c1_i32_88 : BitVec 32 := 1#32
  let arg21 : BitVec 32 := Scf.iv c0_i32_86 c1_i32_88 k0_t3
  let v342 : Index := Scalar.indexCast arg21
  let c352_187 : Index := 352#32
  ![v342.toNat, 352]
def k0_off174 (k0_t3 : Fin k0_t3_loop.trips) : Fin 3 → Nat :=
  let c0_i32_188 : BitVec 32 := 0#32
  let v344 : Index := Scalar.indexCast c0_i32_188
  let c0_i32_86 : BitVec 32 := 0#32
  let c1_i32_88 : BitVec 32 := 1#32
  let arg21 : BitVec 32 := Scf.iv c0_i32_86 c1_i32_88 k0_t3
  let v345 : Index := Scalar.indexCast arg21
  let c368 : Index := 368#32
  ![0, v345.toNat, 368]
def k0_off175 (k0_t3 : Fin k0_t3_loop.trips) : Fin 3 → Nat :=
  let c1_i32_189 : BitVec 32 := 1#32
  let v347 : Index := Scalar.indexCast c1_i32_189
  let c0_i32_86 : BitVec 32 := 0#32
  let c1_i32_88 : BitVec 32 := 1#32
  let arg21 : BitVec 32 := Scf.iv c0_i32_86 c1_i32_88 k0_t3
  let v348 : Index := Scalar.indexCast arg21
  let c368_190 : Index := 368#32
  ![1, v348.toNat, 368]
def k0_off176 (k0_t3 : Fin k0_t3_loop.trips) : Fin 2 → Nat :=
  let c0_i32_86 : BitVec 32 := 0#32
  let c1_i32_88 : BitVec 32 := 1#32
  let arg21 : BitVec 32 := Scf.iv c0_i32_86 c1_i32_88 k0_t3
  let v351 : Index := Scalar.indexCast arg21
  let c368_191 : Index := 368#32
  ![v351.toNat, 368]
def k0_off177 (k0_t3 : Fin k0_t3_loop.trips) : Fin 3 → Nat :=
  let c0_i32_192 : BitVec 32 := 0#32
  let v353 : Index := Scalar.indexCast c0_i32_192
  let c0_i32_86 : BitVec 32 := 0#32
  let c1_i32_88 : BitVec 32 := 1#32
  let arg21 : BitVec 32 := Scf.iv c0_i32_86 c1_i32_88 k0_t3
  let v354 : Index := Scalar.indexCast arg21
  let c384 : Index := 384#32
  ![0, v354.toNat, 384]
def k0_off178 (k0_t3 : Fin k0_t3_loop.trips) : Fin 3 → Nat :=
  let c1_i32_193 : BitVec 32 := 1#32
  let v356 : Index := Scalar.indexCast c1_i32_193
  let c0_i32_86 : BitVec 32 := 0#32
  let c1_i32_88 : BitVec 32 := 1#32
  let arg21 : BitVec 32 := Scf.iv c0_i32_86 c1_i32_88 k0_t3
  let v357 : Index := Scalar.indexCast arg21
  let c384_194 : Index := 384#32
  ![1, v357.toNat, 384]
def k0_off179 (k0_t3 : Fin k0_t3_loop.trips) : Fin 2 → Nat :=
  let c0_i32_86 : BitVec 32 := 0#32
  let c1_i32_88 : BitVec 32 := 1#32
  let arg21 : BitVec 32 := Scf.iv c0_i32_86 c1_i32_88 k0_t3
  let v360 : Index := Scalar.indexCast arg21
  let c384_195 : Index := 384#32
  ![v360.toNat, 384]
def k0_off180 (k0_t3 : Fin k0_t3_loop.trips) : Fin 3 → Nat :=
  let c0_i32_196 : BitVec 32 := 0#32
  let v362 : Index := Scalar.indexCast c0_i32_196
  let c0_i32_86 : BitVec 32 := 0#32
  let c1_i32_88 : BitVec 32 := 1#32
  let arg21 : BitVec 32 := Scf.iv c0_i32_86 c1_i32_88 k0_t3
  let v363 : Index := Scalar.indexCast arg21
  let c400 : Index := 400#32
  ![0, v363.toNat, 400]
def k0_off181 (k0_t3 : Fin k0_t3_loop.trips) : Fin 3 → Nat :=
  let c1_i32_197 : BitVec 32 := 1#32
  let v365 : Index := Scalar.indexCast c1_i32_197
  let c0_i32_86 : BitVec 32 := 0#32
  let c1_i32_88 : BitVec 32 := 1#32
  let arg21 : BitVec 32 := Scf.iv c0_i32_86 c1_i32_88 k0_t3
  let v366 : Index := Scalar.indexCast arg21
  let c400_198 : Index := 400#32
  ![1, v366.toNat, 400]
def k0_off182 (k0_t3 : Fin k0_t3_loop.trips) : Fin 2 → Nat :=
  let c0_i32_86 : BitVec 32 := 0#32
  let c1_i32_88 : BitVec 32 := 1#32
  let arg21 : BitVec 32 := Scf.iv c0_i32_86 c1_i32_88 k0_t3
  let v369 : Index := Scalar.indexCast arg21
  let c400_199 : Index := 400#32
  ![v369.toNat, 400]
def k0_off183 (k0_t3 : Fin k0_t3_loop.trips) : Fin 3 → Nat :=
  let c0_i32_200 : BitVec 32 := 0#32
  let v371 : Index := Scalar.indexCast c0_i32_200
  let c0_i32_86 : BitVec 32 := 0#32
  let c1_i32_88 : BitVec 32 := 1#32
  let arg21 : BitVec 32 := Scf.iv c0_i32_86 c1_i32_88 k0_t3
  let v372 : Index := Scalar.indexCast arg21
  let c416 : Index := 416#32
  ![0, v372.toNat, 416]
def k0_off184 (k0_t3 : Fin k0_t3_loop.trips) : Fin 3 → Nat :=
  let c1_i32_201 : BitVec 32 := 1#32
  let v374 : Index := Scalar.indexCast c1_i32_201
  let c0_i32_86 : BitVec 32 := 0#32
  let c1_i32_88 : BitVec 32 := 1#32
  let arg21 : BitVec 32 := Scf.iv c0_i32_86 c1_i32_88 k0_t3
  let v375 : Index := Scalar.indexCast arg21
  let c416_202 : Index := 416#32
  ![1, v375.toNat, 416]
def k0_off185 (k0_t3 : Fin k0_t3_loop.trips) : Fin 2 → Nat :=
  let c0_i32_86 : BitVec 32 := 0#32
  let c1_i32_88 : BitVec 32 := 1#32
  let arg21 : BitVec 32 := Scf.iv c0_i32_86 c1_i32_88 k0_t3
  let v378 : Index := Scalar.indexCast arg21
  let c416_203 : Index := 416#32
  ![v378.toNat, 416]
def k0_off186 (k0_t3 : Fin k0_t3_loop.trips) : Fin 3 → Nat :=
  let c0_i32_204 : BitVec 32 := 0#32
  let v380 : Index := Scalar.indexCast c0_i32_204
  let c0_i32_86 : BitVec 32 := 0#32
  let c1_i32_88 : BitVec 32 := 1#32
  let arg21 : BitVec 32 := Scf.iv c0_i32_86 c1_i32_88 k0_t3
  let v381 : Index := Scalar.indexCast arg21
  let c432 : Index := 432#32
  ![0, v381.toNat, 432]
def k0_off187 (k0_t3 : Fin k0_t3_loop.trips) : Fin 3 → Nat :=
  let c1_i32_205 : BitVec 32 := 1#32
  let v383 : Index := Scalar.indexCast c1_i32_205
  let c0_i32_86 : BitVec 32 := 0#32
  let c1_i32_88 : BitVec 32 := 1#32
  let arg21 : BitVec 32 := Scf.iv c0_i32_86 c1_i32_88 k0_t3
  let v384 : Index := Scalar.indexCast arg21
  let c432_206 : Index := 432#32
  ![1, v384.toNat, 432]
def k0_off188 (k0_t3 : Fin k0_t3_loop.trips) : Fin 2 → Nat :=
  let c0_i32_86 : BitVec 32 := 0#32
  let c1_i32_88 : BitVec 32 := 1#32
  let arg21 : BitVec 32 := Scf.iv c0_i32_86 c1_i32_88 k0_t3
  let v387 : Index := Scalar.indexCast arg21
  let c432_207 : Index := 432#32
  ![v387.toNat, 432]
def k0_off189 (k0_t3 : Fin k0_t3_loop.trips) : Fin 3 → Nat :=
  let c0_i32_208 : BitVec 32 := 0#32
  let v389 : Index := Scalar.indexCast c0_i32_208
  let c0_i32_86 : BitVec 32 := 0#32
  let c1_i32_88 : BitVec 32 := 1#32
  let arg21 : BitVec 32 := Scf.iv c0_i32_86 c1_i32_88 k0_t3
  let v390 : Index := Scalar.indexCast arg21
  let c448 : Index := 448#32
  ![0, v390.toNat, 448]
def k0_off190 (k0_t3 : Fin k0_t3_loop.trips) : Fin 3 → Nat :=
  let c1_i32_209 : BitVec 32 := 1#32
  let v392 : Index := Scalar.indexCast c1_i32_209
  let c0_i32_86 : BitVec 32 := 0#32
  let c1_i32_88 : BitVec 32 := 1#32
  let arg21 : BitVec 32 := Scf.iv c0_i32_86 c1_i32_88 k0_t3
  let v393 : Index := Scalar.indexCast arg21
  let c448_210 : Index := 448#32
  ![1, v393.toNat, 448]
def k0_off191 (k0_t3 : Fin k0_t3_loop.trips) : Fin 2 → Nat :=
  let c0_i32_86 : BitVec 32 := 0#32
  let c1_i32_88 : BitVec 32 := 1#32
  let arg21 : BitVec 32 := Scf.iv c0_i32_86 c1_i32_88 k0_t3
  let v396 : Index := Scalar.indexCast arg21
  let c448_211 : Index := 448#32
  ![v396.toNat, 448]
def k0_off192 (k0_t3 : Fin k0_t3_loop.trips) : Fin 3 → Nat :=
  let c0_i32_212 : BitVec 32 := 0#32
  let v398 : Index := Scalar.indexCast c0_i32_212
  let c0_i32_86 : BitVec 32 := 0#32
  let c1_i32_88 : BitVec 32 := 1#32
  let arg21 : BitVec 32 := Scf.iv c0_i32_86 c1_i32_88 k0_t3
  let v399 : Index := Scalar.indexCast arg21
  let c464 : Index := 464#32
  ![0, v399.toNat, 464]
def k0_off193 (k0_t3 : Fin k0_t3_loop.trips) : Fin 3 → Nat :=
  let c1_i32_213 : BitVec 32 := 1#32
  let v401 : Index := Scalar.indexCast c1_i32_213
  let c0_i32_86 : BitVec 32 := 0#32
  let c1_i32_88 : BitVec 32 := 1#32
  let arg21 : BitVec 32 := Scf.iv c0_i32_86 c1_i32_88 k0_t3
  let v402 : Index := Scalar.indexCast arg21
  let c464_214 : Index := 464#32
  ![1, v402.toNat, 464]
def k0_off194 (k0_t3 : Fin k0_t3_loop.trips) : Fin 2 → Nat :=
  let c0_i32_86 : BitVec 32 := 0#32
  let c1_i32_88 : BitVec 32 := 1#32
  let arg21 : BitVec 32 := Scf.iv c0_i32_86 c1_i32_88 k0_t3
  let v405 : Index := Scalar.indexCast arg21
  let c464_215 : Index := 464#32
  ![v405.toNat, 464]
def k0_off195 (k0_t3 : Fin k0_t3_loop.trips) : Fin 3 → Nat :=
  let c0_i32_216 : BitVec 32 := 0#32
  let v407 : Index := Scalar.indexCast c0_i32_216
  let c0_i32_86 : BitVec 32 := 0#32
  let c1_i32_88 : BitVec 32 := 1#32
  let arg21 : BitVec 32 := Scf.iv c0_i32_86 c1_i32_88 k0_t3
  let v408 : Index := Scalar.indexCast arg21
  let c480 : Index := 480#32
  ![0, v408.toNat, 480]
def k0_off196 (k0_t3 : Fin k0_t3_loop.trips) : Fin 3 → Nat :=
  let c1_i32_217 : BitVec 32 := 1#32
  let v410 : Index := Scalar.indexCast c1_i32_217
  let c0_i32_86 : BitVec 32 := 0#32
  let c1_i32_88 : BitVec 32 := 1#32
  let arg21 : BitVec 32 := Scf.iv c0_i32_86 c1_i32_88 k0_t3
  let v411 : Index := Scalar.indexCast arg21
  let c480_218 : Index := 480#32
  ![1, v411.toNat, 480]
def k0_off197 (k0_t3 : Fin k0_t3_loop.trips) : Fin 2 → Nat :=
  let c0_i32_86 : BitVec 32 := 0#32
  let c1_i32_88 : BitVec 32 := 1#32
  let arg21 : BitVec 32 := Scf.iv c0_i32_86 c1_i32_88 k0_t3
  let v414 : Index := Scalar.indexCast arg21
  let c480_219 : Index := 480#32
  ![v414.toNat, 480]
def k0_off198 (k0_t3 : Fin k0_t3_loop.trips) : Fin 3 → Nat :=
  let c0_i32_220 : BitVec 32 := 0#32
  let v416 : Index := Scalar.indexCast c0_i32_220
  let c0_i32_86 : BitVec 32 := 0#32
  let c1_i32_88 : BitVec 32 := 1#32
  let arg21 : BitVec 32 := Scf.iv c0_i32_86 c1_i32_88 k0_t3
  let v417 : Index := Scalar.indexCast arg21
  let c496 : Index := 496#32
  ![0, v417.toNat, 496]
def k0_off199 (k0_t3 : Fin k0_t3_loop.trips) : Fin 3 → Nat :=
  let c1_i32_221 : BitVec 32 := 1#32
  let v419 : Index := Scalar.indexCast c1_i32_221
  let c0_i32_86 : BitVec 32 := 0#32
  let c1_i32_88 : BitVec 32 := 1#32
  let arg21 : BitVec 32 := Scf.iv c0_i32_86 c1_i32_88 k0_t3
  let v420 : Index := Scalar.indexCast arg21
  let c496_222 : Index := 496#32
  ![1, v420.toNat, 496]
def k0_off200 (k0_t3 : Fin k0_t3_loop.trips) : Fin 2 → Nat :=
  let c0_i32_86 : BitVec 32 := 0#32
  let c1_i32_88 : BitVec 32 := 1#32
  let arg21 : BitVec 32 := Scf.iv c0_i32_86 c1_i32_88 k0_t3
  let v423 : Index := Scalar.indexCast arg21
  let c496_223 : Index := 496#32
  ![v423.toNat, 496]
def k0_off201 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_19 : BitVec 32 := 0#32
  let c1_i32 : BitVec 32 := 1#32
  let arg20 : BitVec 32 := Scf.iv c0_i32_19 c1_i32 k0_t1
  let c4_i32_41 : BitVec 32 := 4#32
  let v64 : BitVec 32 := Scalar.muli arg20 c4_i32_41
  let c1_i32_42 : BitVec 32 := 1#32
  let v65 : BitVec 32 := Scalar.addi v64 c1_i32_42
  let c32_i32_90 : BitVec 32 := 32#32
  let v128 : BitVec 32 := Scalar.muli v65 c32_i32_90
  let v129 : BitVec 32 := Scalar.addi v1 v128
  let c4_i32_91 : BitVec 32 := 4#32
  let v130 : BitVec 32 := Scalar.shrui v129 c4_i32_91
  let c15_i32_92 : BitVec 32 := 15#32
  let v131 : BitVec 32 := Scalar.andi v129 c15_i32_92
  let c8_i32_93 : BitVec 32 := 8#32
  let v132 : BitVec 32 := Scalar.muli v131 c8_i32_93
  let c0_i32_94 : BitVec 32 := 0#32
  ![v130.toNat, v132.toNat, 0]
def k0_cond9 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_19 : BitVec 32 := 0#32
  let c1_i32 : BitVec 32 := 1#32
  let arg20 : BitVec 32 := Scf.iv c0_i32_19 c1_i32 k0_t1
  let c4_i32_56 : BitVec 32 := 4#32
  let v85 : BitVec 32 := Scalar.muli arg20 c4_i32_56
  let c2_i32_57 : BitVec 32 := 2#32
  let v86 : BitVec 32 := Scalar.addi v85 c2_i32_57
  let c32_i32_58 : BitVec 32 := 32#32
  let v87 : BitVec 32 := Scalar.muli v86 c32_i32_58
  let v88 : BitVec 32 := Scalar.addi v1 v87
  let c96_i32_62 : BitVec 32 := 96#32
  let v92 : BitVec 32 := Scalar.addi v88 c96_i32_62
  let c1584_i32_63 : BitVec 32 := 1584#32
  let v93 : BitVec 1 := Scalar.cmpi .slt v92 c1584_i32_63
  let v94 : BitVec 32 := Scalar.extui v93
  let c0_i32_64 : BitVec 32 := 0#32
  let v95 : BitVec 1 := Scalar.cmpi .ne v94 c0_i32_64
  v95

def k0_off202 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_19 : BitVec 32 := 0#32
  let c1_i32 : BitVec 32 := 1#32
  let arg20 : BitVec 32 := Scf.iv c0_i32_19 c1_i32 k0_t1
  let c4_i32_56 : BitVec 32 := 4#32
  let v85 : BitVec 32 := Scalar.muli arg20 c4_i32_56
  let c2_i32_57 : BitVec 32 := 2#32
  let v86 : BitVec 32 := Scalar.addi v85 c2_i32_57
  let c4_i32_85 : BitVec 32 := 4#32
  let v127 : BitVec 32 := Scalar.addi v86 c4_i32_85
  let c1_i32_86 : BitVec 32 := 1#32
  let v128 : BitVec 32 := Scalar.subi v127 c1_i32_86
  let c32_i32_87 : BitVec 32 := 32#32
  let v129 : BitVec 32 := Scalar.muli v128 c32_i32_87
  let v130 : BitVec 32 := Scalar.addi v1 v129
  let c4_i32_88 : BitVec 32 := 4#32
  let v131 : BitVec 32 := Scalar.shrui v130 c4_i32_88
  let c0_i32_91 : BitVec 32 := 0#32
  let c15_i32_89 : BitVec 32 := 15#32
  let v132 : BitVec 32 := Scalar.andi v130 c15_i32_89
  let c8_i32_90 : BitVec 32 := 8#32
  let v133 : BitVec 32 := Scalar.muli v132 c8_i32_90
  let c0_i32_92 : BitVec 32 := 0#32
  ![v131.toNat, 0, v133.toNat, 0]
def k0_cond10 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_19 : BitVec 32 := 0#32
  let c1_i32 : BitVec 32 := 1#32
  let arg20 : BitVec 32 := Scf.iv c0_i32_19 c1_i32 k0_t1
  let c4_i32_56 : BitVec 32 := 4#32
  let v85 : BitVec 32 := Scalar.muli arg20 c4_i32_56
  let c2_i32_57 : BitVec 32 := 2#32
  let v86 : BitVec 32 := Scalar.addi v85 c2_i32_57
  let c32_i32_58 : BitVec 32 := 32#32
  let v87 : BitVec 32 := Scalar.muli v86 c32_i32_58
  let v88 : BitVec 32 := Scalar.addi v1 v87
  let c1584_i32_59 : BitVec 32 := 1584#32
  let v89 : BitVec 1 := Scalar.cmpi .slt v88 c1584_i32_59
  let v96 : BitVec 32 := Scalar.extui v89
  let c0_i32_65 : BitVec 32 := 0#32
  let v97 : BitVec 1 := Scalar.cmpi .ne v96 c0_i32_65
  v97

def k0_off203 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_19 : BitVec 32 := 0#32
  let c1_i32 : BitVec 32 := 1#32
  let arg20 : BitVec 32 := Scf.iv c0_i32_19 c1_i32 k0_t1
  let c4_i32_56 : BitVec 32 := 4#32
  let v85 : BitVec 32 := Scalar.muli arg20 c4_i32_56
  let c2_i32_57 : BitVec 32 := 2#32
  let v86 : BitVec 32 := Scalar.addi v85 c2_i32_57
  let c32_i32_85 : BitVec 32 := 32#32
  let v127 : BitVec 32 := Scalar.muli v86 c32_i32_85
  let v128 : BitVec 32 := Scalar.addi v1 v127
  let c4_i32_86 : BitVec 32 := 4#32
  let v129 : BitVec 32 := Scalar.shrui v128 c4_i32_86
  let c0_i32_89 : BitVec 32 := 0#32
  let c15_i32_87 : BitVec 32 := 15#32
  let v130 : BitVec 32 := Scalar.andi v128 c15_i32_87
  let c8_i32_88 : BitVec 32 := 8#32
  let v131 : BitVec 32 := Scalar.muli v130 c8_i32_88
  let c0_i32_90 : BitVec 32 := 0#32
  ![v129.toNat, 0, v131.toNat, 0]
def k0_cond11 (i : grid0.Coords) (k0_t1 : Fin k0_t1_loop.trips) : BitVec 1 :=
  let c0_i32_19 : BitVec 32 := 0#32
  let c1_i32 : BitVec 32 := 1#32
  let arg20 : BitVec 32 := Scf.iv c0_i32_19 c1_i32 k0_t1
  let c4_i32_56 : BitVec 32 := 4#32
  let v85 : BitVec 32 := Scalar.muli arg20 c4_i32_56
  let c2_i32_57 : BitVec 32 := 2#32
  let v86 : BitVec 32 := Scalar.addi v85 c2_i32_57
  let c4_i32_66 : BitVec 32 := 4#32
  let v98 : BitVec 1 := Scalar.cmpi .sge v86 c4_i32_66
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_58 : BitVec 32 := 32#32
  let v87 : BitVec 32 := Scalar.muli v86 c32_i32_58
  let v88 : BitVec 32 := Scalar.addi v1 v87
  let c128_i32_67 : BitVec 32 := 128#32
  let v99 : BitVec 32 := Scalar.subi v88 c128_i32_67
  let c1584_i32_68 : BitVec 32 := 1584#32
  let v100 : BitVec 1 := Scalar.cmpi .slt v99 c1584_i32_68
  let v101 : BitVec 1 := Scalar.andi v98 v100
  let v102 : BitVec 32 := Scalar.extui v101
  let c0_i32_69 : BitVec 32 := 0#32
  let v103 : BitVec 1 := Scalar.cmpi .ne v102 c0_i32_69
  v103

def k0_off204 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_19 : BitVec 32 := 0#32
  let c1_i32 : BitVec 32 := 1#32
  let arg20 : BitVec 32 := Scf.iv c0_i32_19 c1_i32 k0_t1
  let c4_i32_56 : BitVec 32 := 4#32
  let v85 : BitVec 32 := Scalar.muli arg20 c4_i32_56
  let c2_i32_57 : BitVec 32 := 2#32
  let v86 : BitVec 32 := Scalar.addi v85 c2_i32_57
  let c4_i32_60 : BitVec 32 := 4#32
  let v90 : BitVec 32 := Scalar.subi v86 c4_i32_60
  let c0_i32_61 : BitVec 32 := 0#32
  let v91 : BitVec 32 := Scalar.maxsi v90 c0_i32_61
  let c32_i32_85 : BitVec 32 := 32#32
  let v127 : BitVec 32 := Scalar.muli v91 c32_i32_85
  let v128 : BitVec 32 := Scalar.addi v1 v127
  let c4_i32_86 : BitVec 32 := 4#32
  let v129 : BitVec 32 := Scalar.shrui v128 c4_i32_86
  let c15_i32_87 : BitVec 32 := 15#32
  let v130 : BitVec 32 := Scalar.andi v128 c15_i32_87
  let c8_i32_88 : BitVec 32 := 8#32
  let v131 : BitVec 32 := Scalar.muli v130 c8_i32_88
  let c0_i32_89 : BitVec 32 := 0#32
  ![v129.toNat, v131.toNat, 0]
def k0_cond12 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_19 : BitVec 32 := 0#32
  let c1_i32 : BitVec 32 := 1#32
  let arg20 : BitVec 32 := Scf.iv c0_i32_19 c1_i32 k0_t1
  let c4_i32_56 : BitVec 32 := 4#32
  let v85 : BitVec 32 := Scalar.muli arg20 c4_i32_56
  let c2_i32_57 : BitVec 32 := 2#32
  let v86 : BitVec 32 := Scalar.addi v85 c2_i32_57
  let c32_i32_58 : BitVec 32 := 32#32
  let v87 : BitVec 32 := Scalar.muli v86 c32_i32_58
  let v88 : BitVec 32 := Scalar.addi v1 v87
  let c1584_i32_59 : BitVec 32 := 1584#32
  let v89 : BitVec 1 := Scalar.cmpi .slt v88 c1584_i32_59
  let v104 : BitVec 32 := Scalar.extui v89
  let c0_i32_70 : BitVec 32 := 0#32
  let v105 : BitVec 1 := Scalar.cmpi .ne v104 c0_i32_70
  v105

@[reducible] def k0_t4_loop : Scf.Loop 32 :=
  let c0_i32_86 : BitVec 32 := 0#32
  let c8_i32_87 : BitVec 32 := 8#32
  let v127 : BitVec 32 := Scalar.addi c0_i32_86 c8_i32_87
  let c1_i32_88 : BitVec 32 := 1#32
  ⟨c0_i32_86, v127, c1_i32_88⟩
def k0_off205 (k0_t4 : Fin k0_t4_loop.trips) : Fin 3 → Nat :=
  let c0_i32_96 : BitVec 32 := 0#32
  let v137 : Index := Scalar.indexCast c0_i32_96
  let c0_i32_86 : BitVec 32 := 0#32
  let c1_i32_88 : BitVec 32 := 1#32
  let arg21 : BitVec 32 := Scf.iv c0_i32_86 c1_i32_88 k0_t4
  let v138 : Index := Scalar.indexCast arg21
  let c0 : Index := 0#32
  ![0, v138.toNat, 0]
def k0_off206 (k0_t4 : Fin k0_t4_loop.trips) : Fin 3 → Nat :=
  let c1_i32_97 : BitVec 32 := 1#32
  let v140 : Index := Scalar.indexCast c1_i32_97
  let c0_i32_86 : BitVec 32 := 0#32
  let c1_i32_88 : BitVec 32 := 1#32
  let arg21 : BitVec 32 := Scf.iv c0_i32_86 c1_i32_88 k0_t4
  let v141 : Index := Scalar.indexCast arg21
  let c0_98 : Index := 0#32
  ![1, v141.toNat, 0]
def k0_off207 (k0_t4 : Fin k0_t4_loop.trips) : Fin 2 → Nat :=
  let c0_i32_86 : BitVec 32 := 0#32
  let c1_i32_88 : BitVec 32 := 1#32
  let arg21 : BitVec 32 := Scf.iv c0_i32_86 c1_i32_88 k0_t4
  let v144 : Index := Scalar.indexCast arg21
  let c0_99 : Index := 0#32
  ![v144.toNat, 0]
def k0_off208 (k0_t4 : Fin k0_t4_loop.trips) : Fin 3 → Nat :=
  let c0_i32_100 : BitVec 32 := 0#32
  let v146 : Index := Scalar.indexCast c0_i32_100
  let c0_i32_86 : BitVec 32 := 0#32
  let c1_i32_88 : BitVec 32 := 1#32
  let arg21 : BitVec 32 := Scf.iv c0_i32_86 c1_i32_88 k0_t4
  let v147 : Index := Scalar.indexCast arg21
  let c16 : Index := 16#32
  ![0, v147.toNat, 16]
def k0_off209 (k0_t4 : Fin k0_t4_loop.trips) : Fin 3 → Nat :=
  let c1_i32_101 : BitVec 32 := 1#32
  let v149 : Index := Scalar.indexCast c1_i32_101
  let c0_i32_86 : BitVec 32 := 0#32
  let c1_i32_88 : BitVec 32 := 1#32
  let arg21 : BitVec 32 := Scf.iv c0_i32_86 c1_i32_88 k0_t4
  let v150 : Index := Scalar.indexCast arg21
  let c16_102 : Index := 16#32
  ![1, v150.toNat, 16]
def k0_off210 (k0_t4 : Fin k0_t4_loop.trips) : Fin 2 → Nat :=
  let c0_i32_86 : BitVec 32 := 0#32
  let c1_i32_88 : BitVec 32 := 1#32
  let arg21 : BitVec 32 := Scf.iv c0_i32_86 c1_i32_88 k0_t4
  let v153 : Index := Scalar.indexCast arg21
  let c16_103 : Index := 16#32
  ![v153.toNat, 16]
def k0_off211 (k0_t4 : Fin k0_t4_loop.trips) : Fin 3 → Nat :=
  let c0_i32_104 : BitVec 32 := 0#32
  let v155 : Index := Scalar.indexCast c0_i32_104
  let c0_i32_86 : BitVec 32 := 0#32
  let c1_i32_88 : BitVec 32 := 1#32
  let arg21 : BitVec 32 := Scf.iv c0_i32_86 c1_i32_88 k0_t4
  let v156 : Index := Scalar.indexCast arg21
  let c32 : Index := 32#32
  ![0, v156.toNat, 32]
def k0_off212 (k0_t4 : Fin k0_t4_loop.trips) : Fin 3 → Nat :=
  let c1_i32_105 : BitVec 32 := 1#32
  let v158 : Index := Scalar.indexCast c1_i32_105
  let c0_i32_86 : BitVec 32 := 0#32
  let c1_i32_88 : BitVec 32 := 1#32
  let arg21 : BitVec 32 := Scf.iv c0_i32_86 c1_i32_88 k0_t4
  let v159 : Index := Scalar.indexCast arg21
  let c32_106 : Index := 32#32
  ![1, v159.toNat, 32]
def k0_off213 (k0_t4 : Fin k0_t4_loop.trips) : Fin 2 → Nat :=
  let c0_i32_86 : BitVec 32 := 0#32
  let c1_i32_88 : BitVec 32 := 1#32
  let arg21 : BitVec 32 := Scf.iv c0_i32_86 c1_i32_88 k0_t4
  let v162 : Index := Scalar.indexCast arg21
  let c32_107 : Index := 32#32
  ![v162.toNat, 32]
def k0_off214 (k0_t4 : Fin k0_t4_loop.trips) : Fin 3 → Nat :=
  let c0_i32_108 : BitVec 32 := 0#32
  let v164 : Index := Scalar.indexCast c0_i32_108
  let c0_i32_86 : BitVec 32 := 0#32
  let c1_i32_88 : BitVec 32 := 1#32
  let arg21 : BitVec 32 := Scf.iv c0_i32_86 c1_i32_88 k0_t4
  let v165 : Index := Scalar.indexCast arg21
  let c48 : Index := 48#32
  ![0, v165.toNat, 48]
def k0_off215 (k0_t4 : Fin k0_t4_loop.trips) : Fin 3 → Nat :=
  let c1_i32_109 : BitVec 32 := 1#32
  let v167 : Index := Scalar.indexCast c1_i32_109
  let c0_i32_86 : BitVec 32 := 0#32
  let c1_i32_88 : BitVec 32 := 1#32
  let arg21 : BitVec 32 := Scf.iv c0_i32_86 c1_i32_88 k0_t4
  let v168 : Index := Scalar.indexCast arg21
  let c48_110 : Index := 48#32
  ![1, v168.toNat, 48]
def k0_off216 (k0_t4 : Fin k0_t4_loop.trips) : Fin 2 → Nat :=
  let c0_i32_86 : BitVec 32 := 0#32
  let c1_i32_88 : BitVec 32 := 1#32
  let arg21 : BitVec 32 := Scf.iv c0_i32_86 c1_i32_88 k0_t4
  let v171 : Index := Scalar.indexCast arg21
  let c48_111 : Index := 48#32
  ![v171.toNat, 48]
def k0_off217 (k0_t4 : Fin k0_t4_loop.trips) : Fin 3 → Nat :=
  let c0_i32_112 : BitVec 32 := 0#32
  let v173 : Index := Scalar.indexCast c0_i32_112
  let c0_i32_86 : BitVec 32 := 0#32
  let c1_i32_88 : BitVec 32 := 1#32
  let arg21 : BitVec 32 := Scf.iv c0_i32_86 c1_i32_88 k0_t4
  let v174 : Index := Scalar.indexCast arg21
  let c64 : Index := 64#32
  ![0, v174.toNat, 64]
def k0_off218 (k0_t4 : Fin k0_t4_loop.trips) : Fin 3 → Nat :=
  let c1_i32_113 : BitVec 32 := 1#32
  let v176 : Index := Scalar.indexCast c1_i32_113
  let c0_i32_86 : BitVec 32 := 0#32
  let c1_i32_88 : BitVec 32 := 1#32
  let arg21 : BitVec 32 := Scf.iv c0_i32_86 c1_i32_88 k0_t4
  let v177 : Index := Scalar.indexCast arg21
  let c64_114 : Index := 64#32
  ![1, v177.toNat, 64]
def k0_off219 (k0_t4 : Fin k0_t4_loop.trips) : Fin 2 → Nat :=
  let c0_i32_86 : BitVec 32 := 0#32
  let c1_i32_88 : BitVec 32 := 1#32
  let arg21 : BitVec 32 := Scf.iv c0_i32_86 c1_i32_88 k0_t4
  let v180 : Index := Scalar.indexCast arg21
  let c64_115 : Index := 64#32
  ![v180.toNat, 64]
def k0_off220 (k0_t4 : Fin k0_t4_loop.trips) : Fin 3 → Nat :=
  let c0_i32_116 : BitVec 32 := 0#32
  let v182 : Index := Scalar.indexCast c0_i32_116
  let c0_i32_86 : BitVec 32 := 0#32
  let c1_i32_88 : BitVec 32 := 1#32
  let arg21 : BitVec 32 := Scf.iv c0_i32_86 c1_i32_88 k0_t4
  let v183 : Index := Scalar.indexCast arg21
  let c80 : Index := 80#32
  ![0, v183.toNat, 80]
def k0_off221 (k0_t4 : Fin k0_t4_loop.trips) : Fin 3 → Nat :=
  let c1_i32_117 : BitVec 32 := 1#32
  let v185 : Index := Scalar.indexCast c1_i32_117
  let c0_i32_86 : BitVec 32 := 0#32
  let c1_i32_88 : BitVec 32 := 1#32
  let arg21 : BitVec 32 := Scf.iv c0_i32_86 c1_i32_88 k0_t4
  let v186 : Index := Scalar.indexCast arg21
  let c80_118 : Index := 80#32
  ![1, v186.toNat, 80]
def k0_off222 (k0_t4 : Fin k0_t4_loop.trips) : Fin 2 → Nat :=
  let c0_i32_86 : BitVec 32 := 0#32
  let c1_i32_88 : BitVec 32 := 1#32
  let arg21 : BitVec 32 := Scf.iv c0_i32_86 c1_i32_88 k0_t4
  let v189 : Index := Scalar.indexCast arg21
  let c80_119 : Index := 80#32
  ![v189.toNat, 80]
def k0_off223 (k0_t4 : Fin k0_t4_loop.trips) : Fin 3 → Nat :=
  let c0_i32_120 : BitVec 32 := 0#32
  let v191 : Index := Scalar.indexCast c0_i32_120
  let c0_i32_86 : BitVec 32 := 0#32
  let c1_i32_88 : BitVec 32 := 1#32
  let arg21 : BitVec 32 := Scf.iv c0_i32_86 c1_i32_88 k0_t4
  let v192 : Index := Scalar.indexCast arg21
  let c96 : Index := 96#32
  ![0, v192.toNat, 96]
def k0_off224 (k0_t4 : Fin k0_t4_loop.trips) : Fin 3 → Nat :=
  let c1_i32_121 : BitVec 32 := 1#32
  let v194 : Index := Scalar.indexCast c1_i32_121
  let c0_i32_86 : BitVec 32 := 0#32
  let c1_i32_88 : BitVec 32 := 1#32
  let arg21 : BitVec 32 := Scf.iv c0_i32_86 c1_i32_88 k0_t4
  let v195 : Index := Scalar.indexCast arg21
  let c96_122 : Index := 96#32
  ![1, v195.toNat, 96]
def k0_off225 (k0_t4 : Fin k0_t4_loop.trips) : Fin 2 → Nat :=
  let c0_i32_86 : BitVec 32 := 0#32
  let c1_i32_88 : BitVec 32 := 1#32
  let arg21 : BitVec 32 := Scf.iv c0_i32_86 c1_i32_88 k0_t4
  let v198 : Index := Scalar.indexCast arg21
  let c96_123 : Index := 96#32
  ![v198.toNat, 96]
def k0_off226 (k0_t4 : Fin k0_t4_loop.trips) : Fin 3 → Nat :=
  let c0_i32_124 : BitVec 32 := 0#32
  let v200 : Index := Scalar.indexCast c0_i32_124
  let c0_i32_86 : BitVec 32 := 0#32
  let c1_i32_88 : BitVec 32 := 1#32
  let arg21 : BitVec 32 := Scf.iv c0_i32_86 c1_i32_88 k0_t4
  let v201 : Index := Scalar.indexCast arg21
  let c112 : Index := 112#32
  ![0, v201.toNat, 112]
def k0_off227 (k0_t4 : Fin k0_t4_loop.trips) : Fin 3 → Nat :=
  let c1_i32_125 : BitVec 32 := 1#32
  let v203 : Index := Scalar.indexCast c1_i32_125
  let c0_i32_86 : BitVec 32 := 0#32
  let c1_i32_88 : BitVec 32 := 1#32
  let arg21 : BitVec 32 := Scf.iv c0_i32_86 c1_i32_88 k0_t4
  let v204 : Index := Scalar.indexCast arg21
  let c112_126 : Index := 112#32
  ![1, v204.toNat, 112]
def k0_off228 (k0_t4 : Fin k0_t4_loop.trips) : Fin 2 → Nat :=
  let c0_i32_86 : BitVec 32 := 0#32
  let c1_i32_88 : BitVec 32 := 1#32
  let arg21 : BitVec 32 := Scf.iv c0_i32_86 c1_i32_88 k0_t4
  let v207 : Index := Scalar.indexCast arg21
  let c112_127 : Index := 112#32
  ![v207.toNat, 112]
def k0_off229 (k0_t4 : Fin k0_t4_loop.trips) : Fin 3 → Nat :=
  let c0_i32_128 : BitVec 32 := 0#32
  let v209 : Index := Scalar.indexCast c0_i32_128
  let c0_i32_86 : BitVec 32 := 0#32
  let c1_i32_88 : BitVec 32 := 1#32
  let arg21 : BitVec 32 := Scf.iv c0_i32_86 c1_i32_88 k0_t4
  let v210 : Index := Scalar.indexCast arg21
  let c128 : Index := 128#32
  ![0, v210.toNat, 128]
def k0_off230 (k0_t4 : Fin k0_t4_loop.trips) : Fin 3 → Nat :=
  let c1_i32_129 : BitVec 32 := 1#32
  let v212 : Index := Scalar.indexCast c1_i32_129
  let c0_i32_86 : BitVec 32 := 0#32
  let c1_i32_88 : BitVec 32 := 1#32
  let arg21 : BitVec 32 := Scf.iv c0_i32_86 c1_i32_88 k0_t4
  let v213 : Index := Scalar.indexCast arg21
  let c128_130 : Index := 128#32
  ![1, v213.toNat, 128]
def k0_off231 (k0_t4 : Fin k0_t4_loop.trips) : Fin 2 → Nat :=
  let c0_i32_86 : BitVec 32 := 0#32
  let c1_i32_88 : BitVec 32 := 1#32
  let arg21 : BitVec 32 := Scf.iv c0_i32_86 c1_i32_88 k0_t4
  let v216 : Index := Scalar.indexCast arg21
  let c128_131 : Index := 128#32
  ![v216.toNat, 128]
def k0_off232 (k0_t4 : Fin k0_t4_loop.trips) : Fin 3 → Nat :=
  let c0_i32_132 : BitVec 32 := 0#32
  let v218 : Index := Scalar.indexCast c0_i32_132
  let c0_i32_86 : BitVec 32 := 0#32
  let c1_i32_88 : BitVec 32 := 1#32
  let arg21 : BitVec 32 := Scf.iv c0_i32_86 c1_i32_88 k0_t4
  let v219 : Index := Scalar.indexCast arg21
  let c144 : Index := 144#32
  ![0, v219.toNat, 144]
def k0_off233 (k0_t4 : Fin k0_t4_loop.trips) : Fin 3 → Nat :=
  let c1_i32_133 : BitVec 32 := 1#32
  let v221 : Index := Scalar.indexCast c1_i32_133
  let c0_i32_86 : BitVec 32 := 0#32
  let c1_i32_88 : BitVec 32 := 1#32
  let arg21 : BitVec 32 := Scf.iv c0_i32_86 c1_i32_88 k0_t4
  let v222 : Index := Scalar.indexCast arg21
  let c144_134 : Index := 144#32
  ![1, v222.toNat, 144]
def k0_off234 (k0_t4 : Fin k0_t4_loop.trips) : Fin 2 → Nat :=
  let c0_i32_86 : BitVec 32 := 0#32
  let c1_i32_88 : BitVec 32 := 1#32
  let arg21 : BitVec 32 := Scf.iv c0_i32_86 c1_i32_88 k0_t4
  let v225 : Index := Scalar.indexCast arg21
  let c144_135 : Index := 144#32
  ![v225.toNat, 144]
def k0_off235 (k0_t4 : Fin k0_t4_loop.trips) : Fin 3 → Nat :=
  let c0_i32_136 : BitVec 32 := 0#32
  let v227 : Index := Scalar.indexCast c0_i32_136
  let c0_i32_86 : BitVec 32 := 0#32
  let c1_i32_88 : BitVec 32 := 1#32
  let arg21 : BitVec 32 := Scf.iv c0_i32_86 c1_i32_88 k0_t4
  let v228 : Index := Scalar.indexCast arg21
  let c160 : Index := 160#32
  ![0, v228.toNat, 160]
def k0_off236 (k0_t4 : Fin k0_t4_loop.trips) : Fin 3 → Nat :=
  let c1_i32_137 : BitVec 32 := 1#32
  let v230 : Index := Scalar.indexCast c1_i32_137
  let c0_i32_86 : BitVec 32 := 0#32
  let c1_i32_88 : BitVec 32 := 1#32
  let arg21 : BitVec 32 := Scf.iv c0_i32_86 c1_i32_88 k0_t4
  let v231 : Index := Scalar.indexCast arg21
  let c160_138 : Index := 160#32
  ![1, v231.toNat, 160]
def k0_off237 (k0_t4 : Fin k0_t4_loop.trips) : Fin 2 → Nat :=
  let c0_i32_86 : BitVec 32 := 0#32
  let c1_i32_88 : BitVec 32 := 1#32
  let arg21 : BitVec 32 := Scf.iv c0_i32_86 c1_i32_88 k0_t4
  let v234 : Index := Scalar.indexCast arg21
  let c160_139 : Index := 160#32
  ![v234.toNat, 160]
def k0_off238 (k0_t4 : Fin k0_t4_loop.trips) : Fin 3 → Nat :=
  let c0_i32_140 : BitVec 32 := 0#32
  let v236 : Index := Scalar.indexCast c0_i32_140
  let c0_i32_86 : BitVec 32 := 0#32
  let c1_i32_88 : BitVec 32 := 1#32
  let arg21 : BitVec 32 := Scf.iv c0_i32_86 c1_i32_88 k0_t4
  let v237 : Index := Scalar.indexCast arg21
  let c176 : Index := 176#32
  ![0, v237.toNat, 176]
def k0_off239 (k0_t4 : Fin k0_t4_loop.trips) : Fin 3 → Nat :=
  let c1_i32_141 : BitVec 32 := 1#32
  let v239 : Index := Scalar.indexCast c1_i32_141
  let c0_i32_86 : BitVec 32 := 0#32
  let c1_i32_88 : BitVec 32 := 1#32
  let arg21 : BitVec 32 := Scf.iv c0_i32_86 c1_i32_88 k0_t4
  let v240 : Index := Scalar.indexCast arg21
  let c176_142 : Index := 176#32
  ![1, v240.toNat, 176]
def k0_off240 (k0_t4 : Fin k0_t4_loop.trips) : Fin 2 → Nat :=
  let c0_i32_86 : BitVec 32 := 0#32
  let c1_i32_88 : BitVec 32 := 1#32
  let arg21 : BitVec 32 := Scf.iv c0_i32_86 c1_i32_88 k0_t4
  let v243 : Index := Scalar.indexCast arg21
  let c176_143 : Index := 176#32
  ![v243.toNat, 176]
def k0_off241 (k0_t4 : Fin k0_t4_loop.trips) : Fin 3 → Nat :=
  let c0_i32_144 : BitVec 32 := 0#32
  let v245 : Index := Scalar.indexCast c0_i32_144
  let c0_i32_86 : BitVec 32 := 0#32
  let c1_i32_88 : BitVec 32 := 1#32
  let arg21 : BitVec 32 := Scf.iv c0_i32_86 c1_i32_88 k0_t4
  let v246 : Index := Scalar.indexCast arg21
  let c192 : Index := 192#32
  ![0, v246.toNat, 192]
def k0_off242 (k0_t4 : Fin k0_t4_loop.trips) : Fin 3 → Nat :=
  let c1_i32_145 : BitVec 32 := 1#32
  let v248 : Index := Scalar.indexCast c1_i32_145
  let c0_i32_86 : BitVec 32 := 0#32
  let c1_i32_88 : BitVec 32 := 1#32
  let arg21 : BitVec 32 := Scf.iv c0_i32_86 c1_i32_88 k0_t4
  let v249 : Index := Scalar.indexCast arg21
  let c192_146 : Index := 192#32
  ![1, v249.toNat, 192]
def k0_off243 (k0_t4 : Fin k0_t4_loop.trips) : Fin 2 → Nat :=
  let c0_i32_86 : BitVec 32 := 0#32
  let c1_i32_88 : BitVec 32 := 1#32
  let arg21 : BitVec 32 := Scf.iv c0_i32_86 c1_i32_88 k0_t4
  let v252 : Index := Scalar.indexCast arg21
  let c192_147 : Index := 192#32
  ![v252.toNat, 192]
def k0_off244 (k0_t4 : Fin k0_t4_loop.trips) : Fin 3 → Nat :=
  let c0_i32_148 : BitVec 32 := 0#32
  let v254 : Index := Scalar.indexCast c0_i32_148
  let c0_i32_86 : BitVec 32 := 0#32
  let c1_i32_88 : BitVec 32 := 1#32
  let arg21 : BitVec 32 := Scf.iv c0_i32_86 c1_i32_88 k0_t4
  let v255 : Index := Scalar.indexCast arg21
  let c208 : Index := 208#32
  ![0, v255.toNat, 208]
def k0_off245 (k0_t4 : Fin k0_t4_loop.trips) : Fin 3 → Nat :=
  let c1_i32_149 : BitVec 32 := 1#32
  let v257 : Index := Scalar.indexCast c1_i32_149
  let c0_i32_86 : BitVec 32 := 0#32
  let c1_i32_88 : BitVec 32 := 1#32
  let arg21 : BitVec 32 := Scf.iv c0_i32_86 c1_i32_88 k0_t4
  let v258 : Index := Scalar.indexCast arg21
  let c208_150 : Index := 208#32
  ![1, v258.toNat, 208]
def k0_off246 (k0_t4 : Fin k0_t4_loop.trips) : Fin 2 → Nat :=
  let c0_i32_86 : BitVec 32 := 0#32
  let c1_i32_88 : BitVec 32 := 1#32
  let arg21 : BitVec 32 := Scf.iv c0_i32_86 c1_i32_88 k0_t4
  let v261 : Index := Scalar.indexCast arg21
  let c208_151 : Index := 208#32
  ![v261.toNat, 208]
def k0_off247 (k0_t4 : Fin k0_t4_loop.trips) : Fin 3 → Nat :=
  let c0_i32_152 : BitVec 32 := 0#32
  let v263 : Index := Scalar.indexCast c0_i32_152
  let c0_i32_86 : BitVec 32 := 0#32
  let c1_i32_88 : BitVec 32 := 1#32
  let arg21 : BitVec 32 := Scf.iv c0_i32_86 c1_i32_88 k0_t4
  let v264 : Index := Scalar.indexCast arg21
  let c224 : Index := 224#32
  ![0, v264.toNat, 224]
def k0_off248 (k0_t4 : Fin k0_t4_loop.trips) : Fin 3 → Nat :=
  let c1_i32_153 : BitVec 32 := 1#32
  let v266 : Index := Scalar.indexCast c1_i32_153
  let c0_i32_86 : BitVec 32 := 0#32
  let c1_i32_88 : BitVec 32 := 1#32
  let arg21 : BitVec 32 := Scf.iv c0_i32_86 c1_i32_88 k0_t4
  let v267 : Index := Scalar.indexCast arg21
  let c224_154 : Index := 224#32
  ![1, v267.toNat, 224]
def k0_off249 (k0_t4 : Fin k0_t4_loop.trips) : Fin 2 → Nat :=
  let c0_i32_86 : BitVec 32 := 0#32
  let c1_i32_88 : BitVec 32 := 1#32
  let arg21 : BitVec 32 := Scf.iv c0_i32_86 c1_i32_88 k0_t4
  let v270 : Index := Scalar.indexCast arg21
  let c224_155 : Index := 224#32
  ![v270.toNat, 224]
def k0_off250 (k0_t4 : Fin k0_t4_loop.trips) : Fin 3 → Nat :=
  let c0_i32_156 : BitVec 32 := 0#32
  let v272 : Index := Scalar.indexCast c0_i32_156
  let c0_i32_86 : BitVec 32 := 0#32
  let c1_i32_88 : BitVec 32 := 1#32
  let arg21 : BitVec 32 := Scf.iv c0_i32_86 c1_i32_88 k0_t4
  let v273 : Index := Scalar.indexCast arg21
  let c240 : Index := 240#32
  ![0, v273.toNat, 240]
def k0_off251 (k0_t4 : Fin k0_t4_loop.trips) : Fin 3 → Nat :=
  let c1_i32_157 : BitVec 32 := 1#32
  let v275 : Index := Scalar.indexCast c1_i32_157
  let c0_i32_86 : BitVec 32 := 0#32
  let c1_i32_88 : BitVec 32 := 1#32
  let arg21 : BitVec 32 := Scf.iv c0_i32_86 c1_i32_88 k0_t4
  let v276 : Index := Scalar.indexCast arg21
  let c240_158 : Index := 240#32
  ![1, v276.toNat, 240]
def k0_off252 (k0_t4 : Fin k0_t4_loop.trips) : Fin 2 → Nat :=
  let c0_i32_86 : BitVec 32 := 0#32
  let c1_i32_88 : BitVec 32 := 1#32
  let arg21 : BitVec 32 := Scf.iv c0_i32_86 c1_i32_88 k0_t4
  let v279 : Index := Scalar.indexCast arg21
  let c240_159 : Index := 240#32
  ![v279.toNat, 240]
def k0_off253 (k0_t4 : Fin k0_t4_loop.trips) : Fin 3 → Nat :=
  let c0_i32_160 : BitVec 32 := 0#32
  let v281 : Index := Scalar.indexCast c0_i32_160
  let c0_i32_86 : BitVec 32 := 0#32
  let c1_i32_88 : BitVec 32 := 1#32
  let arg21 : BitVec 32 := Scf.iv c0_i32_86 c1_i32_88 k0_t4
  let v282 : Index := Scalar.indexCast arg21
  let c256 : Index := 256#32
  ![0, v282.toNat, 256]
def k0_off254 (k0_t4 : Fin k0_t4_loop.trips) : Fin 3 → Nat :=
  let c1_i32_161 : BitVec 32 := 1#32
  let v284 : Index := Scalar.indexCast c1_i32_161
  let c0_i32_86 : BitVec 32 := 0#32
  let c1_i32_88 : BitVec 32 := 1#32
  let arg21 : BitVec 32 := Scf.iv c0_i32_86 c1_i32_88 k0_t4
  let v285 : Index := Scalar.indexCast arg21
  let c256_162 : Index := 256#32
  ![1, v285.toNat, 256]
def k0_off255 (k0_t4 : Fin k0_t4_loop.trips) : Fin 2 → Nat :=
  let c0_i32_86 : BitVec 32 := 0#32
  let c1_i32_88 : BitVec 32 := 1#32
  let arg21 : BitVec 32 := Scf.iv c0_i32_86 c1_i32_88 k0_t4
  let v288 : Index := Scalar.indexCast arg21
  let c256_163 : Index := 256#32
  ![v288.toNat, 256]
def k0_off256 (k0_t4 : Fin k0_t4_loop.trips) : Fin 3 → Nat :=
  let c0_i32_164 : BitVec 32 := 0#32
  let v290 : Index := Scalar.indexCast c0_i32_164
  let c0_i32_86 : BitVec 32 := 0#32
  let c1_i32_88 : BitVec 32 := 1#32
  let arg21 : BitVec 32 := Scf.iv c0_i32_86 c1_i32_88 k0_t4
  let v291 : Index := Scalar.indexCast arg21
  let c272 : Index := 272#32
  ![0, v291.toNat, 272]
def k0_off257 (k0_t4 : Fin k0_t4_loop.trips) : Fin 3 → Nat :=
  let c1_i32_165 : BitVec 32 := 1#32
  let v293 : Index := Scalar.indexCast c1_i32_165
  let c0_i32_86 : BitVec 32 := 0#32
  let c1_i32_88 : BitVec 32 := 1#32
  let arg21 : BitVec 32 := Scf.iv c0_i32_86 c1_i32_88 k0_t4
  let v294 : Index := Scalar.indexCast arg21
  let c272_166 : Index := 272#32
  ![1, v294.toNat, 272]
def k0_off258 (k0_t4 : Fin k0_t4_loop.trips) : Fin 2 → Nat :=
  let c0_i32_86 : BitVec 32 := 0#32
  let c1_i32_88 : BitVec 32 := 1#32
  let arg21 : BitVec 32 := Scf.iv c0_i32_86 c1_i32_88 k0_t4
  let v297 : Index := Scalar.indexCast arg21
  let c272_167 : Index := 272#32
  ![v297.toNat, 272]
def k0_off259 (k0_t4 : Fin k0_t4_loop.trips) : Fin 3 → Nat :=
  let c0_i32_168 : BitVec 32 := 0#32
  let v299 : Index := Scalar.indexCast c0_i32_168
  let c0_i32_86 : BitVec 32 := 0#32
  let c1_i32_88 : BitVec 32 := 1#32
  let arg21 : BitVec 32 := Scf.iv c0_i32_86 c1_i32_88 k0_t4
  let v300 : Index := Scalar.indexCast arg21
  let c288 : Index := 288#32
  ![0, v300.toNat, 288]
def k0_off260 (k0_t4 : Fin k0_t4_loop.trips) : Fin 3 → Nat :=
  let c1_i32_169 : BitVec 32 := 1#32
  let v302 : Index := Scalar.indexCast c1_i32_169
  let c0_i32_86 : BitVec 32 := 0#32
  let c1_i32_88 : BitVec 32 := 1#32
  let arg21 : BitVec 32 := Scf.iv c0_i32_86 c1_i32_88 k0_t4
  let v303 : Index := Scalar.indexCast arg21
  let c288_170 : Index := 288#32
  ![1, v303.toNat, 288]
def k0_off261 (k0_t4 : Fin k0_t4_loop.trips) : Fin 2 → Nat :=
  let c0_i32_86 : BitVec 32 := 0#32
  let c1_i32_88 : BitVec 32 := 1#32
  let arg21 : BitVec 32 := Scf.iv c0_i32_86 c1_i32_88 k0_t4
  let v306 : Index := Scalar.indexCast arg21
  let c288_171 : Index := 288#32
  ![v306.toNat, 288]
def k0_off262 (k0_t4 : Fin k0_t4_loop.trips) : Fin 3 → Nat :=
  let c0_i32_172 : BitVec 32 := 0#32
  let v308 : Index := Scalar.indexCast c0_i32_172
  let c0_i32_86 : BitVec 32 := 0#32
  let c1_i32_88 : BitVec 32 := 1#32
  let arg21 : BitVec 32 := Scf.iv c0_i32_86 c1_i32_88 k0_t4
  let v309 : Index := Scalar.indexCast arg21
  let c304 : Index := 304#32
  ![0, v309.toNat, 304]
def k0_off263 (k0_t4 : Fin k0_t4_loop.trips) : Fin 3 → Nat :=
  let c1_i32_173 : BitVec 32 := 1#32
  let v311 : Index := Scalar.indexCast c1_i32_173
  let c0_i32_86 : BitVec 32 := 0#32
  let c1_i32_88 : BitVec 32 := 1#32
  let arg21 : BitVec 32 := Scf.iv c0_i32_86 c1_i32_88 k0_t4
  let v312 : Index := Scalar.indexCast arg21
  let c304_174 : Index := 304#32
  ![1, v312.toNat, 304]
def k0_off264 (k0_t4 : Fin k0_t4_loop.trips) : Fin 2 → Nat :=
  let c0_i32_86 : BitVec 32 := 0#32
  let c1_i32_88 : BitVec 32 := 1#32
  let arg21 : BitVec 32 := Scf.iv c0_i32_86 c1_i32_88 k0_t4
  let v315 : Index := Scalar.indexCast arg21
  let c304_175 : Index := 304#32
  ![v315.toNat, 304]
def k0_off265 (k0_t4 : Fin k0_t4_loop.trips) : Fin 3 → Nat :=
  let c0_i32_176 : BitVec 32 := 0#32
  let v317 : Index := Scalar.indexCast c0_i32_176
  let c0_i32_86 : BitVec 32 := 0#32
  let c1_i32_88 : BitVec 32 := 1#32
  let arg21 : BitVec 32 := Scf.iv c0_i32_86 c1_i32_88 k0_t4
  let v318 : Index := Scalar.indexCast arg21
  let c320 : Index := 320#32
  ![0, v318.toNat, 320]
def k0_off266 (k0_t4 : Fin k0_t4_loop.trips) : Fin 3 → Nat :=
  let c1_i32_177 : BitVec 32 := 1#32
  let v320 : Index := Scalar.indexCast c1_i32_177
  let c0_i32_86 : BitVec 32 := 0#32
  let c1_i32_88 : BitVec 32 := 1#32
  let arg21 : BitVec 32 := Scf.iv c0_i32_86 c1_i32_88 k0_t4
  let v321 : Index := Scalar.indexCast arg21
  let c320_178 : Index := 320#32
  ![1, v321.toNat, 320]
def k0_off267 (k0_t4 : Fin k0_t4_loop.trips) : Fin 2 → Nat :=
  let c0_i32_86 : BitVec 32 := 0#32
  let c1_i32_88 : BitVec 32 := 1#32
  let arg21 : BitVec 32 := Scf.iv c0_i32_86 c1_i32_88 k0_t4
  let v324 : Index := Scalar.indexCast arg21
  let c320_179 : Index := 320#32
  ![v324.toNat, 320]
def k0_off268 (k0_t4 : Fin k0_t4_loop.trips) : Fin 3 → Nat :=
  let c0_i32_180 : BitVec 32 := 0#32
  let v326 : Index := Scalar.indexCast c0_i32_180
  let c0_i32_86 : BitVec 32 := 0#32
  let c1_i32_88 : BitVec 32 := 1#32
  let arg21 : BitVec 32 := Scf.iv c0_i32_86 c1_i32_88 k0_t4
  let v327 : Index := Scalar.indexCast arg21
  let c336 : Index := 336#32
  ![0, v327.toNat, 336]
def k0_off269 (k0_t4 : Fin k0_t4_loop.trips) : Fin 3 → Nat :=
  let c1_i32_181 : BitVec 32 := 1#32
  let v329 : Index := Scalar.indexCast c1_i32_181
  let c0_i32_86 : BitVec 32 := 0#32
  let c1_i32_88 : BitVec 32 := 1#32
  let arg21 : BitVec 32 := Scf.iv c0_i32_86 c1_i32_88 k0_t4
  let v330 : Index := Scalar.indexCast arg21
  let c336_182 : Index := 336#32
  ![1, v330.toNat, 336]
def k0_off270 (k0_t4 : Fin k0_t4_loop.trips) : Fin 2 → Nat :=
  let c0_i32_86 : BitVec 32 := 0#32
  let c1_i32_88 : BitVec 32 := 1#32
  let arg21 : BitVec 32 := Scf.iv c0_i32_86 c1_i32_88 k0_t4
  let v333 : Index := Scalar.indexCast arg21
  let c336_183 : Index := 336#32
  ![v333.toNat, 336]
def k0_off271 (k0_t4 : Fin k0_t4_loop.trips) : Fin 3 → Nat :=
  let c0_i32_184 : BitVec 32 := 0#32
  let v335 : Index := Scalar.indexCast c0_i32_184
  let c0_i32_86 : BitVec 32 := 0#32
  let c1_i32_88 : BitVec 32 := 1#32
  let arg21 : BitVec 32 := Scf.iv c0_i32_86 c1_i32_88 k0_t4
  let v336 : Index := Scalar.indexCast arg21
  let c352 : Index := 352#32
  ![0, v336.toNat, 352]
def k0_off272 (k0_t4 : Fin k0_t4_loop.trips) : Fin 3 → Nat :=
  let c1_i32_185 : BitVec 32 := 1#32
  let v338 : Index := Scalar.indexCast c1_i32_185
  let c0_i32_86 : BitVec 32 := 0#32
  let c1_i32_88 : BitVec 32 := 1#32
  let arg21 : BitVec 32 := Scf.iv c0_i32_86 c1_i32_88 k0_t4
  let v339 : Index := Scalar.indexCast arg21
  let c352_186 : Index := 352#32
  ![1, v339.toNat, 352]
def k0_off273 (k0_t4 : Fin k0_t4_loop.trips) : Fin 2 → Nat :=
  let c0_i32_86 : BitVec 32 := 0#32
  let c1_i32_88 : BitVec 32 := 1#32
  let arg21 : BitVec 32 := Scf.iv c0_i32_86 c1_i32_88 k0_t4
  let v342 : Index := Scalar.indexCast arg21
  let c352_187 : Index := 352#32
  ![v342.toNat, 352]
def k0_off274 (k0_t4 : Fin k0_t4_loop.trips) : Fin 3 → Nat :=
  let c0_i32_188 : BitVec 32 := 0#32
  let v344 : Index := Scalar.indexCast c0_i32_188
  let c0_i32_86 : BitVec 32 := 0#32
  let c1_i32_88 : BitVec 32 := 1#32
  let arg21 : BitVec 32 := Scf.iv c0_i32_86 c1_i32_88 k0_t4
  let v345 : Index := Scalar.indexCast arg21
  let c368 : Index := 368#32
  ![0, v345.toNat, 368]
def k0_off275 (k0_t4 : Fin k0_t4_loop.trips) : Fin 3 → Nat :=
  let c1_i32_189 : BitVec 32 := 1#32
  let v347 : Index := Scalar.indexCast c1_i32_189
  let c0_i32_86 : BitVec 32 := 0#32
  let c1_i32_88 : BitVec 32 := 1#32
  let arg21 : BitVec 32 := Scf.iv c0_i32_86 c1_i32_88 k0_t4
  let v348 : Index := Scalar.indexCast arg21
  let c368_190 : Index := 368#32
  ![1, v348.toNat, 368]
def k0_off276 (k0_t4 : Fin k0_t4_loop.trips) : Fin 2 → Nat :=
  let c0_i32_86 : BitVec 32 := 0#32
  let c1_i32_88 : BitVec 32 := 1#32
  let arg21 : BitVec 32 := Scf.iv c0_i32_86 c1_i32_88 k0_t4
  let v351 : Index := Scalar.indexCast arg21
  let c368_191 : Index := 368#32
  ![v351.toNat, 368]
def k0_off277 (k0_t4 : Fin k0_t4_loop.trips) : Fin 3 → Nat :=
  let c0_i32_192 : BitVec 32 := 0#32
  let v353 : Index := Scalar.indexCast c0_i32_192
  let c0_i32_86 : BitVec 32 := 0#32
  let c1_i32_88 : BitVec 32 := 1#32
  let arg21 : BitVec 32 := Scf.iv c0_i32_86 c1_i32_88 k0_t4
  let v354 : Index := Scalar.indexCast arg21
  let c384 : Index := 384#32
  ![0, v354.toNat, 384]
def k0_off278 (k0_t4 : Fin k0_t4_loop.trips) : Fin 3 → Nat :=
  let c1_i32_193 : BitVec 32 := 1#32
  let v356 : Index := Scalar.indexCast c1_i32_193
  let c0_i32_86 : BitVec 32 := 0#32
  let c1_i32_88 : BitVec 32 := 1#32
  let arg21 : BitVec 32 := Scf.iv c0_i32_86 c1_i32_88 k0_t4
  let v357 : Index := Scalar.indexCast arg21
  let c384_194 : Index := 384#32
  ![1, v357.toNat, 384]
def k0_off279 (k0_t4 : Fin k0_t4_loop.trips) : Fin 2 → Nat :=
  let c0_i32_86 : BitVec 32 := 0#32
  let c1_i32_88 : BitVec 32 := 1#32
  let arg21 : BitVec 32 := Scf.iv c0_i32_86 c1_i32_88 k0_t4
  let v360 : Index := Scalar.indexCast arg21
  let c384_195 : Index := 384#32
  ![v360.toNat, 384]
def k0_off280 (k0_t4 : Fin k0_t4_loop.trips) : Fin 3 → Nat :=
  let c0_i32_196 : BitVec 32 := 0#32
  let v362 : Index := Scalar.indexCast c0_i32_196
  let c0_i32_86 : BitVec 32 := 0#32
  let c1_i32_88 : BitVec 32 := 1#32
  let arg21 : BitVec 32 := Scf.iv c0_i32_86 c1_i32_88 k0_t4
  let v363 : Index := Scalar.indexCast arg21
  let c400 : Index := 400#32
  ![0, v363.toNat, 400]
def k0_off281 (k0_t4 : Fin k0_t4_loop.trips) : Fin 3 → Nat :=
  let c1_i32_197 : BitVec 32 := 1#32
  let v365 : Index := Scalar.indexCast c1_i32_197
  let c0_i32_86 : BitVec 32 := 0#32
  let c1_i32_88 : BitVec 32 := 1#32
  let arg21 : BitVec 32 := Scf.iv c0_i32_86 c1_i32_88 k0_t4
  let v366 : Index := Scalar.indexCast arg21
  let c400_198 : Index := 400#32
  ![1, v366.toNat, 400]
def k0_off282 (k0_t4 : Fin k0_t4_loop.trips) : Fin 2 → Nat :=
  let c0_i32_86 : BitVec 32 := 0#32
  let c1_i32_88 : BitVec 32 := 1#32
  let arg21 : BitVec 32 := Scf.iv c0_i32_86 c1_i32_88 k0_t4
  let v369 : Index := Scalar.indexCast arg21
  let c400_199 : Index := 400#32
  ![v369.toNat, 400]
def k0_off283 (k0_t4 : Fin k0_t4_loop.trips) : Fin 3 → Nat :=
  let c0_i32_200 : BitVec 32 := 0#32
  let v371 : Index := Scalar.indexCast c0_i32_200
  let c0_i32_86 : BitVec 32 := 0#32
  let c1_i32_88 : BitVec 32 := 1#32
  let arg21 : BitVec 32 := Scf.iv c0_i32_86 c1_i32_88 k0_t4
  let v372 : Index := Scalar.indexCast arg21
  let c416 : Index := 416#32
  ![0, v372.toNat, 416]
def k0_off284 (k0_t4 : Fin k0_t4_loop.trips) : Fin 3 → Nat :=
  let c1_i32_201 : BitVec 32 := 1#32
  let v374 : Index := Scalar.indexCast c1_i32_201
  let c0_i32_86 : BitVec 32 := 0#32
  let c1_i32_88 : BitVec 32 := 1#32
  let arg21 : BitVec 32 := Scf.iv c0_i32_86 c1_i32_88 k0_t4
  let v375 : Index := Scalar.indexCast arg21
  let c416_202 : Index := 416#32
  ![1, v375.toNat, 416]
def k0_off285 (k0_t4 : Fin k0_t4_loop.trips) : Fin 2 → Nat :=
  let c0_i32_86 : BitVec 32 := 0#32
  let c1_i32_88 : BitVec 32 := 1#32
  let arg21 : BitVec 32 := Scf.iv c0_i32_86 c1_i32_88 k0_t4
  let v378 : Index := Scalar.indexCast arg21
  let c416_203 : Index := 416#32
  ![v378.toNat, 416]
def k0_off286 (k0_t4 : Fin k0_t4_loop.trips) : Fin 3 → Nat :=
  let c0_i32_204 : BitVec 32 := 0#32
  let v380 : Index := Scalar.indexCast c0_i32_204
  let c0_i32_86 : BitVec 32 := 0#32
  let c1_i32_88 : BitVec 32 := 1#32
  let arg21 : BitVec 32 := Scf.iv c0_i32_86 c1_i32_88 k0_t4
  let v381 : Index := Scalar.indexCast arg21
  let c432 : Index := 432#32
  ![0, v381.toNat, 432]
def k0_off287 (k0_t4 : Fin k0_t4_loop.trips) : Fin 3 → Nat :=
  let c1_i32_205 : BitVec 32 := 1#32
  let v383 : Index := Scalar.indexCast c1_i32_205
  let c0_i32_86 : BitVec 32 := 0#32
  let c1_i32_88 : BitVec 32 := 1#32
  let arg21 : BitVec 32 := Scf.iv c0_i32_86 c1_i32_88 k0_t4
  let v384 : Index := Scalar.indexCast arg21
  let c432_206 : Index := 432#32
  ![1, v384.toNat, 432]
def k0_off288 (k0_t4 : Fin k0_t4_loop.trips) : Fin 2 → Nat :=
  let c0_i32_86 : BitVec 32 := 0#32
  let c1_i32_88 : BitVec 32 := 1#32
  let arg21 : BitVec 32 := Scf.iv c0_i32_86 c1_i32_88 k0_t4
  let v387 : Index := Scalar.indexCast arg21
  let c432_207 : Index := 432#32
  ![v387.toNat, 432]
def k0_off289 (k0_t4 : Fin k0_t4_loop.trips) : Fin 3 → Nat :=
  let c0_i32_208 : BitVec 32 := 0#32
  let v389 : Index := Scalar.indexCast c0_i32_208
  let c0_i32_86 : BitVec 32 := 0#32
  let c1_i32_88 : BitVec 32 := 1#32
  let arg21 : BitVec 32 := Scf.iv c0_i32_86 c1_i32_88 k0_t4
  let v390 : Index := Scalar.indexCast arg21
  let c448 : Index := 448#32
  ![0, v390.toNat, 448]
def k0_off290 (k0_t4 : Fin k0_t4_loop.trips) : Fin 3 → Nat :=
  let c1_i32_209 : BitVec 32 := 1#32
  let v392 : Index := Scalar.indexCast c1_i32_209
  let c0_i32_86 : BitVec 32 := 0#32
  let c1_i32_88 : BitVec 32 := 1#32
  let arg21 : BitVec 32 := Scf.iv c0_i32_86 c1_i32_88 k0_t4
  let v393 : Index := Scalar.indexCast arg21
  let c448_210 : Index := 448#32
  ![1, v393.toNat, 448]
def k0_off291 (k0_t4 : Fin k0_t4_loop.trips) : Fin 2 → Nat :=
  let c0_i32_86 : BitVec 32 := 0#32
  let c1_i32_88 : BitVec 32 := 1#32
  let arg21 : BitVec 32 := Scf.iv c0_i32_86 c1_i32_88 k0_t4
  let v396 : Index := Scalar.indexCast arg21
  let c448_211 : Index := 448#32
  ![v396.toNat, 448]
def k0_off292 (k0_t4 : Fin k0_t4_loop.trips) : Fin 3 → Nat :=
  let c0_i32_212 : BitVec 32 := 0#32
  let v398 : Index := Scalar.indexCast c0_i32_212
  let c0_i32_86 : BitVec 32 := 0#32
  let c1_i32_88 : BitVec 32 := 1#32
  let arg21 : BitVec 32 := Scf.iv c0_i32_86 c1_i32_88 k0_t4
  let v399 : Index := Scalar.indexCast arg21
  let c464 : Index := 464#32
  ![0, v399.toNat, 464]
def k0_off293 (k0_t4 : Fin k0_t4_loop.trips) : Fin 3 → Nat :=
  let c1_i32_213 : BitVec 32 := 1#32
  let v401 : Index := Scalar.indexCast c1_i32_213
  let c0_i32_86 : BitVec 32 := 0#32
  let c1_i32_88 : BitVec 32 := 1#32
  let arg21 : BitVec 32 := Scf.iv c0_i32_86 c1_i32_88 k0_t4
  let v402 : Index := Scalar.indexCast arg21
  let c464_214 : Index := 464#32
  ![1, v402.toNat, 464]
def k0_off294 (k0_t4 : Fin k0_t4_loop.trips) : Fin 2 → Nat :=
  let c0_i32_86 : BitVec 32 := 0#32
  let c1_i32_88 : BitVec 32 := 1#32
  let arg21 : BitVec 32 := Scf.iv c0_i32_86 c1_i32_88 k0_t4
  let v405 : Index := Scalar.indexCast arg21
  let c464_215 : Index := 464#32
  ![v405.toNat, 464]
def k0_off295 (k0_t4 : Fin k0_t4_loop.trips) : Fin 3 → Nat :=
  let c0_i32_216 : BitVec 32 := 0#32
  let v407 : Index := Scalar.indexCast c0_i32_216
  let c0_i32_86 : BitVec 32 := 0#32
  let c1_i32_88 : BitVec 32 := 1#32
  let arg21 : BitVec 32 := Scf.iv c0_i32_86 c1_i32_88 k0_t4
  let v408 : Index := Scalar.indexCast arg21
  let c480 : Index := 480#32
  ![0, v408.toNat, 480]
def k0_off296 (k0_t4 : Fin k0_t4_loop.trips) : Fin 3 → Nat :=
  let c1_i32_217 : BitVec 32 := 1#32
  let v410 : Index := Scalar.indexCast c1_i32_217
  let c0_i32_86 : BitVec 32 := 0#32
  let c1_i32_88 : BitVec 32 := 1#32
  let arg21 : BitVec 32 := Scf.iv c0_i32_86 c1_i32_88 k0_t4
  let v411 : Index := Scalar.indexCast arg21
  let c480_218 : Index := 480#32
  ![1, v411.toNat, 480]
def k0_off297 (k0_t4 : Fin k0_t4_loop.trips) : Fin 2 → Nat :=
  let c0_i32_86 : BitVec 32 := 0#32
  let c1_i32_88 : BitVec 32 := 1#32
  let arg21 : BitVec 32 := Scf.iv c0_i32_86 c1_i32_88 k0_t4
  let v414 : Index := Scalar.indexCast arg21
  let c480_219 : Index := 480#32
  ![v414.toNat, 480]
def k0_off298 (k0_t4 : Fin k0_t4_loop.trips) : Fin 3 → Nat :=
  let c0_i32_220 : BitVec 32 := 0#32
  let v416 : Index := Scalar.indexCast c0_i32_220
  let c0_i32_86 : BitVec 32 := 0#32
  let c1_i32_88 : BitVec 32 := 1#32
  let arg21 : BitVec 32 := Scf.iv c0_i32_86 c1_i32_88 k0_t4
  let v417 : Index := Scalar.indexCast arg21
  let c496 : Index := 496#32
  ![0, v417.toNat, 496]
def k0_off299 (k0_t4 : Fin k0_t4_loop.trips) : Fin 3 → Nat :=
  let c1_i32_221 : BitVec 32 := 1#32
  let v419 : Index := Scalar.indexCast c1_i32_221
  let c0_i32_86 : BitVec 32 := 0#32
  let c1_i32_88 : BitVec 32 := 1#32
  let arg21 : BitVec 32 := Scf.iv c0_i32_86 c1_i32_88 k0_t4
  let v420 : Index := Scalar.indexCast arg21
  let c496_222 : Index := 496#32
  ![1, v420.toNat, 496]
def k0_off300 (k0_t4 : Fin k0_t4_loop.trips) : Fin 2 → Nat :=
  let c0_i32_86 : BitVec 32 := 0#32
  let c1_i32_88 : BitVec 32 := 1#32
  let arg21 : BitVec 32 := Scf.iv c0_i32_86 c1_i32_88 k0_t4
  let v423 : Index := Scalar.indexCast arg21
  let c496_223 : Index := 496#32
  ![v423.toNat, 496]
def k0_off301 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_19 : BitVec 32 := 0#32
  let c1_i32 : BitVec 32 := 1#32
  let arg20 : BitVec 32 := Scf.iv c0_i32_19 c1_i32 k0_t1
  let c4_i32_56 : BitVec 32 := 4#32
  let v85 : BitVec 32 := Scalar.muli arg20 c4_i32_56
  let c2_i32_57 : BitVec 32 := 2#32
  let v86 : BitVec 32 := Scalar.addi v85 c2_i32_57
  let c32_i32_90 : BitVec 32 := 32#32
  let v128 : BitVec 32 := Scalar.muli v86 c32_i32_90
  let v129 : BitVec 32 := Scalar.addi v1 v128
  let c4_i32_91 : BitVec 32 := 4#32
  let v130 : BitVec 32 := Scalar.shrui v129 c4_i32_91
  let c15_i32_92 : BitVec 32 := 15#32
  let v131 : BitVec 32 := Scalar.andi v129 c15_i32_92
  let c8_i32_93 : BitVec 32 := 8#32
  let v132 : BitVec 32 := Scalar.muli v131 c8_i32_93
  let c0_i32_94 : BitVec 32 := 0#32
  ![v130.toNat, v132.toNat, 0]
def k0_cond13 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_19 : BitVec 32 := 0#32
  let c1_i32 : BitVec 32 := 1#32
  let arg20 : BitVec 32 := Scf.iv c0_i32_19 c1_i32 k0_t1
  let c4_i32_71 : BitVec 32 := 4#32
  let v106 : BitVec 32 := Scalar.muli arg20 c4_i32_71
  let c3_i32 : BitVec 32 := 3#32
  let v107 : BitVec 32 := Scalar.addi v106 c3_i32
  let c32_i32_72 : BitVec 32 := 32#32
  let v108 : BitVec 32 := Scalar.muli v107 c32_i32_72
  let v109 : BitVec 32 := Scalar.addi v1 v108
  let c96_i32_76 : BitVec 32 := 96#32
  let v113 : BitVec 32 := Scalar.addi v109 c96_i32_76
  let c1584_i32_77 : BitVec 32 := 1584#32
  let v114 : BitVec 1 := Scalar.cmpi .slt v113 c1584_i32_77
  let v115 : BitVec 32 := Scalar.extui v114
  let c0_i32_78 : BitVec 32 := 0#32
  let v116 : BitVec 1 := Scalar.cmpi .ne v115 c0_i32_78
  v116

def k0_off302 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_19 : BitVec 32 := 0#32
  let c1_i32 : BitVec 32 := 1#32
  let arg20 : BitVec 32 := Scf.iv c0_i32_19 c1_i32 k0_t1
  let c4_i32_71 : BitVec 32 := 4#32
  let v106 : BitVec 32 := Scalar.muli arg20 c4_i32_71
  let c3_i32 : BitVec 32 := 3#32
  let v107 : BitVec 32 := Scalar.addi v106 c3_i32
  let c4_i32_85 : BitVec 32 := 4#32
  let v127 : BitVec 32 := Scalar.addi v107 c4_i32_85
  let c1_i32_86 : BitVec 32 := 1#32
  let v128 : BitVec 32 := Scalar.subi v127 c1_i32_86
  let c32_i32_87 : BitVec 32 := 32#32
  let v129 : BitVec 32 := Scalar.muli v128 c32_i32_87
  let v130 : BitVec 32 := Scalar.addi v1 v129
  let c4_i32_88 : BitVec 32 := 4#32
  let v131 : BitVec 32 := Scalar.shrui v130 c4_i32_88
  let c0_i32_91 : BitVec 32 := 0#32
  let c15_i32_89 : BitVec 32 := 15#32
  let v132 : BitVec 32 := Scalar.andi v130 c15_i32_89
  let c8_i32_90 : BitVec 32 := 8#32
  let v133 : BitVec 32 := Scalar.muli v132 c8_i32_90
  let c0_i32_92 : BitVec 32 := 0#32
  ![v131.toNat, 0, v133.toNat, 0]
def k0_cond14 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_19 : BitVec 32 := 0#32
  let c1_i32 : BitVec 32 := 1#32
  let arg20 : BitVec 32 := Scf.iv c0_i32_19 c1_i32 k0_t1
  let c4_i32_71 : BitVec 32 := 4#32
  let v106 : BitVec 32 := Scalar.muli arg20 c4_i32_71
  let c3_i32 : BitVec 32 := 3#32
  let v107 : BitVec 32 := Scalar.addi v106 c3_i32
  let c32_i32_72 : BitVec 32 := 32#32
  let v108 : BitVec 32 := Scalar.muli v107 c32_i32_72
  let v109 : BitVec 32 := Scalar.addi v1 v108
  let c1584_i32_73 : BitVec 32 := 1584#32
  let v110 : BitVec 1 := Scalar.cmpi .slt v109 c1584_i32_73
  let v117 : BitVec 32 := Scalar.extui v110
  let c0_i32_79 : BitVec 32 := 0#32
  let v118 : BitVec 1 := Scalar.cmpi .ne v117 c0_i32_79
  v118

def k0_off303 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_19 : BitVec 32 := 0#32
  let c1_i32 : BitVec 32 := 1#32
  let arg20 : BitVec 32 := Scf.iv c0_i32_19 c1_i32 k0_t1
  let c4_i32_71 : BitVec 32 := 4#32
  let v106 : BitVec 32 := Scalar.muli arg20 c4_i32_71
  let c3_i32 : BitVec 32 := 3#32
  let v107 : BitVec 32 := Scalar.addi v106 c3_i32
  let c32_i32_85 : BitVec 32 := 32#32
  let v127 : BitVec 32 := Scalar.muli v107 c32_i32_85
  let v128 : BitVec 32 := Scalar.addi v1 v127
  let c4_i32_86 : BitVec 32 := 4#32
  let v129 : BitVec 32 := Scalar.shrui v128 c4_i32_86
  let c0_i32_89 : BitVec 32 := 0#32
  let c15_i32_87 : BitVec 32 := 15#32
  let v130 : BitVec 32 := Scalar.andi v128 c15_i32_87
  let c8_i32_88 : BitVec 32 := 8#32
  let v131 : BitVec 32 := Scalar.muli v130 c8_i32_88
  let c0_i32_90 : BitVec 32 := 0#32
  ![v129.toNat, 0, v131.toNat, 0]
def k0_cond15 (i : grid0.Coords) (k0_t1 : Fin k0_t1_loop.trips) : BitVec 1 :=
  let c0_i32_19 : BitVec 32 := 0#32
  let c1_i32 : BitVec 32 := 1#32
  let arg20 : BitVec 32 := Scf.iv c0_i32_19 c1_i32 k0_t1
  let c4_i32_71 : BitVec 32 := 4#32
  let v106 : BitVec 32 := Scalar.muli arg20 c4_i32_71
  let c3_i32 : BitVec 32 := 3#32
  let v107 : BitVec 32 := Scalar.addi v106 c3_i32
  let c4_i32_80 : BitVec 32 := 4#32
  let v119 : BitVec 1 := Scalar.cmpi .sge v107 c4_i32_80
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_72 : BitVec 32 := 32#32
  let v108 : BitVec 32 := Scalar.muli v107 c32_i32_72
  let v109 : BitVec 32 := Scalar.addi v1 v108
  let c128_i32_81 : BitVec 32 := 128#32
  let v120 : BitVec 32 := Scalar.subi v109 c128_i32_81
  let c1584_i32_82 : BitVec 32 := 1584#32
  let v121 : BitVec 1 := Scalar.cmpi .slt v120 c1584_i32_82
  let v122 : BitVec 1 := Scalar.andi v119 v121
  let v123 : BitVec 32 := Scalar.extui v122
  let c0_i32_83 : BitVec 32 := 0#32
  let v124 : BitVec 1 := Scalar.cmpi .ne v123 c0_i32_83
  v124

def k0_off304 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_19 : BitVec 32 := 0#32
  let c1_i32 : BitVec 32 := 1#32
  let arg20 : BitVec 32 := Scf.iv c0_i32_19 c1_i32 k0_t1
  let c4_i32_71 : BitVec 32 := 4#32
  let v106 : BitVec 32 := Scalar.muli arg20 c4_i32_71
  let c3_i32 : BitVec 32 := 3#32
  let v107 : BitVec 32 := Scalar.addi v106 c3_i32
  let c4_i32_74 : BitVec 32 := 4#32
  let v111 : BitVec 32 := Scalar.subi v107 c4_i32_74
  let c0_i32_75 : BitVec 32 := 0#32
  let v112 : BitVec 32 := Scalar.maxsi v111 c0_i32_75
  let c32_i32_85 : BitVec 32 := 32#32
  let v127 : BitVec 32 := Scalar.muli v112 c32_i32_85
  let v128 : BitVec 32 := Scalar.addi v1 v127
  let c4_i32_86 : BitVec 32 := 4#32
  let v129 : BitVec 32 := Scalar.shrui v128 c4_i32_86
  let c15_i32_87 : BitVec 32 := 15#32
  let v130 : BitVec 32 := Scalar.andi v128 c15_i32_87
  let c8_i32_88 : BitVec 32 := 8#32
  let v131 : BitVec 32 := Scalar.muli v130 c8_i32_88
  let c0_i32_89 : BitVec 32 := 0#32
  ![v129.toNat, v131.toNat, 0]
def k0_cond16 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_19 : BitVec 32 := 0#32
  let c1_i32 : BitVec 32 := 1#32
  let arg20 : BitVec 32 := Scf.iv c0_i32_19 c1_i32 k0_t1
  let c4_i32_71 : BitVec 32 := 4#32
  let v106 : BitVec 32 := Scalar.muli arg20 c4_i32_71
  let c3_i32 : BitVec 32 := 3#32
  let v107 : BitVec 32 := Scalar.addi v106 c3_i32
  let c32_i32_72 : BitVec 32 := 32#32
  let v108 : BitVec 32 := Scalar.muli v107 c32_i32_72
  let v109 : BitVec 32 := Scalar.addi v1 v108
  let c1584_i32_73 : BitVec 32 := 1584#32
  let v110 : BitVec 1 := Scalar.cmpi .slt v109 c1584_i32_73
  let v125 : BitVec 32 := Scalar.extui v110
  let c0_i32_84 : BitVec 32 := 0#32
  let v126 : BitVec 1 := Scalar.cmpi .ne v125 c0_i32_84
  v126

@[reducible] def k0_t5_loop : Scf.Loop 32 :=
  let c0_i32_86 : BitVec 32 := 0#32
  let c8_i32_87 : BitVec 32 := 8#32
  let v127 : BitVec 32 := Scalar.addi c0_i32_86 c8_i32_87
  let c1_i32_88 : BitVec 32 := 1#32
  ⟨c0_i32_86, v127, c1_i32_88⟩
def k0_off305 (k0_t5 : Fin k0_t5_loop.trips) : Fin 3 → Nat :=
  let c0_i32_96 : BitVec 32 := 0#32
  let v137 : Index := Scalar.indexCast c0_i32_96
  let c0_i32_86 : BitVec 32 := 0#32
  let c1_i32_88 : BitVec 32 := 1#32
  let arg21 : BitVec 32 := Scf.iv c0_i32_86 c1_i32_88 k0_t5
  let v138 : Index := Scalar.indexCast arg21
  let c0 : Index := 0#32
  ![0, v138.toNat, 0]
def k0_off306 (k0_t5 : Fin k0_t5_loop.trips) : Fin 3 → Nat :=
  let c1_i32_97 : BitVec 32 := 1#32
  let v140 : Index := Scalar.indexCast c1_i32_97
  let c0_i32_86 : BitVec 32 := 0#32
  let c1_i32_88 : BitVec 32 := 1#32
  let arg21 : BitVec 32 := Scf.iv c0_i32_86 c1_i32_88 k0_t5
  let v141 : Index := Scalar.indexCast arg21
  let c0_98 : Index := 0#32
  ![1, v141.toNat, 0]
def k0_off307 (k0_t5 : Fin k0_t5_loop.trips) : Fin 2 → Nat :=
  let c0_i32_86 : BitVec 32 := 0#32
  let c1_i32_88 : BitVec 32 := 1#32
  let arg21 : BitVec 32 := Scf.iv c0_i32_86 c1_i32_88 k0_t5
  let v144 : Index := Scalar.indexCast arg21
  let c0_99 : Index := 0#32
  ![v144.toNat, 0]
def k0_off308 (k0_t5 : Fin k0_t5_loop.trips) : Fin 3 → Nat :=
  let c0_i32_100 : BitVec 32 := 0#32
  let v146 : Index := Scalar.indexCast c0_i32_100
  let c0_i32_86 : BitVec 32 := 0#32
  let c1_i32_88 : BitVec 32 := 1#32
  let arg21 : BitVec 32 := Scf.iv c0_i32_86 c1_i32_88 k0_t5
  let v147 : Index := Scalar.indexCast arg21
  let c16 : Index := 16#32
  ![0, v147.toNat, 16]
def k0_off309 (k0_t5 : Fin k0_t5_loop.trips) : Fin 3 → Nat :=
  let c1_i32_101 : BitVec 32 := 1#32
  let v149 : Index := Scalar.indexCast c1_i32_101
  let c0_i32_86 : BitVec 32 := 0#32
  let c1_i32_88 : BitVec 32 := 1#32
  let arg21 : BitVec 32 := Scf.iv c0_i32_86 c1_i32_88 k0_t5
  let v150 : Index := Scalar.indexCast arg21
  let c16_102 : Index := 16#32
  ![1, v150.toNat, 16]
def k0_off310 (k0_t5 : Fin k0_t5_loop.trips) : Fin 2 → Nat :=
  let c0_i32_86 : BitVec 32 := 0#32
  let c1_i32_88 : BitVec 32 := 1#32
  let arg21 : BitVec 32 := Scf.iv c0_i32_86 c1_i32_88 k0_t5
  let v153 : Index := Scalar.indexCast arg21
  let c16_103 : Index := 16#32
  ![v153.toNat, 16]
def k0_off311 (k0_t5 : Fin k0_t5_loop.trips) : Fin 3 → Nat :=
  let c0_i32_104 : BitVec 32 := 0#32
  let v155 : Index := Scalar.indexCast c0_i32_104
  let c0_i32_86 : BitVec 32 := 0#32
  let c1_i32_88 : BitVec 32 := 1#32
  let arg21 : BitVec 32 := Scf.iv c0_i32_86 c1_i32_88 k0_t5
  let v156 : Index := Scalar.indexCast arg21
  let c32 : Index := 32#32
  ![0, v156.toNat, 32]
def k0_off312 (k0_t5 : Fin k0_t5_loop.trips) : Fin 3 → Nat :=
  let c1_i32_105 : BitVec 32 := 1#32
  let v158 : Index := Scalar.indexCast c1_i32_105
  let c0_i32_86 : BitVec 32 := 0#32
  let c1_i32_88 : BitVec 32 := 1#32
  let arg21 : BitVec 32 := Scf.iv c0_i32_86 c1_i32_88 k0_t5
  let v159 : Index := Scalar.indexCast arg21
  let c32_106 : Index := 32#32
  ![1, v159.toNat, 32]
def k0_off313 (k0_t5 : Fin k0_t5_loop.trips) : Fin 2 → Nat :=
  let c0_i32_86 : BitVec 32 := 0#32
  let c1_i32_88 : BitVec 32 := 1#32
  let arg21 : BitVec 32 := Scf.iv c0_i32_86 c1_i32_88 k0_t5
  let v162 : Index := Scalar.indexCast arg21
  let c32_107 : Index := 32#32
  ![v162.toNat, 32]
def k0_off314 (k0_t5 : Fin k0_t5_loop.trips) : Fin 3 → Nat :=
  let c0_i32_108 : BitVec 32 := 0#32
  let v164 : Index := Scalar.indexCast c0_i32_108
  let c0_i32_86 : BitVec 32 := 0#32
  let c1_i32_88 : BitVec 32 := 1#32
  let arg21 : BitVec 32 := Scf.iv c0_i32_86 c1_i32_88 k0_t5
  let v165 : Index := Scalar.indexCast arg21
  let c48 : Index := 48#32
  ![0, v165.toNat, 48]
def k0_off315 (k0_t5 : Fin k0_t5_loop.trips) : Fin 3 → Nat :=
  let c1_i32_109 : BitVec 32 := 1#32
  let v167 : Index := Scalar.indexCast c1_i32_109
  let c0_i32_86 : BitVec 32 := 0#32
  let c1_i32_88 : BitVec 32 := 1#32
  let arg21 : BitVec 32 := Scf.iv c0_i32_86 c1_i32_88 k0_t5
  let v168 : Index := Scalar.indexCast arg21
  let c48_110 : Index := 48#32
  ![1, v168.toNat, 48]
def k0_off316 (k0_t5 : Fin k0_t5_loop.trips) : Fin 2 → Nat :=
  let c0_i32_86 : BitVec 32 := 0#32
  let c1_i32_88 : BitVec 32 := 1#32
  let arg21 : BitVec 32 := Scf.iv c0_i32_86 c1_i32_88 k0_t5
  let v171 : Index := Scalar.indexCast arg21
  let c48_111 : Index := 48#32
  ![v171.toNat, 48]
def k0_off317 (k0_t5 : Fin k0_t5_loop.trips) : Fin 3 → Nat :=
  let c0_i32_112 : BitVec 32 := 0#32
  let v173 : Index := Scalar.indexCast c0_i32_112
  let c0_i32_86 : BitVec 32 := 0#32
  let c1_i32_88 : BitVec 32 := 1#32
  let arg21 : BitVec 32 := Scf.iv c0_i32_86 c1_i32_88 k0_t5
  let v174 : Index := Scalar.indexCast arg21
  let c64 : Index := 64#32
  ![0, v174.toNat, 64]
def k0_off318 (k0_t5 : Fin k0_t5_loop.trips) : Fin 3 → Nat :=
  let c1_i32_113 : BitVec 32 := 1#32
  let v176 : Index := Scalar.indexCast c1_i32_113
  let c0_i32_86 : BitVec 32 := 0#32
  let c1_i32_88 : BitVec 32 := 1#32
  let arg21 : BitVec 32 := Scf.iv c0_i32_86 c1_i32_88 k0_t5
  let v177 : Index := Scalar.indexCast arg21
  let c64_114 : Index := 64#32
  ![1, v177.toNat, 64]
def k0_off319 (k0_t5 : Fin k0_t5_loop.trips) : Fin 2 → Nat :=
  let c0_i32_86 : BitVec 32 := 0#32
  let c1_i32_88 : BitVec 32 := 1#32
  let arg21 : BitVec 32 := Scf.iv c0_i32_86 c1_i32_88 k0_t5
  let v180 : Index := Scalar.indexCast arg21
  let c64_115 : Index := 64#32
  ![v180.toNat, 64]
def k0_off320 (k0_t5 : Fin k0_t5_loop.trips) : Fin 3 → Nat :=
  let c0_i32_116 : BitVec 32 := 0#32
  let v182 : Index := Scalar.indexCast c0_i32_116
  let c0_i32_86 : BitVec 32 := 0#32
  let c1_i32_88 : BitVec 32 := 1#32
  let arg21 : BitVec 32 := Scf.iv c0_i32_86 c1_i32_88 k0_t5
  let v183 : Index := Scalar.indexCast arg21
  let c80 : Index := 80#32
  ![0, v183.toNat, 80]
def k0_off321 (k0_t5 : Fin k0_t5_loop.trips) : Fin 3 → Nat :=
  let c1_i32_117 : BitVec 32 := 1#32
  let v185 : Index := Scalar.indexCast c1_i32_117
  let c0_i32_86 : BitVec 32 := 0#32
  let c1_i32_88 : BitVec 32 := 1#32
  let arg21 : BitVec 32 := Scf.iv c0_i32_86 c1_i32_88 k0_t5
  let v186 : Index := Scalar.indexCast arg21
  let c80_118 : Index := 80#32
  ![1, v186.toNat, 80]
def k0_off322 (k0_t5 : Fin k0_t5_loop.trips) : Fin 2 → Nat :=
  let c0_i32_86 : BitVec 32 := 0#32
  let c1_i32_88 : BitVec 32 := 1#32
  let arg21 : BitVec 32 := Scf.iv c0_i32_86 c1_i32_88 k0_t5
  let v189 : Index := Scalar.indexCast arg21
  let c80_119 : Index := 80#32
  ![v189.toNat, 80]
def k0_off323 (k0_t5 : Fin k0_t5_loop.trips) : Fin 3 → Nat :=
  let c0_i32_120 : BitVec 32 := 0#32
  let v191 : Index := Scalar.indexCast c0_i32_120
  let c0_i32_86 : BitVec 32 := 0#32
  let c1_i32_88 : BitVec 32 := 1#32
  let arg21 : BitVec 32 := Scf.iv c0_i32_86 c1_i32_88 k0_t5
  let v192 : Index := Scalar.indexCast arg21
  let c96 : Index := 96#32
  ![0, v192.toNat, 96]
def k0_off324 (k0_t5 : Fin k0_t5_loop.trips) : Fin 3 → Nat :=
  let c1_i32_121 : BitVec 32 := 1#32
  let v194 : Index := Scalar.indexCast c1_i32_121
  let c0_i32_86 : BitVec 32 := 0#32
  let c1_i32_88 : BitVec 32 := 1#32
  let arg21 : BitVec 32 := Scf.iv c0_i32_86 c1_i32_88 k0_t5
  let v195 : Index := Scalar.indexCast arg21
  let c96_122 : Index := 96#32
  ![1, v195.toNat, 96]
def k0_off325 (k0_t5 : Fin k0_t5_loop.trips) : Fin 2 → Nat :=
  let c0_i32_86 : BitVec 32 := 0#32
  let c1_i32_88 : BitVec 32 := 1#32
  let arg21 : BitVec 32 := Scf.iv c0_i32_86 c1_i32_88 k0_t5
  let v198 : Index := Scalar.indexCast arg21
  let c96_123 : Index := 96#32
  ![v198.toNat, 96]
def k0_off326 (k0_t5 : Fin k0_t5_loop.trips) : Fin 3 → Nat :=
  let c0_i32_124 : BitVec 32 := 0#32
  let v200 : Index := Scalar.indexCast c0_i32_124
  let c0_i32_86 : BitVec 32 := 0#32
  let c1_i32_88 : BitVec 32 := 1#32
  let arg21 : BitVec 32 := Scf.iv c0_i32_86 c1_i32_88 k0_t5
  let v201 : Index := Scalar.indexCast arg21
  let c112 : Index := 112#32
  ![0, v201.toNat, 112]
def k0_off327 (k0_t5 : Fin k0_t5_loop.trips) : Fin 3 → Nat :=
  let c1_i32_125 : BitVec 32 := 1#32
  let v203 : Index := Scalar.indexCast c1_i32_125
  let c0_i32_86 : BitVec 32 := 0#32
  let c1_i32_88 : BitVec 32 := 1#32
  let arg21 : BitVec 32 := Scf.iv c0_i32_86 c1_i32_88 k0_t5
  let v204 : Index := Scalar.indexCast arg21
  let c112_126 : Index := 112#32
  ![1, v204.toNat, 112]
def k0_off328 (k0_t5 : Fin k0_t5_loop.trips) : Fin 2 → Nat :=
  let c0_i32_86 : BitVec 32 := 0#32
  let c1_i32_88 : BitVec 32 := 1#32
  let arg21 : BitVec 32 := Scf.iv c0_i32_86 c1_i32_88 k0_t5
  let v207 : Index := Scalar.indexCast arg21
  let c112_127 : Index := 112#32
  ![v207.toNat, 112]
def k0_off329 (k0_t5 : Fin k0_t5_loop.trips) : Fin 3 → Nat :=
  let c0_i32_128 : BitVec 32 := 0#32
  let v209 : Index := Scalar.indexCast c0_i32_128
  let c0_i32_86 : BitVec 32 := 0#32
  let c1_i32_88 : BitVec 32 := 1#32
  let arg21 : BitVec 32 := Scf.iv c0_i32_86 c1_i32_88 k0_t5
  let v210 : Index := Scalar.indexCast arg21
  let c128 : Index := 128#32
  ![0, v210.toNat, 128]
def k0_off330 (k0_t5 : Fin k0_t5_loop.trips) : Fin 3 → Nat :=
  let c1_i32_129 : BitVec 32 := 1#32
  let v212 : Index := Scalar.indexCast c1_i32_129
  let c0_i32_86 : BitVec 32 := 0#32
  let c1_i32_88 : BitVec 32 := 1#32
  let arg21 : BitVec 32 := Scf.iv c0_i32_86 c1_i32_88 k0_t5
  let v213 : Index := Scalar.indexCast arg21
  let c128_130 : Index := 128#32
  ![1, v213.toNat, 128]
def k0_off331 (k0_t5 : Fin k0_t5_loop.trips) : Fin 2 → Nat :=
  let c0_i32_86 : BitVec 32 := 0#32
  let c1_i32_88 : BitVec 32 := 1#32
  let arg21 : BitVec 32 := Scf.iv c0_i32_86 c1_i32_88 k0_t5
  let v216 : Index := Scalar.indexCast arg21
  let c128_131 : Index := 128#32
  ![v216.toNat, 128]
def k0_off332 (k0_t5 : Fin k0_t5_loop.trips) : Fin 3 → Nat :=
  let c0_i32_132 : BitVec 32 := 0#32
  let v218 : Index := Scalar.indexCast c0_i32_132
  let c0_i32_86 : BitVec 32 := 0#32
  let c1_i32_88 : BitVec 32 := 1#32
  let arg21 : BitVec 32 := Scf.iv c0_i32_86 c1_i32_88 k0_t5
  let v219 : Index := Scalar.indexCast arg21
  let c144 : Index := 144#32
  ![0, v219.toNat, 144]
def k0_off333 (k0_t5 : Fin k0_t5_loop.trips) : Fin 3 → Nat :=
  let c1_i32_133 : BitVec 32 := 1#32
  let v221 : Index := Scalar.indexCast c1_i32_133
  let c0_i32_86 : BitVec 32 := 0#32
  let c1_i32_88 : BitVec 32 := 1#32
  let arg21 : BitVec 32 := Scf.iv c0_i32_86 c1_i32_88 k0_t5
  let v222 : Index := Scalar.indexCast arg21
  let c144_134 : Index := 144#32
  ![1, v222.toNat, 144]
def k0_off334 (k0_t5 : Fin k0_t5_loop.trips) : Fin 2 → Nat :=
  let c0_i32_86 : BitVec 32 := 0#32
  let c1_i32_88 : BitVec 32 := 1#32
  let arg21 : BitVec 32 := Scf.iv c0_i32_86 c1_i32_88 k0_t5
  let v225 : Index := Scalar.indexCast arg21
  let c144_135 : Index := 144#32
  ![v225.toNat, 144]
def k0_off335 (k0_t5 : Fin k0_t5_loop.trips) : Fin 3 → Nat :=
  let c0_i32_136 : BitVec 32 := 0#32
  let v227 : Index := Scalar.indexCast c0_i32_136
  let c0_i32_86 : BitVec 32 := 0#32
  let c1_i32_88 : BitVec 32 := 1#32
  let arg21 : BitVec 32 := Scf.iv c0_i32_86 c1_i32_88 k0_t5
  let v228 : Index := Scalar.indexCast arg21
  let c160 : Index := 160#32
  ![0, v228.toNat, 160]
def k0_off336 (k0_t5 : Fin k0_t5_loop.trips) : Fin 3 → Nat :=
  let c1_i32_137 : BitVec 32 := 1#32
  let v230 : Index := Scalar.indexCast c1_i32_137
  let c0_i32_86 : BitVec 32 := 0#32
  let c1_i32_88 : BitVec 32 := 1#32
  let arg21 : BitVec 32 := Scf.iv c0_i32_86 c1_i32_88 k0_t5
  let v231 : Index := Scalar.indexCast arg21
  let c160_138 : Index := 160#32
  ![1, v231.toNat, 160]
def k0_off337 (k0_t5 : Fin k0_t5_loop.trips) : Fin 2 → Nat :=
  let c0_i32_86 : BitVec 32 := 0#32
  let c1_i32_88 : BitVec 32 := 1#32
  let arg21 : BitVec 32 := Scf.iv c0_i32_86 c1_i32_88 k0_t5
  let v234 : Index := Scalar.indexCast arg21
  let c160_139 : Index := 160#32
  ![v234.toNat, 160]
def k0_off338 (k0_t5 : Fin k0_t5_loop.trips) : Fin 3 → Nat :=
  let c0_i32_140 : BitVec 32 := 0#32
  let v236 : Index := Scalar.indexCast c0_i32_140
  let c0_i32_86 : BitVec 32 := 0#32
  let c1_i32_88 : BitVec 32 := 1#32
  let arg21 : BitVec 32 := Scf.iv c0_i32_86 c1_i32_88 k0_t5
  let v237 : Index := Scalar.indexCast arg21
  let c176 : Index := 176#32
  ![0, v237.toNat, 176]
def k0_off339 (k0_t5 : Fin k0_t5_loop.trips) : Fin 3 → Nat :=
  let c1_i32_141 : BitVec 32 := 1#32
  let v239 : Index := Scalar.indexCast c1_i32_141
  let c0_i32_86 : BitVec 32 := 0#32
  let c1_i32_88 : BitVec 32 := 1#32
  let arg21 : BitVec 32 := Scf.iv c0_i32_86 c1_i32_88 k0_t5
  let v240 : Index := Scalar.indexCast arg21
  let c176_142 : Index := 176#32
  ![1, v240.toNat, 176]
def k0_off340 (k0_t5 : Fin k0_t5_loop.trips) : Fin 2 → Nat :=
  let c0_i32_86 : BitVec 32 := 0#32
  let c1_i32_88 : BitVec 32 := 1#32
  let arg21 : BitVec 32 := Scf.iv c0_i32_86 c1_i32_88 k0_t5
  let v243 : Index := Scalar.indexCast arg21
  let c176_143 : Index := 176#32
  ![v243.toNat, 176]
def k0_off341 (k0_t5 : Fin k0_t5_loop.trips) : Fin 3 → Nat :=
  let c0_i32_144 : BitVec 32 := 0#32
  let v245 : Index := Scalar.indexCast c0_i32_144
  let c0_i32_86 : BitVec 32 := 0#32
  let c1_i32_88 : BitVec 32 := 1#32
  let arg21 : BitVec 32 := Scf.iv c0_i32_86 c1_i32_88 k0_t5
  let v246 : Index := Scalar.indexCast arg21
  let c192 : Index := 192#32
  ![0, v246.toNat, 192]
def k0_off342 (k0_t5 : Fin k0_t5_loop.trips) : Fin 3 → Nat :=
  let c1_i32_145 : BitVec 32 := 1#32
  let v248 : Index := Scalar.indexCast c1_i32_145
  let c0_i32_86 : BitVec 32 := 0#32
  let c1_i32_88 : BitVec 32 := 1#32
  let arg21 : BitVec 32 := Scf.iv c0_i32_86 c1_i32_88 k0_t5
  let v249 : Index := Scalar.indexCast arg21
  let c192_146 : Index := 192#32
  ![1, v249.toNat, 192]
def k0_off343 (k0_t5 : Fin k0_t5_loop.trips) : Fin 2 → Nat :=
  let c0_i32_86 : BitVec 32 := 0#32
  let c1_i32_88 : BitVec 32 := 1#32
  let arg21 : BitVec 32 := Scf.iv c0_i32_86 c1_i32_88 k0_t5
  let v252 : Index := Scalar.indexCast arg21
  let c192_147 : Index := 192#32
  ![v252.toNat, 192]
def k0_off344 (k0_t5 : Fin k0_t5_loop.trips) : Fin 3 → Nat :=
  let c0_i32_148 : BitVec 32 := 0#32
  let v254 : Index := Scalar.indexCast c0_i32_148
  let c0_i32_86 : BitVec 32 := 0#32
  let c1_i32_88 : BitVec 32 := 1#32
  let arg21 : BitVec 32 := Scf.iv c0_i32_86 c1_i32_88 k0_t5
  let v255 : Index := Scalar.indexCast arg21
  let c208 : Index := 208#32
  ![0, v255.toNat, 208]
def k0_off345 (k0_t5 : Fin k0_t5_loop.trips) : Fin 3 → Nat :=
  let c1_i32_149 : BitVec 32 := 1#32
  let v257 : Index := Scalar.indexCast c1_i32_149
  let c0_i32_86 : BitVec 32 := 0#32
  let c1_i32_88 : BitVec 32 := 1#32
  let arg21 : BitVec 32 := Scf.iv c0_i32_86 c1_i32_88 k0_t5
  let v258 : Index := Scalar.indexCast arg21
  let c208_150 : Index := 208#32
  ![1, v258.toNat, 208]
def k0_off346 (k0_t5 : Fin k0_t5_loop.trips) : Fin 2 → Nat :=
  let c0_i32_86 : BitVec 32 := 0#32
  let c1_i32_88 : BitVec 32 := 1#32
  let arg21 : BitVec 32 := Scf.iv c0_i32_86 c1_i32_88 k0_t5
  let v261 : Index := Scalar.indexCast arg21
  let c208_151 : Index := 208#32
  ![v261.toNat, 208]
def k0_off347 (k0_t5 : Fin k0_t5_loop.trips) : Fin 3 → Nat :=
  let c0_i32_152 : BitVec 32 := 0#32
  let v263 : Index := Scalar.indexCast c0_i32_152
  let c0_i32_86 : BitVec 32 := 0#32
  let c1_i32_88 : BitVec 32 := 1#32
  let arg21 : BitVec 32 := Scf.iv c0_i32_86 c1_i32_88 k0_t5
  let v264 : Index := Scalar.indexCast arg21
  let c224 : Index := 224#32
  ![0, v264.toNat, 224]
def k0_off348 (k0_t5 : Fin k0_t5_loop.trips) : Fin 3 → Nat :=
  let c1_i32_153 : BitVec 32 := 1#32
  let v266 : Index := Scalar.indexCast c1_i32_153
  let c0_i32_86 : BitVec 32 := 0#32
  let c1_i32_88 : BitVec 32 := 1#32
  let arg21 : BitVec 32 := Scf.iv c0_i32_86 c1_i32_88 k0_t5
  let v267 : Index := Scalar.indexCast arg21
  let c224_154 : Index := 224#32
  ![1, v267.toNat, 224]
def k0_off349 (k0_t5 : Fin k0_t5_loop.trips) : Fin 2 → Nat :=
  let c0_i32_86 : BitVec 32 := 0#32
  let c1_i32_88 : BitVec 32 := 1#32
  let arg21 : BitVec 32 := Scf.iv c0_i32_86 c1_i32_88 k0_t5
  let v270 : Index := Scalar.indexCast arg21
  let c224_155 : Index := 224#32
  ![v270.toNat, 224]
def k0_off350 (k0_t5 : Fin k0_t5_loop.trips) : Fin 3 → Nat :=
  let c0_i32_156 : BitVec 32 := 0#32
  let v272 : Index := Scalar.indexCast c0_i32_156
  let c0_i32_86 : BitVec 32 := 0#32
  let c1_i32_88 : BitVec 32 := 1#32
  let arg21 : BitVec 32 := Scf.iv c0_i32_86 c1_i32_88 k0_t5
  let v273 : Index := Scalar.indexCast arg21
  let c240 : Index := 240#32
  ![0, v273.toNat, 240]
def k0_off351 (k0_t5 : Fin k0_t5_loop.trips) : Fin 3 → Nat :=
  let c1_i32_157 : BitVec 32 := 1#32
  let v275 : Index := Scalar.indexCast c1_i32_157
  let c0_i32_86 : BitVec 32 := 0#32
  let c1_i32_88 : BitVec 32 := 1#32
  let arg21 : BitVec 32 := Scf.iv c0_i32_86 c1_i32_88 k0_t5
  let v276 : Index := Scalar.indexCast arg21
  let c240_158 : Index := 240#32
  ![1, v276.toNat, 240]
def k0_off352 (k0_t5 : Fin k0_t5_loop.trips) : Fin 2 → Nat :=
  let c0_i32_86 : BitVec 32 := 0#32
  let c1_i32_88 : BitVec 32 := 1#32
  let arg21 : BitVec 32 := Scf.iv c0_i32_86 c1_i32_88 k0_t5
  let v279 : Index := Scalar.indexCast arg21
  let c240_159 : Index := 240#32
  ![v279.toNat, 240]
def k0_off353 (k0_t5 : Fin k0_t5_loop.trips) : Fin 3 → Nat :=
  let c0_i32_160 : BitVec 32 := 0#32
  let v281 : Index := Scalar.indexCast c0_i32_160
  let c0_i32_86 : BitVec 32 := 0#32
  let c1_i32_88 : BitVec 32 := 1#32
  let arg21 : BitVec 32 := Scf.iv c0_i32_86 c1_i32_88 k0_t5
  let v282 : Index := Scalar.indexCast arg21
  let c256 : Index := 256#32
  ![0, v282.toNat, 256]
def k0_off354 (k0_t5 : Fin k0_t5_loop.trips) : Fin 3 → Nat :=
  let c1_i32_161 : BitVec 32 := 1#32
  let v284 : Index := Scalar.indexCast c1_i32_161
  let c0_i32_86 : BitVec 32 := 0#32
  let c1_i32_88 : BitVec 32 := 1#32
  let arg21 : BitVec 32 := Scf.iv c0_i32_86 c1_i32_88 k0_t5
  let v285 : Index := Scalar.indexCast arg21
  let c256_162 : Index := 256#32
  ![1, v285.toNat, 256]
def k0_off355 (k0_t5 : Fin k0_t5_loop.trips) : Fin 2 → Nat :=
  let c0_i32_86 : BitVec 32 := 0#32
  let c1_i32_88 : BitVec 32 := 1#32
  let arg21 : BitVec 32 := Scf.iv c0_i32_86 c1_i32_88 k0_t5
  let v288 : Index := Scalar.indexCast arg21
  let c256_163 : Index := 256#32
  ![v288.toNat, 256]
def k0_off356 (k0_t5 : Fin k0_t5_loop.trips) : Fin 3 → Nat :=
  let c0_i32_164 : BitVec 32 := 0#32
  let v290 : Index := Scalar.indexCast c0_i32_164
  let c0_i32_86 : BitVec 32 := 0#32
  let c1_i32_88 : BitVec 32 := 1#32
  let arg21 : BitVec 32 := Scf.iv c0_i32_86 c1_i32_88 k0_t5
  let v291 : Index := Scalar.indexCast arg21
  let c272 : Index := 272#32
  ![0, v291.toNat, 272]
def k0_off357 (k0_t5 : Fin k0_t5_loop.trips) : Fin 3 → Nat :=
  let c1_i32_165 : BitVec 32 := 1#32
  let v293 : Index := Scalar.indexCast c1_i32_165
  let c0_i32_86 : BitVec 32 := 0#32
  let c1_i32_88 : BitVec 32 := 1#32
  let arg21 : BitVec 32 := Scf.iv c0_i32_86 c1_i32_88 k0_t5
  let v294 : Index := Scalar.indexCast arg21
  let c272_166 : Index := 272#32
  ![1, v294.toNat, 272]
def k0_off358 (k0_t5 : Fin k0_t5_loop.trips) : Fin 2 → Nat :=
  let c0_i32_86 : BitVec 32 := 0#32
  let c1_i32_88 : BitVec 32 := 1#32
  let arg21 : BitVec 32 := Scf.iv c0_i32_86 c1_i32_88 k0_t5
  let v297 : Index := Scalar.indexCast arg21
  let c272_167 : Index := 272#32
  ![v297.toNat, 272]
def k0_off359 (k0_t5 : Fin k0_t5_loop.trips) : Fin 3 → Nat :=
  let c0_i32_168 : BitVec 32 := 0#32
  let v299 : Index := Scalar.indexCast c0_i32_168
  let c0_i32_86 : BitVec 32 := 0#32
  let c1_i32_88 : BitVec 32 := 1#32
  let arg21 : BitVec 32 := Scf.iv c0_i32_86 c1_i32_88 k0_t5
  let v300 : Index := Scalar.indexCast arg21
  let c288 : Index := 288#32
  ![0, v300.toNat, 288]
def k0_off360 (k0_t5 : Fin k0_t5_loop.trips) : Fin 3 → Nat :=
  let c1_i32_169 : BitVec 32 := 1#32
  let v302 : Index := Scalar.indexCast c1_i32_169
  let c0_i32_86 : BitVec 32 := 0#32
  let c1_i32_88 : BitVec 32 := 1#32
  let arg21 : BitVec 32 := Scf.iv c0_i32_86 c1_i32_88 k0_t5
  let v303 : Index := Scalar.indexCast arg21
  let c288_170 : Index := 288#32
  ![1, v303.toNat, 288]
def k0_off361 (k0_t5 : Fin k0_t5_loop.trips) : Fin 2 → Nat :=
  let c0_i32_86 : BitVec 32 := 0#32
  let c1_i32_88 : BitVec 32 := 1#32
  let arg21 : BitVec 32 := Scf.iv c0_i32_86 c1_i32_88 k0_t5
  let v306 : Index := Scalar.indexCast arg21
  let c288_171 : Index := 288#32
  ![v306.toNat, 288]
def k0_off362 (k0_t5 : Fin k0_t5_loop.trips) : Fin 3 → Nat :=
  let c0_i32_172 : BitVec 32 := 0#32
  let v308 : Index := Scalar.indexCast c0_i32_172
  let c0_i32_86 : BitVec 32 := 0#32
  let c1_i32_88 : BitVec 32 := 1#32
  let arg21 : BitVec 32 := Scf.iv c0_i32_86 c1_i32_88 k0_t5
  let v309 : Index := Scalar.indexCast arg21
  let c304 : Index := 304#32
  ![0, v309.toNat, 304]
def k0_off363 (k0_t5 : Fin k0_t5_loop.trips) : Fin 3 → Nat :=
  let c1_i32_173 : BitVec 32 := 1#32
  let v311 : Index := Scalar.indexCast c1_i32_173
  let c0_i32_86 : BitVec 32 := 0#32
  let c1_i32_88 : BitVec 32 := 1#32
  let arg21 : BitVec 32 := Scf.iv c0_i32_86 c1_i32_88 k0_t5
  let v312 : Index := Scalar.indexCast arg21
  let c304_174 : Index := 304#32
  ![1, v312.toNat, 304]
def k0_off364 (k0_t5 : Fin k0_t5_loop.trips) : Fin 2 → Nat :=
  let c0_i32_86 : BitVec 32 := 0#32
  let c1_i32_88 : BitVec 32 := 1#32
  let arg21 : BitVec 32 := Scf.iv c0_i32_86 c1_i32_88 k0_t5
  let v315 : Index := Scalar.indexCast arg21
  let c304_175 : Index := 304#32
  ![v315.toNat, 304]
def k0_off365 (k0_t5 : Fin k0_t5_loop.trips) : Fin 3 → Nat :=
  let c0_i32_176 : BitVec 32 := 0#32
  let v317 : Index := Scalar.indexCast c0_i32_176
  let c0_i32_86 : BitVec 32 := 0#32
  let c1_i32_88 : BitVec 32 := 1#32
  let arg21 : BitVec 32 := Scf.iv c0_i32_86 c1_i32_88 k0_t5
  let v318 : Index := Scalar.indexCast arg21
  let c320 : Index := 320#32
  ![0, v318.toNat, 320]
def k0_off366 (k0_t5 : Fin k0_t5_loop.trips) : Fin 3 → Nat :=
  let c1_i32_177 : BitVec 32 := 1#32
  let v320 : Index := Scalar.indexCast c1_i32_177
  let c0_i32_86 : BitVec 32 := 0#32
  let c1_i32_88 : BitVec 32 := 1#32
  let arg21 : BitVec 32 := Scf.iv c0_i32_86 c1_i32_88 k0_t5
  let v321 : Index := Scalar.indexCast arg21
  let c320_178 : Index := 320#32
  ![1, v321.toNat, 320]
def k0_off367 (k0_t5 : Fin k0_t5_loop.trips) : Fin 2 → Nat :=
  let c0_i32_86 : BitVec 32 := 0#32
  let c1_i32_88 : BitVec 32 := 1#32
  let arg21 : BitVec 32 := Scf.iv c0_i32_86 c1_i32_88 k0_t5
  let v324 : Index := Scalar.indexCast arg21
  let c320_179 : Index := 320#32
  ![v324.toNat, 320]
def k0_off368 (k0_t5 : Fin k0_t5_loop.trips) : Fin 3 → Nat :=
  let c0_i32_180 : BitVec 32 := 0#32
  let v326 : Index := Scalar.indexCast c0_i32_180
  let c0_i32_86 : BitVec 32 := 0#32
  let c1_i32_88 : BitVec 32 := 1#32
  let arg21 : BitVec 32 := Scf.iv c0_i32_86 c1_i32_88 k0_t5
  let v327 : Index := Scalar.indexCast arg21
  let c336 : Index := 336#32
  ![0, v327.toNat, 336]
def k0_off369 (k0_t5 : Fin k0_t5_loop.trips) : Fin 3 → Nat :=
  let c1_i32_181 : BitVec 32 := 1#32
  let v329 : Index := Scalar.indexCast c1_i32_181
  let c0_i32_86 : BitVec 32 := 0#32
  let c1_i32_88 : BitVec 32 := 1#32
  let arg21 : BitVec 32 := Scf.iv c0_i32_86 c1_i32_88 k0_t5
  let v330 : Index := Scalar.indexCast arg21
  let c336_182 : Index := 336#32
  ![1, v330.toNat, 336]
def k0_off370 (k0_t5 : Fin k0_t5_loop.trips) : Fin 2 → Nat :=
  let c0_i32_86 : BitVec 32 := 0#32
  let c1_i32_88 : BitVec 32 := 1#32
  let arg21 : BitVec 32 := Scf.iv c0_i32_86 c1_i32_88 k0_t5
  let v333 : Index := Scalar.indexCast arg21
  let c336_183 : Index := 336#32
  ![v333.toNat, 336]
def k0_off371 (k0_t5 : Fin k0_t5_loop.trips) : Fin 3 → Nat :=
  let c0_i32_184 : BitVec 32 := 0#32
  let v335 : Index := Scalar.indexCast c0_i32_184
  let c0_i32_86 : BitVec 32 := 0#32
  let c1_i32_88 : BitVec 32 := 1#32
  let arg21 : BitVec 32 := Scf.iv c0_i32_86 c1_i32_88 k0_t5
  let v336 : Index := Scalar.indexCast arg21
  let c352 : Index := 352#32
  ![0, v336.toNat, 352]
def k0_off372 (k0_t5 : Fin k0_t5_loop.trips) : Fin 3 → Nat :=
  let c1_i32_185 : BitVec 32 := 1#32
  let v338 : Index := Scalar.indexCast c1_i32_185
  let c0_i32_86 : BitVec 32 := 0#32
  let c1_i32_88 : BitVec 32 := 1#32
  let arg21 : BitVec 32 := Scf.iv c0_i32_86 c1_i32_88 k0_t5
  let v339 : Index := Scalar.indexCast arg21
  let c352_186 : Index := 352#32
  ![1, v339.toNat, 352]
def k0_off373 (k0_t5 : Fin k0_t5_loop.trips) : Fin 2 → Nat :=
  let c0_i32_86 : BitVec 32 := 0#32
  let c1_i32_88 : BitVec 32 := 1#32
  let arg21 : BitVec 32 := Scf.iv c0_i32_86 c1_i32_88 k0_t5
  let v342 : Index := Scalar.indexCast arg21
  let c352_187 : Index := 352#32
  ![v342.toNat, 352]
def k0_off374 (k0_t5 : Fin k0_t5_loop.trips) : Fin 3 → Nat :=
  let c0_i32_188 : BitVec 32 := 0#32
  let v344 : Index := Scalar.indexCast c0_i32_188
  let c0_i32_86 : BitVec 32 := 0#32
  let c1_i32_88 : BitVec 32 := 1#32
  let arg21 : BitVec 32 := Scf.iv c0_i32_86 c1_i32_88 k0_t5
  let v345 : Index := Scalar.indexCast arg21
  let c368 : Index := 368#32
  ![0, v345.toNat, 368]
def k0_off375 (k0_t5 : Fin k0_t5_loop.trips) : Fin 3 → Nat :=
  let c1_i32_189 : BitVec 32 := 1#32
  let v347 : Index := Scalar.indexCast c1_i32_189
  let c0_i32_86 : BitVec 32 := 0#32
  let c1_i32_88 : BitVec 32 := 1#32
  let arg21 : BitVec 32 := Scf.iv c0_i32_86 c1_i32_88 k0_t5
  let v348 : Index := Scalar.indexCast arg21
  let c368_190 : Index := 368#32
  ![1, v348.toNat, 368]
def k0_off376 (k0_t5 : Fin k0_t5_loop.trips) : Fin 2 → Nat :=
  let c0_i32_86 : BitVec 32 := 0#32
  let c1_i32_88 : BitVec 32 := 1#32
  let arg21 : BitVec 32 := Scf.iv c0_i32_86 c1_i32_88 k0_t5
  let v351 : Index := Scalar.indexCast arg21
  let c368_191 : Index := 368#32
  ![v351.toNat, 368]
def k0_off377 (k0_t5 : Fin k0_t5_loop.trips) : Fin 3 → Nat :=
  let c0_i32_192 : BitVec 32 := 0#32
  let v353 : Index := Scalar.indexCast c0_i32_192
  let c0_i32_86 : BitVec 32 := 0#32
  let c1_i32_88 : BitVec 32 := 1#32
  let arg21 : BitVec 32 := Scf.iv c0_i32_86 c1_i32_88 k0_t5
  let v354 : Index := Scalar.indexCast arg21
  let c384 : Index := 384#32
  ![0, v354.toNat, 384]
def k0_off378 (k0_t5 : Fin k0_t5_loop.trips) : Fin 3 → Nat :=
  let c1_i32_193 : BitVec 32 := 1#32
  let v356 : Index := Scalar.indexCast c1_i32_193
  let c0_i32_86 : BitVec 32 := 0#32
  let c1_i32_88 : BitVec 32 := 1#32
  let arg21 : BitVec 32 := Scf.iv c0_i32_86 c1_i32_88 k0_t5
  let v357 : Index := Scalar.indexCast arg21
  let c384_194 : Index := 384#32
  ![1, v357.toNat, 384]
def k0_off379 (k0_t5 : Fin k0_t5_loop.trips) : Fin 2 → Nat :=
  let c0_i32_86 : BitVec 32 := 0#32
  let c1_i32_88 : BitVec 32 := 1#32
  let arg21 : BitVec 32 := Scf.iv c0_i32_86 c1_i32_88 k0_t5
  let v360 : Index := Scalar.indexCast arg21
  let c384_195 : Index := 384#32
  ![v360.toNat, 384]
def k0_off380 (k0_t5 : Fin k0_t5_loop.trips) : Fin 3 → Nat :=
  let c0_i32_196 : BitVec 32 := 0#32
  let v362 : Index := Scalar.indexCast c0_i32_196
  let c0_i32_86 : BitVec 32 := 0#32
  let c1_i32_88 : BitVec 32 := 1#32
  let arg21 : BitVec 32 := Scf.iv c0_i32_86 c1_i32_88 k0_t5
  let v363 : Index := Scalar.indexCast arg21
  let c400 : Index := 400#32
  ![0, v363.toNat, 400]
def k0_off381 (k0_t5 : Fin k0_t5_loop.trips) : Fin 3 → Nat :=
  let c1_i32_197 : BitVec 32 := 1#32
  let v365 : Index := Scalar.indexCast c1_i32_197
  let c0_i32_86 : BitVec 32 := 0#32
  let c1_i32_88 : BitVec 32 := 1#32
  let arg21 : BitVec 32 := Scf.iv c0_i32_86 c1_i32_88 k0_t5
  let v366 : Index := Scalar.indexCast arg21
  let c400_198 : Index := 400#32
  ![1, v366.toNat, 400]
def k0_off382 (k0_t5 : Fin k0_t5_loop.trips) : Fin 2 → Nat :=
  let c0_i32_86 : BitVec 32 := 0#32
  let c1_i32_88 : BitVec 32 := 1#32
  let arg21 : BitVec 32 := Scf.iv c0_i32_86 c1_i32_88 k0_t5
  let v369 : Index := Scalar.indexCast arg21
  let c400_199 : Index := 400#32
  ![v369.toNat, 400]
def k0_off383 (k0_t5 : Fin k0_t5_loop.trips) : Fin 3 → Nat :=
  let c0_i32_200 : BitVec 32 := 0#32
  let v371 : Index := Scalar.indexCast c0_i32_200
  let c0_i32_86 : BitVec 32 := 0#32
  let c1_i32_88 : BitVec 32 := 1#32
  let arg21 : BitVec 32 := Scf.iv c0_i32_86 c1_i32_88 k0_t5
  let v372 : Index := Scalar.indexCast arg21
  let c416 : Index := 416#32
  ![0, v372.toNat, 416]
def k0_off384 (k0_t5 : Fin k0_t5_loop.trips) : Fin 3 → Nat :=
  let c1_i32_201 : BitVec 32 := 1#32
  let v374 : Index := Scalar.indexCast c1_i32_201
  let c0_i32_86 : BitVec 32 := 0#32
  let c1_i32_88 : BitVec 32 := 1#32
  let arg21 : BitVec 32 := Scf.iv c0_i32_86 c1_i32_88 k0_t5
  let v375 : Index := Scalar.indexCast arg21
  let c416_202 : Index := 416#32
  ![1, v375.toNat, 416]
def k0_off385 (k0_t5 : Fin k0_t5_loop.trips) : Fin 2 → Nat :=
  let c0_i32_86 : BitVec 32 := 0#32
  let c1_i32_88 : BitVec 32 := 1#32
  let arg21 : BitVec 32 := Scf.iv c0_i32_86 c1_i32_88 k0_t5
  let v378 : Index := Scalar.indexCast arg21
  let c416_203 : Index := 416#32
  ![v378.toNat, 416]
def k0_off386 (k0_t5 : Fin k0_t5_loop.trips) : Fin 3 → Nat :=
  let c0_i32_204 : BitVec 32 := 0#32
  let v380 : Index := Scalar.indexCast c0_i32_204
  let c0_i32_86 : BitVec 32 := 0#32
  let c1_i32_88 : BitVec 32 := 1#32
  let arg21 : BitVec 32 := Scf.iv c0_i32_86 c1_i32_88 k0_t5
  let v381 : Index := Scalar.indexCast arg21
  let c432 : Index := 432#32
  ![0, v381.toNat, 432]
def k0_off387 (k0_t5 : Fin k0_t5_loop.trips) : Fin 3 → Nat :=
  let c1_i32_205 : BitVec 32 := 1#32
  let v383 : Index := Scalar.indexCast c1_i32_205
  let c0_i32_86 : BitVec 32 := 0#32
  let c1_i32_88 : BitVec 32 := 1#32
  let arg21 : BitVec 32 := Scf.iv c0_i32_86 c1_i32_88 k0_t5
  let v384 : Index := Scalar.indexCast arg21
  let c432_206 : Index := 432#32
  ![1, v384.toNat, 432]
def k0_off388 (k0_t5 : Fin k0_t5_loop.trips) : Fin 2 → Nat :=
  let c0_i32_86 : BitVec 32 := 0#32
  let c1_i32_88 : BitVec 32 := 1#32
  let arg21 : BitVec 32 := Scf.iv c0_i32_86 c1_i32_88 k0_t5
  let v387 : Index := Scalar.indexCast arg21
  let c432_207 : Index := 432#32
  ![v387.toNat, 432]
def k0_off389 (k0_t5 : Fin k0_t5_loop.trips) : Fin 3 → Nat :=
  let c0_i32_208 : BitVec 32 := 0#32
  let v389 : Index := Scalar.indexCast c0_i32_208
  let c0_i32_86 : BitVec 32 := 0#32
  let c1_i32_88 : BitVec 32 := 1#32
  let arg21 : BitVec 32 := Scf.iv c0_i32_86 c1_i32_88 k0_t5
  let v390 : Index := Scalar.indexCast arg21
  let c448 : Index := 448#32
  ![0, v390.toNat, 448]
def k0_off390 (k0_t5 : Fin k0_t5_loop.trips) : Fin 3 → Nat :=
  let c1_i32_209 : BitVec 32 := 1#32
  let v392 : Index := Scalar.indexCast c1_i32_209
  let c0_i32_86 : BitVec 32 := 0#32
  let c1_i32_88 : BitVec 32 := 1#32
  let arg21 : BitVec 32 := Scf.iv c0_i32_86 c1_i32_88 k0_t5
  let v393 : Index := Scalar.indexCast arg21
  let c448_210 : Index := 448#32
  ![1, v393.toNat, 448]
def k0_off391 (k0_t5 : Fin k0_t5_loop.trips) : Fin 2 → Nat :=
  let c0_i32_86 : BitVec 32 := 0#32
  let c1_i32_88 : BitVec 32 := 1#32
  let arg21 : BitVec 32 := Scf.iv c0_i32_86 c1_i32_88 k0_t5
  let v396 : Index := Scalar.indexCast arg21
  let c448_211 : Index := 448#32
  ![v396.toNat, 448]
def k0_off392 (k0_t5 : Fin k0_t5_loop.trips) : Fin 3 → Nat :=
  let c0_i32_212 : BitVec 32 := 0#32
  let v398 : Index := Scalar.indexCast c0_i32_212
  let c0_i32_86 : BitVec 32 := 0#32
  let c1_i32_88 : BitVec 32 := 1#32
  let arg21 : BitVec 32 := Scf.iv c0_i32_86 c1_i32_88 k0_t5
  let v399 : Index := Scalar.indexCast arg21
  let c464 : Index := 464#32
  ![0, v399.toNat, 464]
def k0_off393 (k0_t5 : Fin k0_t5_loop.trips) : Fin 3 → Nat :=
  let c1_i32_213 : BitVec 32 := 1#32
  let v401 : Index := Scalar.indexCast c1_i32_213
  let c0_i32_86 : BitVec 32 := 0#32
  let c1_i32_88 : BitVec 32 := 1#32
  let arg21 : BitVec 32 := Scf.iv c0_i32_86 c1_i32_88 k0_t5
  let v402 : Index := Scalar.indexCast arg21
  let c464_214 : Index := 464#32
  ![1, v402.toNat, 464]
def k0_off394 (k0_t5 : Fin k0_t5_loop.trips) : Fin 2 → Nat :=
  let c0_i32_86 : BitVec 32 := 0#32
  let c1_i32_88 : BitVec 32 := 1#32
  let arg21 : BitVec 32 := Scf.iv c0_i32_86 c1_i32_88 k0_t5
  let v405 : Index := Scalar.indexCast arg21
  let c464_215 : Index := 464#32
  ![v405.toNat, 464]
def k0_off395 (k0_t5 : Fin k0_t5_loop.trips) : Fin 3 → Nat :=
  let c0_i32_216 : BitVec 32 := 0#32
  let v407 : Index := Scalar.indexCast c0_i32_216
  let c0_i32_86 : BitVec 32 := 0#32
  let c1_i32_88 : BitVec 32 := 1#32
  let arg21 : BitVec 32 := Scf.iv c0_i32_86 c1_i32_88 k0_t5
  let v408 : Index := Scalar.indexCast arg21
  let c480 : Index := 480#32
  ![0, v408.toNat, 480]
def k0_off396 (k0_t5 : Fin k0_t5_loop.trips) : Fin 3 → Nat :=
  let c1_i32_217 : BitVec 32 := 1#32
  let v410 : Index := Scalar.indexCast c1_i32_217
  let c0_i32_86 : BitVec 32 := 0#32
  let c1_i32_88 : BitVec 32 := 1#32
  let arg21 : BitVec 32 := Scf.iv c0_i32_86 c1_i32_88 k0_t5
  let v411 : Index := Scalar.indexCast arg21
  let c480_218 : Index := 480#32
  ![1, v411.toNat, 480]
def k0_off397 (k0_t5 : Fin k0_t5_loop.trips) : Fin 2 → Nat :=
  let c0_i32_86 : BitVec 32 := 0#32
  let c1_i32_88 : BitVec 32 := 1#32
  let arg21 : BitVec 32 := Scf.iv c0_i32_86 c1_i32_88 k0_t5
  let v414 : Index := Scalar.indexCast arg21
  let c480_219 : Index := 480#32
  ![v414.toNat, 480]
def k0_off398 (k0_t5 : Fin k0_t5_loop.trips) : Fin 3 → Nat :=
  let c0_i32_220 : BitVec 32 := 0#32
  let v416 : Index := Scalar.indexCast c0_i32_220
  let c0_i32_86 : BitVec 32 := 0#32
  let c1_i32_88 : BitVec 32 := 1#32
  let arg21 : BitVec 32 := Scf.iv c0_i32_86 c1_i32_88 k0_t5
  let v417 : Index := Scalar.indexCast arg21
  let c496 : Index := 496#32
  ![0, v417.toNat, 496]
def k0_off399 (k0_t5 : Fin k0_t5_loop.trips) : Fin 3 → Nat :=
  let c1_i32_221 : BitVec 32 := 1#32
  let v419 : Index := Scalar.indexCast c1_i32_221
  let c0_i32_86 : BitVec 32 := 0#32
  let c1_i32_88 : BitVec 32 := 1#32
  let arg21 : BitVec 32 := Scf.iv c0_i32_86 c1_i32_88 k0_t5
  let v420 : Index := Scalar.indexCast arg21
  let c496_222 : Index := 496#32
  ![1, v420.toNat, 496]
def k0_off400 (k0_t5 : Fin k0_t5_loop.trips) : Fin 2 → Nat :=
  let c0_i32_86 : BitVec 32 := 0#32
  let c1_i32_88 : BitVec 32 := 1#32
  let arg21 : BitVec 32 := Scf.iv c0_i32_86 c1_i32_88 k0_t5
  let v423 : Index := Scalar.indexCast arg21
  let c496_223 : Index := 496#32
  ![v423.toNat, 496]
def k0_off401 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_19 : BitVec 32 := 0#32
  let c1_i32 : BitVec 32 := 1#32
  let arg20 : BitVec 32 := Scf.iv c0_i32_19 c1_i32 k0_t1
  let c4_i32_71 : BitVec 32 := 4#32
  let v106 : BitVec 32 := Scalar.muli arg20 c4_i32_71
  let c3_i32 : BitVec 32 := 3#32
  let v107 : BitVec 32 := Scalar.addi v106 c3_i32
  let c32_i32_90 : BitVec 32 := 32#32
  let v128 : BitVec 32 := Scalar.muli v107 c32_i32_90
  let v129 : BitVec 32 := Scalar.addi v1 v128
  let c4_i32_91 : BitVec 32 := 4#32
  let v130 : BitVec 32 := Scalar.shrui v129 c4_i32_91
  let c15_i32_92 : BitVec 32 := 15#32
  let v131 : BitVec 32 := Scalar.andi v129 c15_i32_92
  let c8_i32_93 : BitVec 32 := 8#32
  let v132 : BitVec 32 := Scalar.muli v131 c8_i32_93
  let c0_i32_94 : BitVec 32 := 0#32
  ![v130.toNat, v132.toNat, 0]
def k0_cond17 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1536_i32 : BitVec 32 := 1536#32
  let v27 : BitVec 32 := Scalar.addi v1 c1536_i32
  let c1584_i32 : BitVec 32 := 1584#32
  let v28 : BitVec 1 := Scalar.cmpi .slt v27 c1584_i32
  let v29 : BitVec 32 := Scalar.extui v28
  let c0_i32_21 : BitVec 32 := 0#32
  let v30 : BitVec 1 := Scalar.cmpi .ne v29 c0_i32_21
  v30

def k0_off402 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1536_i32_28 : BitVec 32 := 1536#32
  let v43 : BitVec 32 := Scalar.addi v1 c1536_i32_28
  let c4_i32_29 : BitVec 32 := 4#32
  let v44 : BitVec 32 := Scalar.shrui v43 c4_i32_29
  let c15_i32_30 : BitVec 32 := 15#32
  let v45 : BitVec 32 := Scalar.andi v43 c15_i32_30
  let c8_i32_31 : BitVec 32 := 8#32
  let v46 : BitVec 32 := Scalar.muli v45 c8_i32_31
  let c0_i32_32 : BitVec 32 := 0#32
  ![v44.toNat, v46.toNat, 0]
def k0_cond18 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1568_i32 : BitVec 32 := 1568#32
  let v31 : BitVec 32 := Scalar.addi v1 c1568_i32
  let c1584_i32_22 : BitVec 32 := 1584#32
  let v32 : BitVec 1 := Scalar.cmpi .slt v31 c1584_i32_22
  let v33 : BitVec 32 := Scalar.extui v32
  let c0_i32_23 : BitVec 32 := 0#32
  let v34 : BitVec 1 := Scalar.cmpi .ne v33 c0_i32_23
  v34

def k0_off403 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1568_i32_28 : BitVec 32 := 1568#32
  let v43 : BitVec 32 := Scalar.addi v1 c1568_i32_28
  let c4_i32_29 : BitVec 32 := 4#32
  let v44 : BitVec 32 := Scalar.shrui v43 c4_i32_29
  let c15_i32_30 : BitVec 32 := 15#32
  let v45 : BitVec 32 := Scalar.andi v43 c15_i32_30
  let c8_i32_31 : BitVec 32 := 8#32
  let v46 : BitVec 32 := Scalar.muli v45 c8_i32_31
  let c0_i32_32 : BitVec 32 := 0#32
  ![v44.toNat, v46.toNat, 0]
def k0_cond19 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v35 : BitVec 32 := Scalar.addi v1 c1600_i32
  let c1584_i32_24 : BitVec 32 := 1584#32
  let v36 : BitVec 1 := Scalar.cmpi .slt v35 c1584_i32_24
  let v37 : BitVec 32 := Scalar.extui v36
  let c0_i32_25 : BitVec 32 := 0#32
  let v38 : BitVec 1 := Scalar.cmpi .ne v37 c0_i32_25
  v38

def k0_off404 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32_28 : BitVec 32 := 1600#32
  let v43 : BitVec 32 := Scalar.addi v1 c1600_i32_28
  let c4_i32_29 : BitVec 32 := 4#32
  let v44 : BitVec 32 := Scalar.shrui v43 c4_i32_29
  let c15_i32_30 : BitVec 32 := 15#32
  let v45 : BitVec 32 := Scalar.andi v43 c15_i32_30
  let c8_i32_31 : BitVec 32 := 8#32
  let v46 : BitVec 32 := Scalar.muli v45 c8_i32_31
  let c0_i32_32 : BitVec 32 := 0#32
  ![v44.toNat, v46.toNat, 0]
def k0_cond20 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1632_i32 : BitVec 32 := 1632#32
  let v39 : BitVec 32 := Scalar.addi v1 c1632_i32
  let c1584_i32_26 : BitVec 32 := 1584#32
  let v40 : BitVec 1 := Scalar.cmpi .slt v39 c1584_i32_26
  let v41 : BitVec 32 := Scalar.extui v40
  let c0_i32_27 : BitVec 32 := 0#32
  let v42 : BitVec 1 := Scalar.cmpi .ne v41 c0_i32_27
  v42

def k0_off405 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1632_i32_28 : BitVec 32 := 1632#32
  let v43 : BitVec 32 := Scalar.addi v1 c1632_i32_28
  let c4_i32_29 : BitVec 32 := 4#32
  let v44 : BitVec 32 := Scalar.shrui v43 c4_i32_29
  let c15_i32_30 : BitVec 32 := 15#32
  let v45 : BitVec 32 := Scalar.andi v43 c15_i32_30
  let c8_i32_31 : BitVec 32 := 8#32
  let v46 : BitVec 32 := Scalar.muli v45 c8_i32_31
  let c0_i32_32 : BitVec 32 := 0#32
  ![v44.toNat, v46.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S128x512x3x66 : Shape := ⟨4, ![128, 512, 3, 66]⟩
abbrev S33x2 : Shape := ⟨2, ![33, 2]⟩
abbrev S_ : Shape := ⟨0, ![]⟩
abbrev S33x2x1 : Shape := ⟨3, ![33, 2, 1]⟩
abbrev S128x512x3x33x2 : Shape := ⟨5, ![128, 512, 3, 33, 2]⟩
abbrev S128x512x3x33 : Shape := ⟨4, ![128, 512, 3, 33]⟩

abbrev nBuf : Space → Nat
  | .hbm => 13
  | .vmem => 0
  | .smem => 0
  | _ => 0

abbrev bufTy : (tb : Table) → Fin (tcTables nBuf tb) → BufTy
  | .hbm, ⟨0, _⟩ => ⟨S128x512x3x66, .f32⟩
  | .hbm, ⟨1, _⟩ => ⟨S33x2, .i32⟩
  | .hbm, ⟨2, _⟩ => ⟨S_, .i32⟩
  | .hbm, ⟨3, _⟩ => ⟨S33x2, .i32⟩
  | .hbm, ⟨4, _⟩ => ⟨S33x2, .i1⟩
  | .hbm, ⟨5, _⟩ => ⟨S_, .i32⟩
  | .hbm, ⟨6, _⟩ => ⟨S33x2, .i32⟩
  | .hbm, ⟨7, _⟩ => ⟨S33x2, .i32⟩
  | .hbm, ⟨8, _⟩ => ⟨S33x2, .i32⟩
  | .hbm, ⟨9, _⟩ => ⟨S33x2x1, .i32⟩
  | .hbm, ⟨10, _⟩ => ⟨S128x512x3x33x2, .f32⟩
  | .hbm, ⟨11, _⟩ => ⟨S_, .f32⟩
  | .hbm, ⟨12, _⟩ => ⟨S128x512x3x33, .f32⟩
  | _, _ => ⟨S128x512x3x66, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_c_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Proof.Common.lean ====
/- The program as the launch theorem reads it, the resource algebra of the proof, and the names
   shared by the other modules: the kernel's buffers as its body addresses them. -/
module

public import proofs.«01_k».proof.Defs
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.PairSum

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program's tables -/

/-- The labels of the pipelines' layer: this program has no pipelined call. -/
abbrev ΛP : Labels := Pipeline.Sig Λ₀ (Fin 0) fun p => (pcfgs (F := F) p).Adm
/-- The one SparseCore call. -/
abbrev K : SparseCore.Cfg τ sig (ΛP (F := F)) 1 := sc (F := F)
/-- The body table below the launch's. -/
abbrev D [FloatOps F] : Defs nD τ sig (Elt F) (ΛP (F := F)) := Pipeline.defs pcfgs defs₀
/-- No recursion, so no variants. -/
abbrev 𝒱₀ : Variants := Variants.none
/-- The same, one layer up. -/
abbrev 𝒱 : Variants := 𝒱₀.lift
/-- The variant the tasks start at. -/
abbrev v₀ : 𝒱.V := Sum.inl none

/-- The user algebra: the launch handshakes' rounds beside the transfers' counters. -/
abbrev UH : Type := URounds (GSem nD τ sig) ℕ
/-- The pair of the two. -/
abbrev UU : Type := UH × Counters

local notation "𝕄" => MT nD τ sig (HIx 1) (Elt F) ℕ UU ℕ

/-- Where the handshakes' algebra sits. -/
abbrev EH : Emb UH (MT nD τ sig (HIx 1) (Elt F) ℕ UU ℕ) := embL

/-! ## The tile's thread and the arrays -/

/-- The SparseCore of grid point `L`. -/
abbrev cV (L : grid0.Coords) : Fin τ.nSC := (L 0).castLE hcore0
/-- The vector subcore of grid point `L`. -/
abbrev jV (L : grid0.Coords) : Fin τ.nSub := (L 1).castLE hsub0
/-- The thread of grid point `L`. -/
abbrev VT (d : Dev nD) (L : grid0.Coords) : Thread nD τ := V d (cV L) (jV L)

/-- The reshaped input the kernel reads. -/
abbrev xLoc (d : Dev nD) : Loc nD τ sig := (SparseCore.T d).loc main_v1
/-- The array of sums the kernel writes. -/
abbrev oLoc (d : Dev nD) : Loc nD τ sig := (SparseCore.T d).loc main_v2

end Cert.Proof.PairSum

end
-- ==== Proof.Row.lean ====
/- One trip of the row loop: a tile adds the two planes of its input block on one row, in 32 chunks
   of 16 lanes. The four printed copies of the loop are one text at different buffers. -/
module

public import proofs.«01_k».proof.Proof.Common
public import Idealize.ShloMosaic.Lib.Writes
public import Idealize.ShloMosaic.Lib.WritesUnit
public import Idealize.ShloMosaic.Lib.Pipeline.Value

@[expose] public section

noncomputable section

namespace Cert.Proof.PairSum

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The index of plane `p` of a block over the place `y` of a row block. -/
def plane (p : Fin 2) (y : S8x512.Idx) : S2x8x512.Idx := Fin.cons (α := fun a => Fin (S2x8x512.size a)) p y

/-- The sum of a block's two planes, place by place. -/
def planeSum (r : S2x8x512.Idx → Elt F .f32) : S8x512.Idx → Elt F .f32 :=
  fun y => FloatOps.addf (F := F) (φ := .f32) (r (plane 0 y)) (r (plane 1 y))

/-- Row `t` of the output block reads the sums in its first `16 * n` columns, and every other place reads as it did. -/
def RowUpTo (v : View sig .scVector .vmem S8x512 .f32) (f : v.ty.Contents (Elt F)) (r : S2x8x512.Idx → Elt F .f32) (t n : ℕ)
    (L : List (View.Piece (Elt F) S8x512 .f32)) : Prop :=
  ∀ y, v.read (Elt F) (v.writes (Elt F) f L) y
    = if (y 0).val = t ∧ (y 1).val < 16 * n then planeSum r y else v.read (Elt F) f y

/-- Before any write nothing has changed. -/
theorem rowUpTo_nil (v : View sig .scVector .vmem S8x512 .f32) (f : v.ty.Contents (Elt F)) (r : S2x8x512.Idx → Elt F .f32) (t : ℕ) :
    RowUpTo v f r t 0 [] := by
  intro y; rw [if_neg (by omega)]; rfl

/-- Writing the sum of chunk `n` of the two planes extends the finished part of the row by that chunk. -/
theorem rowUpTo_cons (v : View sig .scVector .vmem S8x512 .f32) (f : v.ty.Contents (Elt F))
    (u : View sig .scVector .vmem S2x8x512 .f32) (x : u.ty.Contents (Elt F)) (t : Fin k0_t2_loop.trips) (n : ℕ)
    (L : List (View.Piece (Elt F) S8x512 .f32))
    {offO : Fin k0_t2_loop.trips → Fin 2 → ℕ} {offA offB : Fin k0_t2_loop.trips → Fin 3 → ℕ}
    {inO : ∀ a, offO t a + S1x16.size a ≤ S8x512.size a} {inA : ∀ a, offA t a + S1x1x16.size a ≤ S2x8x512.size a}
    {inB : ∀ a, offB t a + S1x1x16.size a ≤ S2x8x512.size a}
    (hO : ∀ t, offO t = ![t.val, 16 * n]) (hA : ∀ t, offA t = ![0, t.val, 16 * n]) (hB : ∀ t, offB t = ![1, t.val, 16 * n])
    {w : (Rect.unit (s := S8x512) (offO t) S1x16.size inO).shape.Idx → Elt F .f32}
    (hw : w = shapeCast S1x16 (addf (F := F) (φ := .f32)
      (shapeCast S16 (u.readAt (Elt F) (Rect.unit (s := S2x8x512) (offA t) S1x1x16.size inA).toLoadRect x) shapeCasts_S1x1x16_S16)
      (shapeCast S16 (u.readAt (Elt F) (Rect.unit (s := S2x8x512) (offB t) S1x1x16.size inB).toLoadRect x) shapeCasts_S1x1x16_S16))
      shapeCasts_S16_S1x16)
    (hL : RowUpTo v f (u.read (Elt F) x) t.val n L) :
    RowUpTo v f (u.read (Elt F) x) t.val (n + 1) ((⟨Rect.unit (offO t) S1x16.size inO, w⟩ : View.Piece (Elt F) S8x512 .f32) :: L) := by
  have hchunk : ∀ (p : Fin 2) (off : Fin 3 → ℕ) (inb : ∀ a, off a + S1x1x16.size a ≤ S2x8x512.size a)
      (_ : off = ![p.val, t.val, 16 * n]) (y : S8x512.Idx) (_ : (y 0).val = t.val) (j : S16.Idx) (_ : (y 1).val = 16 * n + (j 0).val),
      shapeCast S16 (u.readAt (Elt F) (Rect.unit (s := S2x8x512) off S1x1x16.size inb).toLoadRect x) shapeCasts_S1x1x16_S16 j
        = u.read (Elt F) x (plane p y) := by
    intro p off inb hoff y hy j hj
    subst hoff
    rw [shapeCast_apply _ _ j ((fun a => match a with | (0 : Fin 3) => (0 : Fin 1) | (1 : Fin 3) => (0 : Fin 1) | (2 : Fin 3) => j 0) : S1x1x16.Idx)
      (by rw [Shape.rowMajor_val_three, Shape.rowMajor_val_one]; show (0 * 1 + 0) * 16 + (j 0).val = (j 0).val; omega)]
    rw [View.readAt_apply]
    congr 1
    funext a
    apply Fin.ext
    match a with
    | 0 => show p.val + 1 * 0 = p.val; omega
    | 1 => show t.val + 1 * 0 = (y 0).val; omega
    | 2 => show 16 * n + 1 * (j 0).val = (y 1).val; omega
  intro y
  rw [View.read_writes_cons_unit v f inO w L y (hO t)]
  split
  · rename_i h
    have h0 : t.val ≤ (y 0).val ∧ (y 0).val < t.val + 1 := h 0
    have h1 : 16 * n ≤ (y 1).val ∧ (y 1).val < 16 * n + 16 := h 1
    rw [if_pos ⟨by omega, by omega⟩, hw]
    have hlt : (y 1).val - 16 * n < 16 := by omega
    rw [shapeCast_apply _ _ _ ((fun a => match a with | (0 : Fin 1) => (⟨(y 1).val - 16 * n, hlt⟩ : Fin 16)) : S16.Idx)
      (by
        rw [Shape.rowMajor_val_one, Shape.rowMajor_val_two]
        show (y 1).val - 16 * n = ((y 0).val - t.val) * 16 + ((y 1).val - 16 * n)
        omega)]
    exact congrArg₂ (FloatOps.addf (F := F) (φ := .f32)) (hchunk 0 _ inA (hA t) y (by omega) _ (by show _ = 16 * n + ((y 1).val - 16 * n); omega))
      (hchunk 1 _ inB (hB t) y (by omega) _ (by show _ = 16 * n + ((y 1).val - 16 * n); omega))
  · rename_i h
    rw [hL y]
    refine if_congr ?_ rfl rfl
    constructor
    · rintro ⟨a, b⟩; exact ⟨a, by omega⟩
    · rintro ⟨a, b⟩
      refine ⟨a, ?_⟩
      by_contra hc
      refine h fun c => ?_
      match c with
      | 0 => show t.val ≤ (y 0).val ∧ (y 0).val < t.val + 1; omega
      | 1 => show 16 * n ≤ (y 1).val ∧ (y 1).val < 16 * n + 16; omega

/-- After all 32 chunks the whole row reads the sums. -/
theorem rowUpTo_row (v : View sig .scVector .vmem S8x512 .f32) (f : v.ty.Contents (Elt F)) (r : S2x8x512.Idx → Elt F .f32) (t : ℕ)
    (L : List (View.Piece (Elt F) S8x512 .f32)) (h : RowUpTo v f r t 32 L) (y : S8x512.Idx) :
    v.read (Elt F) (v.writes (Elt F) f L) y = if (y 0).val = t then planeSum r y else v.read (Elt F) f y :=
  (h y).trans (if_congr ⟨fun a => a.1, fun a => ⟨a, (y 1).isLt⟩⟩ rfl rfl)

/-- One trip of the row loop, at any buffers: row `t` of the output block then reads the sums of the input block's planes,
and its other rows read as they did. -/
theorem row_trip (d : Dev nD) (i : grid0.Coords) (arg2 : Memref sig .scVector .hbm S99x2x128x512 .f32) (harg2 : arg2.IsWhole)
    (arg3 : Memref sig .scVector .hbm S99x128x512 .f32) (harg3 : arg3.IsWhole)
    (arg4 : Memref sig .scVector .vmem S2x8x512 .f32) (harg4 : arg4.IsWhole) (arg5 : Memref sig .scVector .vmem S2x8x512 .f32) (harg5 : arg5.IsWhole)
    (arg6 : Memref sig .scVector .vmem S2x8x512 .f32) (harg6 : arg6.IsWhole) (arg7 : Memref sig .scVector .vmem S2x8x512 .f32) (harg7 : arg7.IsWhole)
    (arg8 : Memref sig .scVector .vmem S8x512 .f32) (harg8 : arg8.IsWhole) (arg9 : Memref sig .scVector .vmem S8x512 .f32) (harg9 : arg9.IsWhole)
    (arg10 : Memref sig .scVector .vmem S8x512 .f32) (harg10 : arg10.IsWhole) (arg11 : Memref sig .scVector .vmem S8x512 .f32) (harg11 : arg11.IsWhole)
    (arg12 arg13 arg14 arg15 arg16 arg17 arg18 arg19 : DmaSems sig S_) (v1 c0 c1 : BitVec 32)
    (k0_t1 : Fin k0_t1_loop.trips) (k0_h4 : k0_cond4 i k0_t1 = 1#1) (k0_t2 : Fin k0_t2_loop.trips)
    (x : Buf (Elt F) (arg4.view.loc (VT d i))) (y : Buf (Elt F) (arg8.view.loc (VT d i))) :
    (iprop((arg4.view.loc (VT d i) ↦[arg4.view.set]{fullShare} x) ∗ (arg8.view.loc (VT d i) ↦[arg8.view.set]{fullShare} y)) : sProp 𝕄)
      ⊢ wp frame (wpE (defs₀ (F := F)) 𝒱₀ (VT d i) none) Set.univ
          (k0_t2_body i arg2 harg2 arg3 harg3 arg4 harg4 arg5 harg5 arg6 harg6 arg7 harg7 arg8 harg8 arg9 harg9 arg10 harg10 arg11 harg11
            arg12 arg13 arg14 arg15 arg16 arg17 arg18 arg19 v1 c0 c1 k0_t1 k0_h4 k0_t2 ())
          fun _ => iprop((arg4.view.loc (VT d i) ↦[arg4.view.set]{fullShare} x) ∗ ∃ y', ⌜∀ q : S8x512.Idx, arg8.view.read (Elt F) y' q
            = if (q 0).val = k0_t2.val then planeSum (arg4.view.read (Elt F) x) q else arg8.view.read (Elt F) y q⌝
              ∗ (arg8.view.loc (VT d i) ↦[arg8.view.set]{fullShare} y')) := by
  iintro ⟨Hx, Hy⟩
  sl_unfold [k0_t2_body]
  sl_exec
  sl_step
  isplitl [Hx]; · iexact Hx
  iexists _
  isplitl []
  rotate_left
  · iexact Hy
  ipureintro
  intro q
  refine rowUpTo_row _ _ _ _ _ ?_ q
  iterate 32 refine rowUpTo_cons arg8.view y arg4.view x k0_t2 _ _ (by decide +kernel) (by decide +kernel) (by decide +kernel) rfl ?_
  exact rowUpTo_nil _ _ _ _

end Cert.Proof.PairSum

end
-- ==== Proof.Slices.lean ====
/- What one unit of work reads and writes: the block of the reshaped input a copy brings in, the rows of
   the result a copy takes out, and that the sums of the block are the result's values on those rows. -/
module

public import proofs.«01_k».proof.Proof.Row

@[expose] public section

noncomputable section

namespace Cert.Proof.PairSum

open Cert.KernelIdeal Cert.KernelIdeal.Gen
open Idealize.ShloMosaic

variable {F : FTy → Type} [FloatOps F]

/-- Where unit `u`'s block begins in the reshaped input: group `u / 16`, both planes, row `8 * (u % 16)`. -/
abbrev inOff (u : ℕ) : Fin 4 → ℕ := ![u / 16, 0, 8 * (u % 16), 0]
/-- Where unit `u`'s rows begin in the result. -/
abbrev outOff (u : ℕ) : Fin 3 → ℕ := ![u / 16, 8 * (u % 16), 0]

/-- The block of the reshaped input at given offsets, as the body addresses it. -/
abbrev inSlice (off : Fin 4 → ℕ) (inb : ∀ a, off a + S1x2x8x512.size a ≤ S99x2x128x512.size a) : Memref sig .scVector .hbm S2x8x512 .f32 :=
  ((Memref.whole main_v1_scv : Memref sig .scVector .hbm S99x2x128x512 .f32).slice
    (Rect.unit (s := S99x2x128x512) off S1x2x8x512.size inb) (fun _ => rfl)).squeeze S2x8x512 squeezes_S1x2x8x512_S2x8x512
/-- The rows of the result at given offsets, as the body addresses them. -/
abbrev outSlice (off : Fin 3 → ℕ) (inb : ∀ a, off a + S1x8x512.size a ≤ S99x128x512.size a) : Memref sig .scVector .hbm S8x512 .f32 :=
  ((Memref.whole main_v2_scv : Memref sig .scVector .hbm S99x128x512 .f32).slice
    (Rect.unit (s := S99x128x512) off S1x8x512.size inb) (fun _ => rfl)).squeeze S8x512 squeezes_S1x8x512_S8x512

/-- The contents `r` of an input block are unit `u`'s block of the reshaped input `X`. -/
def InBlock (X : S99x2x128x512.Idx → Elt F .f32) (u : ℕ) (r : S2x8x512.Idx → Elt F .f32) : Prop :=
  ∀ (y : S2x8x512.Idx) (z : S99x2x128x512.Idx), (z 0).val = u / 16 → (z 1).val = (y 0).val → (z 2).val = 8 * (u % 16) + (y 1).val
    → (z 3).val = (y 2).val → r y = X z

/-- The place of plane `p` of the reshaped input over the place `q` of the result. -/
def pairIx (p : Fin 2) (q : S99x128x512.Idx) : S99x2x128x512.Idx :=
  fun a => match a with
    | (0 : Fin 4) => q 0
    | (1 : Fin 4) => p
    | (2 : Fin 4) => q 1
    | (3 : Fin 4) => q 2

/-- The result: at each place the sum of the two planes of the reshaped input. -/
def sums (X : S99x2x128x512.Idx → Elt F .f32) : S99x128x512.Idx → Elt F .f32 :=
  fun q => FloatOps.addf (F := F) (φ := .f32) (X (pairIx 0 q)) (X (pairIx 1 q))

/-- The unit of work a place of the result belongs to. -/
def unitOf (q : S99x128x512.Idx) : ℕ := 16 * (q 0).val + (q 1).val / 8

/-- The places of the result that unit `u` writes. -/
def oset (u : ℕ) : Finset S99x128x512.Idx := Finset.univ.filter fun q => unitOf q = u

/-- Membership in the places of a unit. -/
theorem mem_oset {u : ℕ} {q : S99x128x512.Idx} : q ∈ oset u ↔ unitOf q = u := by simp [oset]

/-- The block copied in from unit `u`'s offsets is unit `u`'s block. -/
theorem inBlock_read (X : (Memref.whole main_v1_scv : Memref sig .scVector .hbm S99x2x128x512 .f32).view.ty.Contents (Elt F)) (u : ℕ)
    (inb : ∀ a, inOff u a + S1x2x8x512.size a ≤ S99x2x128x512.size a) :
    InBlock X u ((inSlice (inOff u) inb).view.read (Elt F) X) := by
  intro y z h0 h1 h2 h3
  show X _ = X z
  congr 1
  have hr : Shape.reshapeEquiv (s := S1x2x8x512) (s' := S2x8x512) squeezes_S1x2x8x512_S2x8x512.numel_eq y
      = ((fun a => match a with | (0 : Fin 4) => (0 : Fin 1) | (1 : Fin 4) => y 0 | (2 : Fin 4) => y 1 | (3 : Fin 4) => y 2) : S1x2x8x512.Idx) := by
    apply Shape.reshapeEquiv_eq_of_rowMajor
    rw [Shape.rowMajor_val_four, Shape.rowMajor_val_three]
    show ((0 * 2 + (y 0).val) * 8 + (y 1).val) * 512 + (y 2).val = ((y 0).val * 8 + (y 1).val) * 512 + (y 2).val
    omega
  show (Rect.unit (s := S99x2x128x512) (inOff u) S1x2x8x512.size inb).emb (Shape.reshapeEquiv _ y) = z
  rw [hr]
  funext a
  apply Fin.ext
  match a with
  | (0 : Fin 4) => show u / 16 + 1 * 0 = (z 0).val; omega
  | (1 : Fin 4) => show 0 + 1 * (y 0).val = (z 1).val; omega
  | (2 : Fin 4) => show 8 * (u % 16) + 1 * (y 1).val = (z 2).val; omega
  | (3 : Fin 4) => show 0 + 1 * (y 2).val = (z 3).val; omega

/-- The place of the result under a place of unit `u`'s rows. -/
theorem outSlice_emb (u : ℕ) (inb : ∀ a, outOff u a + S1x8x512.size a ≤ S99x128x512.size a) (y : S8x512.Idx) (q : S99x128x512.Idx)
    (h0 : (q 0).val = u / 16) (h1 : (q 1).val = 8 * (u % 16) + (y 0).val) (h2 : (q 2).val = (y 1).val) :
    (outSlice (outOff u) inb).view.emb y = q := by
  have hr : Shape.reshapeEquiv (s := S1x8x512) (s' := S8x512) squeezes_S1x8x512_S8x512.numel_eq y
      = ((fun a => match a with | (0 : Fin 3) => (0 : Fin 1) | (1 : Fin 3) => y 0 | (2 : Fin 3) => y 1) : S1x8x512.Idx) := by
    apply Shape.reshapeEquiv_eq_of_rowMajor
    rw [Shape.rowMajor_val_three, Shape.rowMajor_val_two]
    show (0 * 8 + (y 0).val) * 512 + (y 1).val = (y 0).val * 512 + (y 1).val
    omega
  show (Rect.unit (s := S99x128x512) (outOff u) S1x8x512.size inb).emb (Shape.reshapeEquiv _ y) = q
  rw [hr]
  funext a
  apply Fin.ext
  match a with
  | (0 : Fin 3) => show u / 16 + 1 * 0 = (q 0).val; omega
  | (1 : Fin 3) => show 8 * (u % 16) + 1 * (y 0).val = (q 1).val; omega
  | (2 : Fin 3) => show 0 + 1 * (y 1).val = (q 2).val; omega

/-- The place of unit `u`'s rows that holds a place of the result it writes. -/
def rowOf (q : S99x128x512.Idx) : S8x512.Idx := fun a => match a with
  | (0 : Fin 2) => (⟨(q 1).val % 8, by omega⟩ : Fin 8)
  | (1 : Fin 2) => q 2

/-- A place of the result lies in its unit's rows at its row within them. -/
theorem emb_rowOf (u : ℕ) (inb : ∀ a, outOff u a + S1x8x512.size a ≤ S99x128x512.size a) (q : S99x128x512.Idx) (hq : unitOf q = u) :
    (outSlice (outOff u) inb).view.emb (rowOf q) = q := by
  have h1 : (q 1).val < 128 := (q 1).isLt
  unfold unitOf at hq
  refine outSlice_emb u inb _ q (by omega) ?_ rfl
  show (q 1).val = 8 * (u % 16) + (q 1).val % 8
  omega

/-- The rows of unit `u` are the places of the result that belong to it. -/
theorem outSlice_set (u : ℕ) (inb : ∀ a, outOff u a + S1x8x512.size a ≤ S99x128x512.size a) :
    (outSlice (outOff u) inb).view.set = oset u := by
  ext q
  constructor
  · intro hq
    obtain ⟨y, -, hy⟩ := Finset.mem_map.mp hq
    refine Finset.mem_filter.mpr ⟨Finset.mem_univ _, ?_⟩
    have hi : ∀ a, outOff u a + S1x8x512.size a ≤ S99x128x512.size a := inb
    have i1 : 8 * (u % 16) + 8 ≤ 128 := inb 1
    have i0 : u / 16 + 1 ≤ 99 := inb 0
    have y0 : (y 0).val < 8 := (y 0).isLt
    have y1 : (y 1).val < 512 := (y 1).isLt
    have := outSlice_emb u inb y ((fun a => match a with
      | (0 : Fin 3) => (⟨u / 16, by omega⟩ : Fin 99)
      | (1 : Fin 3) => (⟨8 * (u % 16) + (y 0).val, by omega⟩ : Fin 128)
      | (2 : Fin 3) => y 1) : S99x128x512.Idx) rfl rfl rfl
    rw [← hy, this]
    show 16 * (u / 16) + (8 * (u % 16) + (y 0).val) / 8 = u
    omega
  · intro hq
    exact Finset.mem_map.mpr ⟨rowOf q, Finset.mem_univ _, emb_rowOf u inb q (Finset.mem_filter.mp hq).2⟩

/-- The sums of unit `u`'s block are the result's values on its rows. -/
theorem planeSum_eq {X : S99x2x128x512.Idx → Elt F .f32} {u : ℕ} {r : S2x8x512.Idx → Elt F .f32} (h : InBlock X u r)
    (q : S99x128x512.Idx) (hq : unitOf q = u) : planeSum r (rowOf q) = sums X q := by
  have h1 : (q 1).val < 128 := (q 1).isLt
  unfold unitOf at hq
  have key : ∀ p : Fin 2, r (plane p (rowOf q)) = X (pairIx p q) := fun p =>
    h (plane p (rowOf q)) (pairIx p q) (by show (q 0).val = _; omega) rfl
      (by show (q 1).val = 8 * (u % 16) + (q 1).val % 8; omega) rfl
  exact congrArg₂ (FloatOps.addf (F := F) (φ := .f32)) (key 0) (key 1)

/-- Copying out the sums of unit `u`'s block leaves its rows of the result at their final values. -/
theorem write_eq {X : S99x2x128x512.Idx → Elt F .f32} {u : ℕ} {r : S2x8x512.Idx → Elt F .f32} (h : InBlock X u r)
    (inb : ∀ a, outOff u a + S1x8x512.size a ≤ S99x128x512.size a) (f : (outSlice (outOff u) inb).view.ty.Contents (Elt F))
    (w : S8x512.Idx → Elt F .f32) (hw : ∀ y, w y = planeSum r y) (q : S99x128x512.Idx) (hq : q ∈ oset u) :
    (outSlice (outOff u) inb).view.write (Elt F) f w Finset.univ q = sums X q := by
  have hu := (Finset.mem_filter.mp hq).2
  have e := emb_rowOf u inb q hu
  rw [← planeSum_eq h q hu, ← hw]
  have := congrFun (View.read_write_univ (Val := Elt F) (v := (outSlice (outOff u) inb).view) f w) (rowOf q)
  rw [← this]
  show _ = (outSlice (outOff u) inb).view.write (Elt F) f w Finset.univ ((outSlice (outOff u) inb).view.emb (rowOf q))
  rw [e]

end Cert.Proof.PairSum

end
-- ==== Proof.Guards.lean ====
/- The body's guards and offsets in closed form: which unit each step of the ring works on, and whether there is one. -/
module

public import proofs.«01_k».proof.Proof.Slices

@[expose] public section

namespace Cert.Proof.PairSum

open Cert.KernelIdeal Cert.KernelIdeal.Gen
open Idealize.ShloMosaic

/-- The tile's number among the 32: `2 *` subcore `+` core. -/
def wid (i : grid0.Coords) : ℕ := 2 * (i 1).val + (i 0).val
/-- The `k`-th unit of work of a tile. -/
def unit (i : grid0.Coords) (k : ℕ) : ℕ := wid i + 32 * k
/-- A tile has a `k`-th unit when it lies below the 1584 there are. -/
abbrev valid (i : grid0.Coords) (k : ℕ) : Prop := unit i k < 1584

/-- The copies in, four slots deep: each is started three units ahead when there is such a unit. -/
theorem cond_prefetch : ∀ (i : grid0.Coords) (t : Fin k0_t1_loop.trips),
    (k0_cond1 i t = 1#1 ↔ valid i (4 * t.val + 3)) ∧ (k0_cond5 i t = 1#1 ↔ valid i (4 * t.val + 4))
    ∧ (k0_cond9 i t = 1#1 ↔ valid i (4 * t.val + 5)) ∧ (k0_cond13 i t = 1#1 ↔ valid i (4 * t.val + 6)) := by
  decide +kernel

/-- The waits for the copies in: each when there is such a unit. -/
theorem cond_arrive : ∀ (i : grid0.Coords) (t : Fin k0_t1_loop.trips),
    (k0_cond2 i t = 1#1 ↔ valid i (4 * t.val)) ∧ (k0_cond6 i t = 1#1 ↔ valid i (4 * t.val + 1))
    ∧ (k0_cond10 i t = 1#1 ↔ valid i (4 * t.val + 2)) ∧ (k0_cond14 i t = 1#1 ↔ valid i (4 * t.val + 3)) := by
  decide +kernel

/-- The waits for the copies out: each for the unit four before, when there is one. -/
theorem cond_retire : ∀ (i : grid0.Coords) (t : Fin k0_t1_loop.trips),
    (k0_cond3 i t = 1#1 ↔ 4 ≤ 4 * t.val ∧ valid i (4 * t.val - 4)) ∧ (k0_cond7 i t = 1#1 ↔ 4 ≤ 4 * t.val + 1 ∧ valid i (4 * t.val + 1 - 4))
    ∧ (k0_cond11 i t = 1#1 ↔ 4 ≤ 4 * t.val + 2 ∧ valid i (4 * t.val + 2 - 4)) ∧ (k0_cond15 i t = 1#1 ↔ 4 ≤ 4 * t.val + 3 ∧ valid i (4 * t.val + 3 - 4)) := by
  decide +kernel

/-- The sums and the copies out: each when there is such a unit. -/
theorem cond_sum : ∀ (i : grid0.Coords) (t : Fin k0_t1_loop.trips),
    (k0_cond4 i t = 1#1 ↔ valid i (4 * t.val)) ∧ (k0_cond8 i t = 1#1 ↔ valid i (4 * t.val + 1))
    ∧ (k0_cond12 i t = 1#1 ↔ valid i (4 * t.val + 2)) ∧ (k0_cond16 i t = 1#1 ↔ valid i (4 * t.val + 3)) := by
  decide +kernel

/-- The last waits for the copies out. -/
theorem cond_drain : ∀ i : grid0.Coords,
    (k0_cond17 i = 1#1 ↔ 4 ≤ 52 ∧ valid i (52 - 4)) ∧ (k0_cond18 i = 1#1 ↔ 4 ≤ 53 ∧ valid i (53 - 4))
    ∧ (k0_cond19 i = 1#1 ↔ 4 ≤ 54 ∧ valid i (54 - 4)) ∧ (k0_cond20 i = 1#1 ↔ 4 ≤ 55 ∧ valid i (55 - 4)) := by
  decide +kernel

/-- The first three copies in. -/
theorem off_first : ∀ i : grid0.Coords, k0_off1 i 0#32 = inOff (unit i 0) ∧ k0_off1 i 32#32 = inOff (unit i 1) ∧ k0_off1 i 64#32 = inOff (unit i 2) := by
  decide +kernel

/-- A copy in starts at its unit's block. -/
theorem off_prefetch : ∀ (i : grid0.Coords) (t : Fin k0_t1_loop.trips),
    (k0_cond1 i t = 1#1 → k0_off2 i t = inOff (unit i (4 * t.val + 3))) ∧ (k0_cond5 i t = 1#1 → k0_off102 i t = inOff (unit i (4 * t.val + 4)))
    ∧ (k0_cond9 i t = 1#1 → k0_off202 i t = inOff (unit i (4 * t.val + 5))) ∧ (k0_cond13 i t = 1#1 → k0_off302 i t = inOff (unit i (4 * t.val + 6))) := by
  decide +kernel

/-- A copy out goes to its unit's rows. -/
theorem off_sum : ∀ (i : grid0.Coords) (t : Fin k0_t1_loop.trips),
    (k0_cond4 i t = 1#1 → k0_off101 i t = outOff (unit i (4 * t.val))) ∧ (k0_cond8 i t = 1#1 → k0_off201 i t = outOff (unit i (4 * t.val + 1)))
    ∧ (k0_cond12 i t = 1#1 → k0_off301 i t = outOff (unit i (4 * t.val + 2))) ∧ (k0_cond16 i t = 1#1 → k0_off401 i t = outOff (unit i (4 * t.val + 3))) := by
  decide +kernel

end Cert.Proof.PairSum
-- ==== Proof.RowLoop.lean ====
/- The row loop of one unit: eight trips, one per row, fill the output block with the sums of the input
   block's planes. The body prints the loop four times; the last three are the first at other buffers. -/
module

public import proofs.«01_k».proof.Proof.Guards

@[expose] public section

noncomputable section

namespace Cert.Proof.PairSum

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (i : grid0.Coords) (arg2 : Memref sig .scVector .hbm S99x2x128x512 .f32) (harg2 : arg2.IsWhole)
    (arg3 : Memref sig .scVector .hbm S99x128x512 .f32) (harg3 : arg3.IsWhole)
    (arg4 : Memref sig .scVector .vmem S2x8x512 .f32) (harg4 : arg4.IsWhole) (arg5 : Memref sig .scVector .vmem S2x8x512 .f32) (harg5 : arg5.IsWhole)
    (arg6 : Memref sig .scVector .vmem S2x8x512 .f32) (harg6 : arg6.IsWhole) (arg7 : Memref sig .scVector .vmem S2x8x512 .f32) (harg7 : arg7.IsWhole)
    (arg8 : Memref sig .scVector .vmem S8x512 .f32) (harg8 : arg8.IsWhole) (arg9 : Memref sig .scVector .vmem S8x512 .f32) (harg9 : arg9.IsWhole)
    (arg10 : Memref sig .scVector .vmem S8x512 .f32) (harg10 : arg10.IsWhole) (arg11 : Memref sig .scVector .vmem S8x512 .f32) (harg11 : arg11.IsWhole)
    (arg12 arg13 arg14 arg15 arg16 arg17 arg18 arg19 : DmaSems sig S_)

/-- When a tile has the unit of a later step of a trip, it has that of the trip's first step. -/
theorem first_of_later (t : Fin k0_t1_loop.trips) {n : ℕ} (h : valid i (4 * t.val + n)) : k0_cond4 i t = 1#1 :=
  (cond_sum i t).1.mpr (by unfold valid unit at *; omega)

/-- The second printed row loop is the first one at its own two blocks. -/
theorem t3_eq (v1 : BitVec 32) (arg20 v65 v67 : BitVec 32) (v68 : BitVec 1) (v70 v73 c0_i32_49 : BitVec 32) (u w z : BitVec 32) (k0_t1 : Fin k0_t1_loop.trips) (h : k0_cond8 i k0_t1 = 1#1) :
    k0_t3_body (F := F) i arg2 harg2 arg3 harg3 arg4 harg4 arg5 harg5 arg6 harg6 arg7 harg7 arg8 harg8 arg9 harg9 arg10 harg10 arg11 harg11 arg12 arg13 arg14 arg15 arg16 arg17 arg18 arg19 v1 k0_t1 arg20 v65 v67 v68 v70 v73 c0_i32_49 h
      = k0_t2_body (F := F) i arg2 harg2 arg3 harg3 arg5 harg5 arg4 harg4 arg6 harg6 arg7 harg7 arg9 harg9 arg8 harg8 arg10 harg10 arg11 harg11 arg12 arg13 arg14 arg15 arg16 arg17 arg18 arg19 u w z k0_t1
          (first_of_later i k0_t1 ((cond_sum i k0_t1).2.1.mp h)) := rfl

/-- The third printed row loop is the first one at its own two blocks. -/
theorem t4_eq (u w z : BitVec 32) (k0_t1 : Fin k0_t1_loop.trips) (h : k0_cond12 i k0_t1 = 1#1) :
    k0_t4_body (F := F) i arg2 harg2 arg3 harg3 arg4 harg4 arg5 harg5 arg6 harg6 arg7 harg7 arg8 harg8 arg9 harg9 arg10 harg10 arg11 harg11 arg12 arg13 arg14 arg15 arg16 arg17 arg18 arg19 k0_t1 h
      = k0_t2_body (F := F) i arg2 harg2 arg3 harg3 arg6 harg6 arg5 harg5 arg4 harg4 arg7 harg7 arg10 harg10 arg9 harg9 arg8 harg8 arg11 harg11 arg12 arg13 arg14 arg15 arg16 arg17 arg18 arg19 u w z k0_t1
          (first_of_later i k0_t1 ((cond_sum i k0_t1).2.2.1.mp h)) := rfl

/-- The fourth printed row loop is the first one at its own two blocks. -/
theorem t5_eq (u w z : BitVec 32) (k0_t1 : Fin k0_t1_loop.trips) (h : k0_cond16 i k0_t1 = 1#1) :
    k0_t5_body (F := F) i arg2 harg2 arg3 harg3 arg4 harg4 arg5 harg5 arg6 harg6 arg7 harg7 arg8 harg8 arg9 harg9 arg10 harg10 arg11 harg11 arg12 arg13 arg14 arg15 arg16 arg17 arg18 arg19 k0_t1 h
      = k0_t2_body (F := F) i arg2 harg2 arg3 harg3 arg7 harg7 arg5 harg5 arg6 harg6 arg4 harg4 arg11 harg11 arg9 harg9 arg10 harg10 arg8 harg8 arg12 arg13 arg14 arg15 arg16 arg17 arg18 arg19 u w z k0_t1
          (first_of_later i k0_t1 ((cond_sum i k0_t1).2.2.2.mp h)) := rfl

/-- Before trip `t` of the row loop: the input block, and an output block whose first `t` rows read the sums. -/
def RowInv (x : Buf (Elt F) (arg4.view.loc (VT d i))) (t : ℕ) : sProp 𝕄 :=
  iprop((arg4.view.loc (VT d i) ↦[arg4.view.set]{fullShare} x)
      ∗ ∃ y, ⌜∀ q : S8x512.Idx, (q 0).val < t → arg8.view.read (Elt F) y q = planeSum (arg4.view.read (Elt F) x) q⌝
        ∗ (arg8.view.loc (VT d i) ↦[arg8.view.set]{fullShare} y))

/-- The row loop from any input block and any output block: the output block then reads the sums of the input block's planes. -/
theorem row_loop (v1 c0 c1 : BitVec 32) (k0_t1 : Fin k0_t1_loop.trips) (k0_h4 : k0_cond4 i k0_t1 = 1#1)
    (x : Buf (Elt F) (arg4.view.loc (VT d i))) :
    (iprop((arg4.view.loc (VT d i) ↦[arg4.view.set]{fullShare} x) ∗ ∃ y, (arg8.view.loc (VT d i) ↦[arg8.view.set]{fullShare} y)) : sProp 𝕄)
      ⊢ wp frame (wpE (defs₀ (F := F)) 𝒱₀ (VT d i) none) Set.univ
          (Scf.Loop.for k0_t2_loop (k0_t2_ok i k0_t1 k0_h4) ⟨⟩ (k0_t2_body (F := F) i arg2 harg2 arg3 harg3 arg4 harg4 arg5 harg5 arg6 harg6 arg7 harg7 arg8 harg8 arg9 harg9 arg10 harg10 arg11 harg11 arg12 arg13 arg14 arg15 arg16 arg17 arg18 arg19 v1 c0 c1 k0_t1 k0_h4))
          fun _ => iprop((arg4.view.loc (VT d i) ↦[arg4.view.set]{fullShare} x)
            ∗ ∃ y, ⌜∀ q : S8x512.Idx, arg8.view.read (Elt F) y q = planeSum (arg4.view.read (Elt F) x) q⌝
              ∗ (arg8.view.loc (VT d i) ↦[arg8.view.set]{fullShare} y)) := by
  have hb : ∀ (t : Fin k0_t2_loop.trips) (_ : Unit), RowInv d i arg4 arg8 x t.val
      ⊢ wp frame (wpE (defs₀ (F := F)) 𝒱₀ (VT d i) none) Set.univ
          (k0_t2_body (F := F) i arg2 harg2 arg3 harg3 arg4 harg4 arg5 harg5 arg6 harg6 arg7 harg7 arg8 harg8 arg9 harg9 arg10 harg10 arg11 harg11 arg12 arg13 arg14 arg15 arg16 arg17 arg18 arg19 v1 c0 c1 k0_t1 k0_h4 t ()) fun _ => RowInv d i arg4 arg8 x (t.val + 1) := by
    intro t _
    unfold RowInv
    iintro ⟨Hx, %y, %hy, Hy⟩
    iapply (wp_wand_r frame (wpE (defs₀ (F := F)) 𝒱₀ (VT d i) none) Set.univ)
    isplitl [Hx Hy]
    · iapply (row_trip d i arg2 harg2 arg3 harg3 arg4 harg4 arg5 harg5 arg6 harg6 arg7 harg7 arg8 harg8 arg9 harg9 arg10 harg10 arg11 harg11
        arg12 arg13 arg14 arg15 arg16 arg17 arg18 arg19 v1 c0 c1 k0_t1 k0_h4 t x y)
      isplitl [Hx] <;> iassumption
    iintro %_ ⟨Hx, %y', %hy', Hy⟩
    isplitl [Hx]; · iexact Hx
    iexists y'
    isplitl []
    · ipureintro
      intro q hq
      rw [hy' q]
      split
      · rfl
      · exact hy q (by omega)
    iexact Hy
  iintro ⟨Hx, ⟨%y, Hy⟩⟩
  iapply (Scf.wp_for frame (wpE (defs₀ (F := F)) 𝒱₀ (VT d i) none) Set.univ
    (I := fun t _ => RowInv d i arg4 arg8 x t) (hbody := hb))
  isplitl [Hx Hy]
  · unfold RowInv
    isplitl [Hx]; · iexact Hx
    iexists y
    isplitl []
    · ipureintro
      intro q hq
      exact absurd hq (Nat.not_lt_zero _)
    iexact Hy
  iintro %_ HI
  unfold RowInv
  icases HI with ⟨Hx, %y', %hy', Hy⟩
  isplitl [Hx]; · iexact Hx
  iexists y'
  isplitl []
  · ipureintro
    intro q
    exact hy' q (q 0).isLt
  iexact Hy

end Cert.Proof.PairSum

end
-- ==== Proof.Ring.lean ====
/- The ring of four input and four output blocks of a tile: what it holds of a block idle, or with its copy
   under way, and the four guarded actions a step of the ring is made of. -/
module

public import proofs.«01_k».proof.Proof.RowLoop
public import Idealize.ShloMosaic.Lib.Transfers
public import Idealize.ShloMosaic.Lib.SparseCore.FromWhole

@[expose] public section

noncomputable section

namespace Cert.Proof.PairSum

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- Where the transfers' counters sit. -/
abbrev EC : UEmb Counters (MT nD τ sig (HIx 1) (Elt F) ℕ UU ℕ) := countersEmb

variable (d : Dev nD) (i : grid0.Coords) (X : Buf (Elt F) (xLoc d)) (Z : Buf (Elt F) (oLoc d))

/-- The `k`-th unit, when the tile has one. -/
def opt (k : ℕ) : Option ℕ := if valid i k then some (unit i k) else none
/-- The unit four before the `k`-th, when there is one. -/
def prev (k : ℕ) : Option ℕ := if 4 ≤ k ∧ valid i (k - 4) then some (unit i (k - 4)) else none

/-- An input block at rest with its copy's semaphore at zero and its share of the input; `P` says what the block reads. -/
def InRest (b : Memref sig .scVector .vmem S2x8x512 .f32) (sem : DmaSem sig) (q : PosShare TreeShare)
    (P : (S2x8x512.Idx → Elt F .f32) → Prop) : sProp 𝕄 :=
  iprop((∃ f, ⌜P (b.view.read (Elt F) f)⌝ ∗ (b.view.loc (VT d i) ↦[b.view.set]{fullShare} f)) ∗ (xLoc d ↦{q} X)
    ∗ semVal (VT d i, SemLoc.dma sem) 0)

/-- An input block: at rest, or with the copy of a unit's block into it under way. -/
def InSt (b : Memref sig .scVector .vmem S2x8x512 .f32) (sem : DmaSem sig) (q : PosShare TreeShare) : Option ℕ → sProp 𝕄
  | none => InRest d i X b sem q fun _ => True
  | some u => Transfers.Flight EC (VT d i) (.dma sem) (default : HIx 1) (b.view.amount (.dma sem))
      iprop((∃ f, ⌜InBlock X u (b.view.read (Elt F) f)⌝ ∗ (b.view.loc (VT d i) ↦[b.view.set]{fullShare} f)) ∗ (xLoc d ↦{q} X))

/-- What a copy out of a block of eight rows counts on its semaphore. -/
abbrev outAmount : ℕ := (outSlice (outOff 0) (by decide)).view.dmaCredit

/-- An output block: at rest, or with the copy of a unit's rows out of it under way. -/
def OutSt (b : Memref sig .scVector .vmem S8x512 .f32) (sem : DmaSem sig) : Option ℕ → sProp 𝕄
  | none => iprop((∃ f, (b.view.loc (VT d i) ↦[b.view.set]{fullShare} f)) ∗ semVal (VT d i, SemLoc.dma sem) 0)
  | some u => Transfers.Flight EC (VT d i) (.dma sem) (default : HIx 1) outAmount
      iprop((∃ f, (b.view.loc (VT d i) ↦[b.view.set]{fullShare} f)) ∗ (oLoc d ↦[oset u]{fullShare} (sums X : Buf (Elt F) (oLoc d))))

/-- The places of the result in the tile's units from the `k`-th on. -/
def todoSet (k : ℕ) : Finset S99x128x512.Idx := Finset.univ.filter fun q => unitOf q % 32 = wid i ∧ wid i + 32 * k ≤ unitOf q
/-- The places of the result in the tile's units before the `k`-th but the last four. -/
def doneSet (k : ℕ) : Finset S99x128x512.Idx := Finset.univ.filter fun q => unitOf q % 32 = wid i ∧ unitOf q + 128 < wid i + 32 * k

/-- The part of the result the tile has still to copy out. -/
def Todo (k : ℕ) : sProp 𝕄 := iprop(oLoc d ↦[todoSet i k]{fullShare} Z)
/-- The part of the result whose copies have landed. -/
def Done (k : ℕ) : sProp 𝕄 := iprop(oLoc d ↦[doneSet i k]{fullShare} (sums X : Buf (Elt F) (oLoc d)))

/-- The tile may wait at any of its semaphores under what it owes the launch. -/
def Owed (O : CellTallies nD τ sig (HIx 1)) : sProp 𝕄 :=
  iprop(Transfers.MayWaits (VT d i) (default : HIx 1) O ∗ ∃ W, owes (VT d i) O W)

variable {d i X Z}

/-- Membership in the places of the units from the `k`-th on. -/
theorem mem_todo {k : ℕ} {q : S99x128x512.Idx} : q ∈ todoSet i k ↔ unitOf q % 32 = wid i ∧ wid i + 32 * k ≤ unitOf q := by simp [todoSet]
/-- Membership in the places of the units before the `k`-th but the last four. -/
theorem mem_done {k : ℕ} {q : S99x128x512.Idx} : q ∈ doneSet i k ↔ unitOf q % 32 = wid i ∧ unitOf q + 128 < wid i + 32 * k := by simp [doneSet]

/-- A tile's number is below 32. -/
theorem wid_lt (i : grid0.Coords) : wid i < 32 := by
  have h0 : (i 0).val < 2 := (i 0).isLt
  have h1 : (i 1).val < 16 := (i 1).isLt
  unfold wid; omega

/-- The places still to copy out are the next unit's and those after it. -/
theorem todo_step (k : ℕ) : (Todo d i Z k : sProp 𝕄) = iprop((oLoc d ↦[oset (unit i k)]{fullShare} Z) ∗ Todo d i Z (k + 1)) := by
  have hw := wid_lt i
  have hd : Disjoint (oset (unit i k)) (todoSet i (k + 1)) := by
    refine Finset.disjoint_left.mpr fun q h1 h2 => ?_
    have h1 := (Finset.mem_filter.mp h1).2
    have h2 := (Finset.mem_filter.mp h2).2
    unfold unit at h1
    omega
  have hu : todoSet i k = oset (unit i k) ∪ todoSet i (k + 1) := Finset.ext fun (q : S99x128x512.Idx) => by
    rw [Finset.mem_union, mem_todo, mem_oset, mem_todo]; unfold unit
    omega
  unfold Todo
  rw [hu]
  exact BI.equiv_iff.mp ⟨(pointsTo_union hd).1, (pointsTo_union hd).2⟩

/-- The places landed grow by those of the unit four before. -/
theorem done_step (k : ℕ) (hk : 4 ≤ k) : (Done d i X (k + 1) : sProp 𝕄)
    = iprop((oLoc d ↦[oset (unit i (k - 4))]{fullShare} (sums X : Buf (Elt F) (oLoc d))) ∗ Done d i X k) := by
  have hw := wid_lt i
  have hd : Disjoint (oset (unit i (k - 4))) (doneSet i k) := by
    refine Finset.disjoint_left.mpr fun q h1 h2 => ?_
    have h1 := (Finset.mem_filter.mp h1).2
    have h2 := (Finset.mem_filter.mp h2).2
    unfold unit at h1
    omega
  have hu : doneSet i (k + 1) = oset (unit i (k - 4)) ∪ doneSet i k := Finset.ext fun (q : S99x128x512.Idx) => by
    rw [Finset.mem_union, mem_done, mem_oset, mem_done]; unfold unit
    omega
  unfold Done
  rw [hu]
  exact BI.equiv_iff.mp ⟨(pointsTo_union hd).1, (pointsTo_union hd).2⟩

/-- A place of the result belongs to one of the 1584 units. -/
theorem unitOf_lt (q : S99x128x512.Idx) : unitOf q < 1584 := by
  have h0 : (q 0).val < 99 := (q 0).isLt
  have h1 : (q 1).val < 128 := (q 1).isLt
  unfold unitOf; omega

/-- When there is no `k`-th unit, nothing is left to copy out at it. -/
theorem todo_skip (k : ℕ) (h : ¬ valid i k) : (Todo d i Z k : sProp 𝕄) = Todo d i Z (k + 1) := by
  have hu : todoSet i k = todoSet i (k + 1) := by
    ext q
    have := unitOf_lt q
    simp only [valid, unit, todoSet, Finset.mem_filter, Finset.mem_univ, true_and] at *
    omega
  unfold Todo; rw [hu]

/-- When there is no unit four before the `k`-th, nothing lands at it. -/
theorem done_skip (k : ℕ) (h : ¬ (4 ≤ k ∧ valid i (k - 4))) : (Done d i X k : sProp 𝕄) = Done d i X (k + 1) := by
  have hw := wid_lt i
  have hu : doneSet i k = doneSet i (k + 1) := by
    ext q
    have := unitOf_lt q
    simp only [valid, unit, doneSet, Finset.mem_filter, Finset.mem_univ, true_and] at *
    omega
  unfold Done; rw [hu]

section Actions

variable {α : Type} {K : Prog (TpuEff nD τ sig (Elt F) Λ₀ (.scVector ((i 0).castLE hcore0) ((i 1).castLE hsub0))) α}
  {Q : α → sProp (MT nD τ sig (HIx 1) (Elt F) ℕ UU ℕ)} {c : BitVec 1} {k : ℕ}

/-- A copy in of the `k`-th unit's block, into an input block at rest. -/
theorem enqueue_in {off : Fin 4 → ℕ} {inb : ∀ a, off a + S1x2x8x512.size a ≤ S99x2x128x512.size a}
    (u : ℕ) (hoff : off = inOff u)
    (b : Memref sig .scVector .vmem S2x8x512 .f32) (sem : DmaSem sig) (q : PosShare TreeShare) {hb : b.view.WordExact} :
    InSt d i X b sem q none ⊢ iprop((InSt d i X b sem q (some u) -∗ wp frame (wpE (defs₀ (F := F)) 𝒱₀ (VT d i) none) Set.univ K Q)
      -∗ wp frame (wpE (defs₀ (F := F)) 𝒱₀ (VT d i) none) Set.univ
          (Prog.lift (.enqueueDma (inSlice off inb) (.here b) (.dma sem) ((View.wordExact_bits rfl).reshape _ _) hb ⟨Or.inl rfl, trivial⟩)
            >>= fun _ => K) Q) := by
  subst hoff
  unfold InSt InRest
  iintro ⟨⟨%f, %_, Hb⟩, Hx, Hs⟩ HK
  iapply (Transfers.wp_dmaFromWhole EC 𝒱₀ (VT d i) none (src := inSlice (inOff u) inb) (dst := b) (q := q) (fs := X) (fd := f)
    (default : HIx 1) (b.view.amount (.dma sem)) rfl (View.amount_pos _ _ (by decide)) (Finset.Subset.refl b.view.set)) $$ [Hb Hx Hs]
  · iframe Hb Hs; iexact Hx
  iintro Hf
  iapply HK
  iapply (Transfers.Flight_mono EC (VT d i) ?_) $$ Hf
  iintro ⟨Hb, Hx⟩
  isplitr [Hx]
  · iexists _
    isplitl []
    rotate_left
    · iexact Hb
    ipureintro
    rw [View.read_write_univ]
    exact inBlock_read X u inb
  iexact Hx

/-- PREFETCH: an input block at rest then has the `k`-th unit's copy under way, when there is such a unit. -/
theorem act_prefetch (hc : c = 1#1 ↔ valid i k) {off : Fin 4 → ℕ} {inb : c = 1#1 → ∀ a, off a + S1x2x8x512.size a ≤ S99x2x128x512.size a}
    (hoff : c = 1#1 → off = inOff (unit i k))
    (b : Memref sig .scVector .vmem S2x8x512 .f32) (sem : DmaSem sig) (q : PosShare TreeShare) {hb : b.view.WordExact} :
    InSt d i X b sem q none ⊢ iprop((InSt d i X b sem q (opt i k) -∗ wp frame (wpE (defs₀ (F := F)) 𝒱₀ (VT d i) none) Set.univ K Q)
      -∗ wp frame (wpE (defs₀ (F := F)) 𝒱₀ (VT d i) none) Set.univ
          (dite (c = 1#1) (fun h => Prog.lift (.enqueueDma (inSlice off (inb h)) (.here b) (.dma sem)
            ((View.wordExact_bits rfl).reshape _ _) hb ⟨Or.inl rfl, trivial⟩) >>= fun _ => K) (fun _ => K)) Q) := by
  by_cases h : c = 1#1
  · rw [dif_pos h, opt, if_pos (hc.mp h)]
    exact enqueue_in (unit i k) (hoff h) b sem q
  · rw [dif_neg h, opt, if_neg (fun hv => h (hc.mpr hv))]
    iintro H HK
    iapply HK; iexact H

/-- ARRIVE: the wait leaves the input block at rest, reading the `k`-th unit's block when there is such a unit. -/
theorem act_arrive (hc : c = 1#1 ↔ valid i k) {off : Fin 4 → ℕ} {inb : c = 1#1 → ∀ a, off a + S1x2x8x512.size a ≤ S99x2x128x512.size a}
    (b : Memref sig .scVector .vmem S2x8x512 .f32) (sem : DmaSem sig) (q : PosShare TreeShare) {hb : b.view.WordExact}
    {O : CellTallies nD τ sig (HIx 1)} :
    iprop(InSt d i X b sem q (opt i k) ∗ Owed d i O) ⊢ iprop((iprop(InRest d i X b sem q (fun r => valid i k → InBlock X (unit i k) r) ∗ Owed d i O)
        -∗ wp frame (wpE (defs₀ (F := F)) 𝒱₀ (VT d i) none) Set.univ K Q)
      -∗ wp frame (wpE (defs₀ (F := F)) 𝒱₀ (VT d i) none) Set.univ
          (dite (c = 1#1) (fun h => Prog.lift (.waitDma2 sem (inSlice off (inb h)) b
            ((View.wordExact_bits rfl).reshape _ _) hb) >>= fun _ => K) (fun _ => K)) Q) := by
  by_cases h : c = 1#1
  · have hv := hc.mp h
    rw [dif_pos h, opt, if_pos hv]
    unfold InSt InRest Owed
    iintro ⟨Hf, #Hm, %W, HO⟩ HK
    iapply (Transfers.wp_waitLocalO EC 𝒱₀ (VT d i) none (srcw := inSlice off (inb h)) (dstw := b) (default : HIx 1) (O := O) (W := W) rfl) $$ [Hf HO]
    · isplitl [Hf]; · iexact Hf
      isplitl [HO]; · iexact HO
      iapply (Transfers.MayWaits.elim (SemLoc.dma sem)); iexact Hm
    iintro ⟨⟨⟨%f, %hf, Hb⟩, Hx⟩, Hs, HO⟩
    iapply HK
    isplitl [Hb Hx Hs]
    · iframe Hx Hs
      iexists f
      isplitl []
      · ipureintro; exact fun _ => hf
      iexact Hb
    isplitl []; · iexact Hm
    iexists _; iexact HO
  · have hv : ¬ valid i k := fun hv => h (hc.mpr hv)
    rw [dif_neg h, opt, if_neg hv]
    unfold InSt InRest
    iintro ⟨⟨⟨%f, %_, Hb⟩, Hx, Hs⟩, HO⟩ HK
    iapply HK
    iframe HO Hx Hs
    iexists f
    isplitl []
    · ipureintro; exact fun hv' => absurd hv' hv
    iexact Hb

/-- RETIRE: the wait leaves the output block at rest and the rows of the unit four before landed, when there is such a unit. -/
theorem act_retire (hc : c = 1#1 ↔ 4 ≤ k ∧ valid i (k - 4)) {off : Fin 3 → ℕ}
    {inb : c = 1#1 → ∀ a, off a + S1x8x512.size a ≤ S99x128x512.size a}
    (b : Memref sig .scVector .vmem S8x512 .f32) (sem : DmaSem sig) {hb : b.view.WordExact} {O : CellTallies nD τ sig (HIx 1)} :
    iprop(OutSt d i X b sem (prev i k) ∗ Owed d i O ∗ Done d i X k) ⊢ iprop((iprop(OutSt d i X b sem none ∗ Owed d i O ∗ Done d i X (k + 1))
        -∗ wp frame (wpE (defs₀ (F := F)) 𝒱₀ (VT d i) none) Set.univ K Q)
      -∗ wp frame (wpE (defs₀ (F := F)) 𝒱₀ (VT d i) none) Set.univ
          (dite (c = 1#1) (fun h => Prog.lift (.waitDma2 sem b (outSlice off (inb h)) hb
            ((View.wordExact_bits rfl).reshape _ _)) >>= fun _ => K) (fun _ => K)) Q) := by
  by_cases h : c = 1#1
  · have hv := hc.mp h
    rw [dif_pos h, prev, if_pos hv, done_step k hv.1]
    unfold OutSt Owed
    iintro ⟨Hf, ⟨#Hm, %W, HO⟩, HD⟩ HK
    iapply (Transfers.wp_waitLocalO EC 𝒱₀ (VT d i) none (srcw := b) (dstw := outSlice off (inb h)) (default : HIx 1) (O := O) (W := W) (N := outAmount) rfl) $$ [Hf HO]
    · isplitl [Hf]; · iexact Hf
      isplitl [HO]; · iexact HO
      iapply (Transfers.MayWaits.elim (SemLoc.dma sem)); iexact Hm
    iintro ⟨⟨Hb, Ho⟩, Hs, HO⟩
    iapply HK
    iframe Hb Hs Ho HD
    isplitl []; · iexact Hm
    iexists _; iexact HO
  · have hv : ¬ (4 ≤ k ∧ valid i (k - 4)) := fun hv => h (hc.mpr hv)
    rw [dif_neg h, prev, if_neg hv, done_skip k hv]
    iintro H HK
    iapply HK; iexact H

/-- SUM: when there is a `k`-th unit, its rows are summed into the output block and their copy out is under way. -/
theorem act_sum (hc : c = 1#1 ↔ valid i k) {off : Fin 3 → ℕ} {inb : c = 1#1 → ∀ a, off a + S1x8x512.size a ≤ S99x128x512.size a}
    (hoff : c = 1#1 → off = outOff (unit i k))
    (b : Memref sig .scVector .vmem S2x8x512 .f32) (sem : DmaSem sig) (q : PosShare TreeShare)
    (ob : Memref sig .scVector .vmem S8x512 .f32) (osem : DmaSem sig) {hob : ob.view.WordExact}
    {L : c = 1#1 → Prog (TpuEff nD τ sig (Elt F) Λ₀ (.scVector ((i 0).castLE hcore0) ((i 1).castLE hsub0))) PUnit}
    (hL : ∀ h x, (iprop((b.view.loc (VT d i) ↦[b.view.set]{fullShare} x) ∗ ∃ y, (ob.view.loc (VT d i) ↦[ob.view.set]{fullShare} y)) : sProp 𝕄)
      ⊢ wp frame (wpE (defs₀ (F := F)) 𝒱₀ (VT d i) none) Set.univ (L h)
          fun _ => iprop((b.view.loc (VT d i) ↦[b.view.set]{fullShare} x)
            ∗ ∃ y, ⌜∀ q : S8x512.Idx, ob.view.read (Elt F) y q = planeSum (b.view.read (Elt F) x) q⌝
              ∗ (ob.view.loc (VT d i) ↦[ob.view.set]{fullShare} y))) :
    iprop(InRest d i X b sem q (fun r => valid i k → InBlock X (unit i k) r) ∗ OutSt d i X ob osem none ∗ Todo d i Z k)
      ⊢ iprop((iprop(InSt d i X b sem q none ∗ OutSt d i X ob osem (opt i k) ∗ Todo d i Z (k + 1))
        -∗ wp frame (wpE (defs₀ (F := F)) 𝒱₀ (VT d i) none) Set.univ K Q)
      -∗ wp frame (wpE (defs₀ (F := F)) 𝒱₀ (VT d i) none) Set.univ
          (dite (c = 1#1) (fun h => L h >>= fun _ => Prog.lift (.enqueueDma ob (.here (outSlice off (inb h))) (.dma osem) hob
            ((View.wordExact_bits rfl).reshape _ _) ⟨Or.inl rfl, trivial⟩) >>= fun _ => K) (fun _ => K)) Q) := by
  by_cases h : c = 1#1
  · have hv := hc.mp h
    obtain rfl := hoff h
    rw [dif_pos h, opt, if_pos hv, todo_step k, wp_bind]
    unfold InRest OutSt InSt InRest
    iintro ⟨⟨⟨%f, %hf, Hb⟩, Hx, Hs⟩, ⟨Ho, Hos⟩, Hd, HT⟩ HK
    iapply (wp_wand_r frame (wpE (defs₀ (F := F)) 𝒱₀ (VT d i) none) Set.univ)
    isplitl [Hb Ho]
    · iapply (hL h f)
      iframe Hb Ho
    iintro %_ ⟨Hb, %y, %hy, Ho⟩
    iapply (Transfers.wp_dmaLocal EC 𝒱₀ (VT d i) none (src := ob) (dst := outSlice (outOff (unit i k)) (inb h)) (q := fullShare)
      (fs := y) (fd := Z) (default : HIx 1) outAmount rfl (View.dmaCredit_pos _ (by decide)) (Sd := oset (unit i k))
      (by rw [outSlice_set])) $$ [Ho Hd Hos]
    · iframe Ho Hos; iexact Hd
    iintro Hf
    iapply HK
    isplitl [Hb Hx Hs]
    · iframe Hx Hs
      iexists f
      isplitl []; · ipureintro; trivial
      iexact Hb
    isplitl [Hf]
    · iapply (Transfers.Flight_mono EC (VT d i) ?_) $$ Hf
      iintro ⟨Hd, Ho⟩
      isplitl [Ho]; · iexists y; iexact Ho
      iapply (BI.BIBase.Entails.of_eq (pointsTo_congr fun q hq => ?_)) $$ Hd
      exact write_eq (hf hv) (inb h) Z (ob.view.read (Elt F) y) hy q hq
    iexact HT
  · have hv : ¬ valid i k := fun hv => h (hc.mpr hv)
    rw [dif_neg h, opt, if_neg hv, todo_skip k hv]
    unfold InRest InSt InRest
    iintro ⟨⟨⟨%f, %_, Hb⟩, Hx, Hs⟩, Ho, HT⟩ HK
    iapply HK
    iframe Ho HT Hx Hs
    iexists f
    isplitl []; · ipureintro; trivial
    iexact Hb

end Actions

end Cert.Proof.PairSum

end
-- ==== Proof.Outer.lean ====
/- One trip of a tile's outer loop: four steps of the ring, each the four guarded actions. -/
module

public import proofs.«01_k».proof.Proof.Ring

@[expose] public section

noncomputable section

namespace Cert.Proof.PairSum

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (i : grid0.Coords) (X : Buf (Elt F) (xLoc d)) (Z : Buf (Elt F) (oLoc d))
    (arg4 : Memref sig .scVector .vmem S2x8x512 .f32) (harg4 : arg4.IsWhole) (arg5 : Memref sig .scVector .vmem S2x8x512 .f32) (harg5 : arg5.IsWhole)
    (arg6 : Memref sig .scVector .vmem S2x8x512 .f32) (harg6 : arg6.IsWhole) (arg7 : Memref sig .scVector .vmem S2x8x512 .f32) (harg7 : arg7.IsWhole)
    (arg8 : Memref sig .scVector .vmem S8x512 .f32) (harg8 : arg8.IsWhole) (arg9 : Memref sig .scVector .vmem S8x512 .f32) (harg9 : arg9.IsWhole)
    (arg10 : Memref sig .scVector .vmem S8x512 .f32) (harg10 : arg10.IsWhole) (arg11 : Memref sig .scVector .vmem S8x512 .f32) (harg11 : arg11.IsWhole)
    (arg12 arg13 arg14 arg15 arg16 arg17 arg18 arg19 : DmaSems sig S_)
  (q : Fin 4 → PosShare TreeShare) (O : CellTallies nD τ sig (HIx 1))

/-- The unit four before the `k + 4`-th is the `k`-th. -/
theorem prev_add (k : ℕ) : prev i (k + 4) = opt i k := by simp [prev, opt]

section Programs

variable {α β : Type} {Q : β → sProp (MT nD τ sig (HIx 1) (Elt F) ℕ UU ℕ)} {d i}

/-- A program that only returns is done when its post holds of what it returns. -/
theorem ret_intro {v : β} : Q v ⊢ wp frame (wpE (defs₀ (F := F)) 𝒱₀ (VT d i) none) Set.univ (Pure.pure v) Q := by
  show Q v ⊢ wp frame (wpE (defs₀ (F := F)) 𝒱₀ (VT d i) none) Set.univ (.ret v) Q
  rw [wp_ret]
  iintro H
  imodintro
  iexact H

/-- A program in sequence runs its head to where its tail runs to the post. -/
theorem bind_intro {p : Prog (TpuEff nD τ sig (Elt F) Λ₀ (.scVector ((i 0).castLE hcore0) ((i 1).castLE hsub0))) α}
    {k : α → Prog (TpuEff nD τ sig (Elt F) Λ₀ (.scVector ((i 0).castLE hcore0) ((i 1).castLE hsub0))) β} :
    wp frame (wpE (defs₀ (F := F)) 𝒱₀ (VT d i) none) Set.univ p (fun a => wp frame (wpE (defs₀ (F := F)) 𝒱₀ (VT d i) none) Set.univ (k a) Q)
      ⊢ wp frame (wpE (defs₀ (F := F)) 𝒱₀ (VT d i) none) Set.univ (p >>= k) Q := by
  rw [wp_bind]

end Programs

/-- Before trip `p` of the outer loop: three copies in under way, for the trip's first three units, the fourth input block at
rest; the copies out of the four units before under way; the units from the trip's first on still to copy out. -/
def RingInv (p : ℕ) : sProp 𝕄 :=
  iprop(InSt d i X arg4 arg12.sem (q 0) (opt i (4 * p)) ∗ InSt d i X arg5 arg13.sem (q 1) (opt i (4 * p + 1))
    ∗ InSt d i X arg6 arg14.sem (q 2) (opt i (4 * p + 2)) ∗ InSt d i X arg7 arg15.sem (q 3) none
    ∗ OutSt d i X arg8 arg16.sem (prev i (4 * p)) ∗ OutSt d i X arg9 arg17.sem (prev i (4 * p + 1))
    ∗ OutSt d i X arg10 arg18.sem (prev i (4 * p + 2)) ∗ OutSt d i X arg11 arg19.sem (prev i (4 * p + 3))
    ∗ Todo d i Z (4 * p) ∗ Done d i X (4 * p) ∗ Owed d i O)

set_option maxHeartbeats 4000000 in
/-- One trip of the outer loop takes the ring from its trip to the next. -/
theorem outer_trip (v1 c0 : BitVec 32) (t : Fin k0_t1_loop.trips) :
    RingInv d i X Z arg4 arg5 arg6 arg7 arg8 arg9 arg10 arg11 arg12 arg13 arg14 arg15 arg16 arg17 arg18 arg19 q O t.val
      ⊢ wp frame (wpE (defs₀ (F := F)) 𝒱₀ (VT d i) none) Set.univ
          (k0_t1_body (F := F) i (Memref.whole main_v1_scv) (Memref.isWhole_whole _) (Memref.whole main_v2_scv) (Memref.isWhole_whole _) arg4 harg4 arg5 harg5 arg6 harg6 arg7 harg7 arg8 harg8 arg9 harg9 arg10 harg10 arg11 harg11 arg12 arg13 arg14 arg15 arg16 arg17 arg18 arg19 v1 c0 t ())
          fun _ => RingInv d i X Z arg4 arg5 arg6 arg7 arg8 arg9 arg10 arg11 arg12 arg13 arg14 arg15 arg16 arg17 arg18 arg19 q O (t.val + 1) := by
  unfold k0_t1_body
  rw [k0_part37_eq_skeleton, k0_part38_eq_skeleton]
  unfold RingInv
  iintro ⟨I0, I1, I2, I3, O0, O1, O2, O3, HT, HD, HO⟩
  iapply bind_intro
  unfold k0_part37_skel
  iapply (act_prefetch (cond_prefetch i t).1 (off_prefetch i t).1 arg7 arg15.sem (q 3)) $$ I3
  iintro I3
  iapply (act_arrive (cond_arrive i t).1 arg4 arg12.sem (q 0)) $$ [I0 HO]
  · iframe I0 HO
  iintro ⟨I0, HO⟩
  iapply (act_retire (cond_retire i t).1 arg8 arg16.sem) $$ [O0 HO HD]
  · iframe O0 HO HD
  iintro ⟨O0, HO, HD⟩
  iapply (act_sum (cond_sum i t).1 (off_sum i t).1 arg4 arg12.sem (q 0) arg8 arg16.sem
    (fun h x => row_loop d i (Memref.whole main_v1_scv) (Memref.isWhole_whole _) (Memref.whole main_v2_scv) (Memref.isWhole_whole _) arg4 harg4 arg5 harg5 arg6 harg6 arg7 harg7 arg8 harg8 arg9 harg9 arg10 harg10 arg11 harg11
        arg12 arg13 arg14 arg15 arg16 arg17 arg18 arg19 0 0 0 t h x)) $$ [I0 O0 HT]
  · iframe I0 O0 HT
  iintro ⟨I0, O0, HT⟩
  iapply ret_intro
  iapply bind_intro
  unfold k0_part38_skel
  iapply (act_prefetch (cond_prefetch i t).2.1 (off_prefetch i t).2.1 arg4 arg12.sem (q 0)) $$ I0
  iintro I0
  iapply (act_arrive (cond_arrive i t).2.1 arg5 arg13.sem (q 1)) $$ [I1 HO]
  · iframe I1 HO
  iintro ⟨I1, HO⟩
  iapply (act_retire (cond_retire i t).2.1 arg9 arg17.sem) $$ [O1 HO HD]
  · iframe O1 HO HD
  iintro ⟨O1, HO, HD⟩
  iapply (act_sum (cond_sum i t).2.1 (off_sum i t).2.1 arg5 arg13.sem (q 1) arg9 arg17.sem
    (fun h x => row_loop d i (Memref.whole main_v1_scv) (Memref.isWhole_whole _) (Memref.whole main_v2_scv) (Memref.isWhole_whole _) arg5 harg5 arg4 harg4 arg6 harg6 arg7 harg7 arg9 harg9 arg8 harg8 arg10 harg10 arg11 harg11
        arg12 arg13 arg14 arg15 arg16 arg17 arg18 arg19 0 0 0 t (first_of_later i t ((cond_sum i t).2.1.mp h)) x)) $$ [I1 O1 HT]
  · iframe I1 O1 HT
  iintro ⟨I1, O1, HT⟩
  iapply (act_prefetch (cond_prefetch i t).2.2.1 (off_prefetch i t).2.2.1 arg5 arg13.sem (q 1)) $$ I1
  iintro I1
  iapply (act_arrive (cond_arrive i t).2.2.1 arg6 arg14.sem (q 2)) $$ [I2 HO]
  · iframe I2 HO
  iintro ⟨I2, HO⟩
  iapply (act_retire (cond_retire i t).2.2.1 arg10 arg18.sem) $$ [O2 HO HD]
  · iframe O2 HO HD
  iintro ⟨O2, HO, HD⟩
  iapply ret_intro
  iapply (act_sum (cond_sum i t).2.2.1 (off_sum i t).2.2.1 arg6 arg14.sem (q 2) arg10 arg18.sem
    (fun h x => row_loop d i (Memref.whole main_v1_scv) (Memref.isWhole_whole _) (Memref.whole main_v2_scv) (Memref.isWhole_whole _) arg6 harg6 arg5 harg5 arg4 harg4 arg7 harg7 arg10 harg10 arg9 harg9 arg8 harg8 arg11 harg11
        arg12 arg13 arg14 arg15 arg16 arg17 arg18 arg19 0 0 0 t (first_of_later i t ((cond_sum i t).2.2.1.mp h)) x)) $$ [I2 O2 HT]
  · iframe I2 O2 HT
  iintro ⟨I2, O2, HT⟩
  iapply (act_prefetch (cond_prefetch i t).2.2.2 (off_prefetch i t).2.2.2 arg6 arg14.sem (q 2)) $$ I2
  iintro I2
  iapply (act_arrive (cond_arrive i t).2.2.2 arg7 arg15.sem (q 3)) $$ [I3 HO]
  · iframe I3 HO
  iintro ⟨I3, HO⟩
  iapply (act_retire (cond_retire i t).2.2.2 arg11 arg19.sem) $$ [O3 HO HD]
  · iframe O3 HO HD
  iintro ⟨O3, HO, HD⟩
  iapply (act_sum (cond_sum i t).2.2.2 (off_sum i t).2.2.2 arg7 arg15.sem (q 3) arg11 arg19.sem
    (fun h x => row_loop d i (Memref.whole main_v1_scv) (Memref.isWhole_whole _) (Memref.whole main_v2_scv) (Memref.isWhole_whole _) arg7 harg7 arg5 harg5 arg6 harg6 arg4 harg4 arg11 harg11 arg9 harg9 arg10 harg10 arg8 harg8
        arg12 arg13 arg14 arg15 arg16 arg17 arg18 arg19 0 0 0 t (first_of_later i t ((cond_sum i t).2.2.2.mp h)) x)) $$ [I3 O3 HT]
  · iframe I3 O3 HT
  iintro ⟨I3, O3, HT⟩
  iapply ret_intro
  have e : 4 * (t.val + 1) = 4 * t.val + 4 := by omega
  have e0 : prev i (4 * t.val + 4) = opt i (4 * t.val) := prev_add i _
  have e1 : prev i (4 * t.val + 4 + 1) = opt i (4 * t.val + 1) := prev_add i (4 * t.val + 1)
  have e2 : prev i (4 * t.val + 4 + 2) = opt i (4 * t.val + 2) := prev_add i (4 * t.val + 2)
  have e3 : prev i (4 * t.val + 4 + 3) = opt i (4 * t.val + 3) := prev_add i (4 * t.val + 3)
  rw [e, e0, e1, e2, e3]
  iframe I0 I1 I2 I3 O0 O1 O2 O3 HT HD HO

end Cert.Proof.PairSum

end
-- ==== Proof.Task.lean ====
/- A tile's whole task: the first three copies in, the thirteen trips of the outer loop, the last waits. -/
module

public import proofs.«01_k».proof.Proof.Outer

@[expose] public section

noncomputable section

namespace Cert.Proof.PairSum

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (i : grid0.Coords) (X : Buf (Elt F) (xLoc d)) (Z : Buf (Elt F) (oLoc d))
    (arg4 : Memref sig .scVector .vmem S2x8x512 .f32) (harg4 : arg4.IsWhole) (arg5 : Memref sig .scVector .vmem S2x8x512 .f32) (harg5 : arg5.IsWhole)
    (arg6 : Memref sig .scVector .vmem S2x8x512 .f32) (harg6 : arg6.IsWhole) (arg7 : Memref sig .scVector .vmem S2x8x512 .f32) (harg7 : arg7.IsWhole)
    (arg8 : Memref sig .scVector .vmem S8x512 .f32) (harg8 : arg8.IsWhole) (arg9 : Memref sig .scVector .vmem S8x512 .f32) (harg9 : arg9.IsWhole)
    (arg10 : Memref sig .scVector .vmem S8x512 .f32) (harg10 : arg10.IsWhole) (arg11 : Memref sig .scVector .vmem S8x512 .f32) (harg11 : arg11.IsWhole)
    (arg12 arg13 arg14 arg15 arg16 arg17 arg18 arg19 : DmaSems sig S_)
  (q : Fin 4 → PosShare TreeShare) (O : CellTallies nD τ sig (HIx 1))

/-- Once the first three copies in are under way, the ring is as it stands before the first trip. -/
theorem ring_first :
    iprop(InSt d i X arg4 arg12.sem (q 0) (some (unit i 0)) ∗ InSt d i X arg5 arg13.sem (q 1) (some (unit i 1)) ∗ InSt d i X arg6 arg14.sem (q 2) (some (unit i 2))
      ∗ InSt d i X arg7 arg15.sem (q 3) none ∗ OutSt d i X arg8 arg16.sem none ∗ OutSt d i X arg9 arg17.sem none ∗ OutSt d i X arg10 arg18.sem none ∗ OutSt d i X arg11 arg19.sem none ∗ Todo d i Z 0 ∗ Done d i X 0 ∗ Owed d i O)
      ⊢ RingInv d i X Z arg4 arg5 arg6 arg7 arg8 arg9 arg10 arg11 arg12 arg13 arg14 arg15 arg16 arg17 arg18 arg19 q O 0 := by
  have v : ∀ k, k ≤ 2 → opt i k = some (unit i k) := fun k hk => if_pos (by have := wid_lt i; unfold valid unit; omega)
  have w : ∀ k, k < 4 → prev i k = none := fun k hk => if_neg (by omega)
  unfold RingInv
  rw [v (4 * 0) (by omega), v (4 * 0 + 1) (by omega), v (4 * 0 + 2) (by omega), w (4 * 0) (by omega), w (4 * 0 + 1) (by omega),
    w (4 * 0 + 2) (by omega), w (4 * 0 + 3) (by omega)]

/-- After the last trip no copy in is under way and nothing is left to copy out. -/
theorem ring_last :
    RingInv d i X Z arg4 arg5 arg6 arg7 arg8 arg9 arg10 arg11 arg12 arg13 arg14 arg15 arg16 arg17 arg18 arg19 q O 13
      ⊢ iprop(InSt d i X arg4 arg12.sem (q 0) none ∗ InSt d i X arg5 arg13.sem (q 1) none ∗ InSt d i X arg6 arg14.sem (q 2) none
      ∗ InSt d i X arg7 arg15.sem (q 3) none ∗ OutSt d i X arg8 arg16.sem (prev i 52) ∗ OutSt d i X arg9 arg17.sem (prev i 53) ∗ OutSt d i X arg10 arg18.sem (prev i 54) ∗ OutSt d i X arg11 arg19.sem (prev i 55) ∗ Todo d i Z 52 ∗ Done d i X 52 ∗ Owed d i O) := by
  have e : ∀ k, 50 ≤ k → opt i k = none := fun k hk => if_neg (by unfold valid unit; omega)
  unfold RingInv
  rw [e (4 * 13) (by omega), e (4 * 13 + 1) (by omega), e (4 * 13 + 2) (by omega)]

set_option maxHeartbeats 4000000 in
/-- The task of a tile, from its blocks at rest, its shares of the input and its part of the result, back to the blocks at
rest with its part of the result at the sums. -/
theorem task_run :
    iprop(InSt d i X arg4 arg12.sem (q 0) none ∗ InSt d i X arg5 arg13.sem (q 1) none ∗ InSt d i X arg6 arg14.sem (q 2) none ∗ InSt d i X arg7 arg15.sem (q 3) none
      ∗ OutSt d i X arg8 arg16.sem none ∗ OutSt d i X arg9 arg17.sem none ∗ OutSt d i X arg10 arg18.sem none ∗ OutSt d i X arg11 arg19.sem none ∗ Todo d i Z 0 ∗ Done d i X 0 ∗ Owed d i O)
      ⊢ wp frame (wpE (defs₀ (F := F)) 𝒱₀ (VT d i) none) Set.univ
          (cc0__pair_slab_body (F := F) i (Memref.whole main_v1_scv) (Memref.isWhole_whole _) (Memref.whole main_v2_scv) (Memref.isWhole_whole _) arg4 harg4 arg5 harg5 arg6 harg6 arg7 harg7 arg8 harg8 arg9 harg9 arg10 harg10 arg11 harg11 arg12 arg13 arg14 arg15 arg16 arg17 arg18 arg19)
          fun _ => iprop(InSt d i X arg4 arg12.sem (q 0) none ∗ InSt d i X arg5 arg13.sem (q 1) none ∗ InSt d i X arg6 arg14.sem (q 2) none ∗ InSt d i X arg7 arg15.sem (q 3) none
            ∗ OutSt d i X arg8 arg16.sem none ∗ OutSt d i X arg9 arg17.sem none ∗ OutSt d i X arg10 arg18.sem none ∗ OutSt d i X arg11 arg19.sem none ∗ Done d i X 56 ∗ Owed d i O) := by
  rw [cc0__pair_slab_body_eq_skeleton]
  unfold cc0__pair_slab_body_skel
  rw [k0_part39_eq_skeleton]
  iintro ⟨I0, I1, I2, I3, O0, O1, O2, O3, HT, HD, HO⟩
  iapply bind_intro
  unfold k0_part39_skel
  iapply (enqueue_in (unit i 0) (off_first i).1 arg4 arg12.sem (q 0)) $$ I0
  iintro I0
  iapply (enqueue_in (unit i 1) (off_first i).2.1 arg5 arg13.sem (q 1)) $$ I1
  iintro I1
  iapply (enqueue_in (unit i 2) (off_first i).2.2 arg6 arg14.sem (q 2)) $$ I2
  iintro I2
  iapply ret_intro
  iapply (Scf.wp_for_bind frame (wpE (defs₀ (F := F)) 𝒱₀ (VT d i) none) Set.univ
    (I := fun p _ => RingInv d i X Z arg4 arg5 arg6 arg7 arg8 arg9 arg10 arg11 arg12 arg13 arg14 arg15 arg16 arg17 arg18 arg19 q O p)
    (hbody := fun t _ => outer_trip d i X Z arg4 harg4 arg5 harg5 arg6 harg6 arg7 harg7 arg8 harg8 arg9 harg9 arg10 harg10 arg11 harg11
      arg12 arg13 arg14 arg15 arg16 arg17 arg18 arg19 q O _ _ t)) $$ [I0 I1 I2 I3 O0 O1 O2 O3 HT HD HO]
  · iapply (ring_first d i X Z arg4 arg5 arg6 arg7 arg8 arg9 arg10 arg11 arg12 arg13 arg14 arg15 arg16 arg17 arg18 arg19 q O)
    iframe I0 I1 I2 I3 HT HD HO O0 O1 O2 O3
  iintro %_ HI
  rw [show Scf.trips k0_t1_loop.lb k0_t1_loop.ub k0_t1_loop.st = 13 from by decide]
  ihave HI := (ring_last d i X Z arg4 arg5 arg6 arg7 arg8 arg9 arg10 arg11 arg12 arg13 arg14 arg15 arg16 arg17 arg18 arg19 q O) $$ HI
  icases HI with ⟨I0, I1, I2, I3, O0, O1, O2, O3, HT, HD, HO⟩
  iapply (act_retire (cond_drain i).1 arg8 arg16.sem) $$ [O0 HO HD]
  · iframe O0 HO HD
  iintro ⟨O0, HO, HD⟩
  iapply (act_retire (cond_drain i).2.1 arg9 arg17.sem) $$ [O1 HO HD]
  · iframe O1 HO HD
  iintro ⟨O1, HO, HD⟩
  iapply (act_retire (cond_drain i).2.2.1 arg10 arg18.sem) $$ [O2 HO HD]
  · iframe O2 HO HD
  iintro ⟨O2, HO, HD⟩
  iapply (act_retire (cond_drain i).2.2.2 arg11 arg19.sem) $$ [O3 HO HD]
  · iframe O3 HO HD
  iintro ⟨O3, HO, HD⟩
  iapply ret_intro
  iframe I0 I1 I2 I3 O0 O1 O2 O3 HD HO

end Cert.Proof.PairSum

end
-- ==== Proof.Split.lean ====
/- How the input and the result are dealt to the two SparseCores and their sixteen subcores each: the input as
   read shares, the result as the places of each tile's units. -/
module

public import proofs.«01_k».proof.Proof.Ring
public import Idealize.ShloMosaic.Lib.ShareLeaves

@[expose] public section

noncomputable section

namespace Cert.Proof.PairSum

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The shares of the input -/

/-- A SparseCore's share of the input. -/
def coreQ (c : Fin 2) : PosShare TreeShare := ShareLeaves.leaf 1 fullShare c
/-- A tile's share of the input. -/
def tileQ (c : Fin 2) (s : Fin 16) : PosShare TreeShare := ShareLeaves.leaf 4 (coreQ c) s
/-- The share of the input that one of a tile's four input blocks reads under. -/
def slotQ (c : Fin 2) (s : Fin 16) (n : Fin 4) : PosShare TreeShare := ShareLeaves.leaf 2 (tileQ c s) n

/-- The input whole is the two SparseCores' shares of it. -/
theorem x_cores (d : Dev nD) (X : Buf (Elt F) (xLoc d)) :
    (xLoc d ↦{fullShare} X : sProp 𝕄) = bigSep Finset.univ fun c : Fin 2 => xLoc d ↦{coreQ c} X :=
  ShareLeaves.pointsTo_leaves Finset.univ X 1 fullShare
/-- A SparseCore's share is its sixteen tiles' shares. -/
theorem x_tiles (d : Dev nD) (X : Buf (Elt F) (xLoc d)) (c : Fin 2) :
    (xLoc d ↦{coreQ c} X : sProp 𝕄) = bigSep Finset.univ fun s : Fin 16 => xLoc d ↦{tileQ c s} X :=
  ShareLeaves.pointsTo_leaves Finset.univ X 4 (coreQ c)
/-- A tile's share is the shares of its four input blocks. -/
theorem x_slots (d : Dev nD) (X : Buf (Elt F) (xLoc d)) (c : Fin 2) (s : Fin 16) :
    (xLoc d ↦{tileQ c s} X : sProp 𝕄)
      = iprop((xLoc d ↦{slotQ c s 0} X) ∗ (xLoc d ↦{slotQ c s 1} X) ∗ (xLoc d ↦{slotQ c s 2} X) ∗ (xLoc d ↦{slotQ c s 3} X)) := by
  have h : (xLoc d ↦{tileQ c s} X : sProp 𝕄) = bigSep Finset.univ fun n : Fin 4 => xLoc d ↦{slotQ c s n} X :=
    ShareLeaves.pointsTo_leaves Finset.univ X 2 (tileQ c s)
  rw [h, show (Finset.univ : Finset (Fin 4)) = {0, 1, 2, 3} by decide, SparseCore.bigSep_insert' (by decide),
    SparseCore.bigSep_insert' (by decide), SparseCore.bigSep_insert' (by decide), bigSep_singleton]

/-! ## The parts of the result -/

/-- The places of the result that a SparseCore writes: the units of its parity. -/
def coreSet (c : Fin 2) : Finset S99x128x512.Idx := Finset.univ.filter fun q => unitOf q % 2 = c.val
/-- The places of the result that a tile writes: every thirty-second unit from its own on. -/
def tileSet (c : Fin 2) (s : Fin 16) : Finset S99x128x512.Idx := Finset.univ.filter fun q => unitOf q % 32 = 2 * s.val + c.val

/-- Membership in a SparseCore's part. -/
theorem mem_coreSet {c : Fin 2} {q : S99x128x512.Idx} : q ∈ coreSet c ↔ unitOf q % 2 = c.val := by simp [coreSet]
/-- Membership in a tile's part. -/
theorem mem_tileSet {c : Fin 2} {s : Fin 16} {q : S99x128x512.Idx} : q ∈ tileSet c s ↔ unitOf q % 32 = 2 * s.val + c.val := by simp [tileSet]

/-- The two SparseCores' parts have no place in common. -/
theorem coreSet_disjoint : ∀ c ∈ (Finset.univ : Finset (Fin 2)), ∀ c' ∈ (Finset.univ : Finset (Fin 2)), c ≠ c' → Disjoint (coreSet c) (coreSet c') := by
  intro c _ c' _ h
  refine Finset.disjoint_left.mpr fun q hq hq' => h (Fin.ext ?_)
  rw [mem_coreSet] at hq hq'; omega
/-- Every place is in one of the two. -/
theorem coreSet_cover : (Finset.univ : Finset (Fin 2)).biUnion coreSet = Finset.univ := by
  refine Finset.eq_univ_of_forall fun q => Finset.mem_biUnion.mpr ⟨⟨unitOf q % 2, by omega⟩, Finset.mem_univ _, ?_⟩
  rw [mem_coreSet]
/-- Two tiles' parts have no place in common. -/
theorem tileSet_disjoint (c : Fin 2) : ∀ s ∈ (Finset.univ : Finset (Fin 16)), ∀ s' ∈ (Finset.univ : Finset (Fin 16)), s ≠ s' → Disjoint (tileSet c s) (tileSet c s') := by
  intro s _ s' _ h
  refine Finset.disjoint_left.mpr fun q hq hq' => h (Fin.ext ?_)
  rw [mem_tileSet] at hq hq'; omega
/-- The tiles' parts make up their SparseCore's. -/
theorem tileSet_cover (c : Fin 2) : (Finset.univ : Finset (Fin 16)).biUnion (tileSet c) = coreSet c := by
  refine Finset.ext fun (q : S99x128x512.Idx) => ?_
  rw [Finset.mem_biUnion, mem_coreSet]
  constructor
  · rintro ⟨s, _, hq⟩; rw [mem_tileSet] at hq; omega
  · intro hq
    refine ⟨⟨unitOf q % 32 / 2, by omega⟩, Finset.mem_univ _, ?_⟩
    rw [mem_tileSet]; show unitOf q % 32 = 2 * (unitOf q % 32 / 2) + c.val; omega

/-- The result whole is the two SparseCores' parts. -/
theorem o_cores (d : Dev nD) (f : Buf (Elt F) (oLoc d)) :
    (oLoc d ↦{fullShare} f : sProp 𝕄) = bigSep Finset.univ fun c : Fin 2 => oLoc d ↦[coreSet c]{fullShare} f := by
  rw [← pointsTo_biUnion Finset.univ (ℓ := oLoc d) coreSet coreSet_disjoint, coreSet_cover]
/-- A SparseCore's part is its sixteen tiles' parts. -/
theorem o_tiles (d : Dev nD) (f : Buf (Elt F) (oLoc d)) (c : Fin 2) :
    (oLoc d ↦[coreSet c]{fullShare} f : sProp 𝕄) = bigSep Finset.univ fun s : Fin 16 => oLoc d ↦[tileSet c s]{fullShare} f := by
  rw [← pointsTo_biUnion Finset.univ (ℓ := oLoc d) (tileSet c) (tileSet_disjoint c), tileSet_cover]

/-! ## What a SparseCore and a tile hold -/

/-- What a SparseCore is given: its share of the input, its part of the result at some contents. -/
def CorePts (d : Dev nD) (X : Buf (Elt F) (xLoc d)) (f : Buf (Elt F) (oLoc d)) (c : Fin 2) : sProp 𝕄 :=
  iprop((xLoc d ↦{coreQ c} X) ∗ oLoc d ↦[coreSet c]{fullShare} f)
/-- What a tile is given: its share of the input, its part of the result at some contents. -/
def TilePts (d : Dev nD) (X : Buf (Elt F) (xLoc d)) (f : Buf (Elt F) (oLoc d)) (c : Fin 2) (s : Fin 16) : sProp 𝕄 :=
  iprop((xLoc d ↦{tileQ c s} X) ∗ oLoc d ↦[tileSet c s]{fullShare} f)

/-- The two arrays whole are what the two SparseCores hold. -/
theorem cores_join (d : Dev nD) (X : Buf (Elt F) (xLoc d)) (f : Buf (Elt F) (oLoc d)) :
    (bigSep Finset.univ fun c : Fin 2 => CorePts d X f c) = (iprop((xLoc d ↦{fullShare} X) ∗ oLoc d ↦{fullShare} f) : sProp 𝕄) := by
  unfold CorePts; rw [bigSep_sep', ← x_cores, ← o_cores]
/-- What a SparseCore holds is what its sixteen tiles hold. -/
theorem tiles_join (d : Dev nD) (X : Buf (Elt F) (xLoc d)) (f : Buf (Elt F) (oLoc d)) (c : Fin 2) :
    (bigSep Finset.univ fun s : Fin 16 => TilePts d X f c s) = (CorePts d X f c : sProp 𝕄) := by
  unfold CorePts TilePts; rw [bigSep_sep', ← x_tiles, ← o_tiles]

/-! ## A tile's part at the start and at the end of its task -/

/-- The SparseCore's number of a grid point. -/
abbrev cL (i : grid0.Coords) : Fin 2 := i 0
/-- The subcore's number of a grid point. -/
abbrev sL (i : grid0.Coords) : Fin 16 := i 1

/-- At the start a tile has all its places to do. -/
theorem todo_zero (i : grid0.Coords) : todoSet i 0 = tileSet (cL i) (sL i) := by
  refine Finset.ext fun (q : S99x128x512.Idx) => ?_
  rw [mem_todo, mem_tileSet]
  show _ ↔ unitOf q % 32 = wid i
  omega
/-- At the start none is done. -/
theorem done_zero (i : grid0.Coords) : doneSet i 0 = ∅ := by
  refine Finset.eq_empty_of_forall_notMem fun (q : S99x128x512.Idx) hq => ?_
  rw [mem_done] at hq; have := wid_lt i; omega
/-- At the end all its places are done. -/
theorem done_last (i : grid0.Coords) : doneSet i 56 = tileSet (cL i) (sL i) := by
  refine Finset.ext fun (q : S99x128x512.Idx) => ?_
  rw [mem_done, mem_tileSet]
  show _ ↔ unitOf q % 32 = wid i
  have := unitOf_lt q; omega

end Cert.Proof.PairSum

end
-- ==== Proof.Tile.lean ====
/- A tile's task from what the launch deals the tile, at the tile's own scratch blocks and semaphores, and the launch's
   obligation for it. -/
module

public import proofs.«01_k».proof.Proof.Task
public import proofs.«01_k».proof.Proof.Split

@[expose] public section

noncomputable section

namespace Cert.Proof.PairSum

open Cert.KernelIdeal Cert.KernelIdeal.Gen
open Idealize.ShloMosaic
open Idealize.ShloMosaic.SparseCore (S V T)
open Idealize.ShloMosaic.SparseCore.Cfg (HIx Pay ownSems0 ownBufs ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (i : grid0.Coords)

/-! ## The tile's own blocks and semaphores -/

/-- The eight scratch blocks of a vector subcore: four for input, four for output. -/
def blk : Fin 8 → Ref sig .scVector :=
  ![cc0_scratch0, cc0_scratch1, cc0_scratch2, cc0_scratch3, cc0_scratch4, cc0_scratch5, cc0_scratch6, cc0_scratch7]
/-- The eight blocks differ. -/
theorem blk_inj : Function.Injective blk := by decide
/-- The eight transfer semaphores of a vector subcore, as cells. -/
def cell (k : Fin 8) : GSem nD τ sig := (VT d i, .dma (k : DmaSem sig))
/-- The eight cells differ. -/
theorem cell_inj : Function.Injective (cell d i) := fun a b h => by
  have := congrArg (fun g : GSem nD τ sig => g.2) h
  simpa only [cell, SemLoc.dma.injEq] using this
/-- The cells are the subcore's own. -/
theorem cell_mem (k : Fin 8) : cell d i k ∈ ownCells (VT d i) :=
  mem_ownCells.mpr ⟨rfl, (show ∀ s : DmaSem sig, (SemLoc.dma s : SemLoc sig).isScoped .scVector = true by decide) _⟩

/-- Eight pieces written out. -/
theorem sep_eight (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The subcore's own cells at zero: the eight of the transfers, and the rest. -/
theorem own_cells :
    (ownSems0 (VT d i) : sProp 𝕄)
      = iprop((bigSep Finset.univ fun k : Fin 8 => semVal (cell d i k) 0)
          ∗ bigSep (ownCells (VT d i) \ Finset.univ.image (cell d i)) fun g => semVal g 0) := by
  unfold SparseCore.Cfg.ownSems0
  rw [SparseCore.bigSep_sdiff_split' (t := Finset.univ.image (cell d i)) (Finset.image_subset_iff.mpr fun k _ => cell_mem d i k),
    SparseCore.bigSep_image_of_injOn (fun a _ b _ h => cell_inj d i h)]

/-- Where a block of the tile lies. -/
def place (k : Fin 8) : DevRef τ sig := (Proc.scVector (cV i) (jV i)).devRef (blk k)

/-- The subcore's own buffers: the eight blocks, and the rest. -/
theorem own_blocks :
    (ownBufs (VT d i) : sProp 𝕄)
      = iprop((bigSep Finset.univ fun k : Fin 8 => iprop(∃ f, ((d, place i k) : Loc nD τ sig) ↦{fullShare} f))
          ∗ bigSep (ownRefs (τ := τ) (.scVector (cV i) (jV i)) \ Finset.univ.image (place i))
              fun b => iprop(∃ f, ((d, b) : Loc nD τ sig) ↦{fullShare} f)) := by
  have hm : ∀ k : Fin 8, place i k ∈ ownRefs (τ := τ) (.scVector (cV i) (jV i)) := fun k =>
    SparseCore.Cfg.mem_ownRefs_of_owner (p := Proc.scVector (cV i) (jV i)) (b := place i k) (by
      fin_cases k <;> rfl)
  unfold SparseCore.Cfg.ownBufs
  rw [SparseCore.bigSep_sdiff_split' (t := Finset.univ.image (place i)) (Finset.image_subset_iff.mpr fun k _ => hm k),
    SparseCore.bigSep_image_of_injOn (f := place i) (fun a _ b _ h => blk_inj (Proc.devRef_injective _ h))]

/-! ## The blocks at rest -/

variable {d i}

/-- An input block at rest is its memory, its share of the input, and its semaphore at zero. -/
theorem inSt_rest (X : Buf (Elt F) (xLoc d)) (b : Memref sig .scVector .vmem S2x8x512 .f32) (hb : b.view.set = Finset.univ) (sem : DmaSem sig)
    (q : PosShare TreeShare) :
    (InSt d i X b sem q none : sProp 𝕄)
      = iprop((∃ f, b.view.loc (VT d i) ↦{fullShare} f) ∗ (xLoc d ↦{q} X) ∗ semVal (VT d i, SemLoc.dma sem) 0) := by
  refine BI.equiv_iff.mp ⟨?_, ?_⟩
  · show iprop((∃ f, ⌜True⌝ ∗ (b.view.loc (VT d i) ↦[b.view.set]{fullShare} f)) ∗ (xLoc d ↦{q} X) ∗ semVal (VT d i, SemLoc.dma sem) 0) ⊢ _
    rw [hb]
    iintro ⟨⟨%f, -, Hf⟩, Hx, Hs⟩
    isplitl [Hf]; · iexists f; iexact Hf
    isplitl [Hx]; · iexact Hx
    iexact Hs
  · show _ ⊢ iprop((∃ f, ⌜True⌝ ∗ (b.view.loc (VT d i) ↦[b.view.set]{fullShare} f)) ∗ (xLoc d ↦{q} X) ∗ semVal (VT d i, SemLoc.dma sem) 0)
    rw [hb]
    iintro ⟨⟨%f, Hf⟩, Hx, Hs⟩
    isplitl [Hf]
    · iexists f; isplitr
      · ipureintro; trivial
      · iexact Hf
    isplitl [Hx]; · iexact Hx
    iexact Hs

/-- An output block at rest is its memory and its semaphore at zero. -/
theorem outSt_rest (X : Buf (Elt F) (xLoc d)) (b : Memref sig .scVector .vmem S8x512 .f32) (hb : b.view.set = Finset.univ) (sem : DmaSem sig) :
    (OutSt d i X b sem none : sProp 𝕄) = iprop((∃ f, b.view.loc (VT d i) ↦{fullShare} f) ∗ semVal (VT d i, SemLoc.dma sem) 0) := by
  show iprop((∃ f, b.view.loc (VT d i) ↦[b.view.set]{fullShare} f) ∗ semVal (VT d i, SemLoc.dma sem) 0) = _
  rw [hb]

variable (d i)

/-- The ring at rest: all eight blocks, with the tile's four shares of the input. -/
theorem ring_rest (X : Buf (Elt F) (xLoc d)) :
    (iprop((bigSep Finset.univ fun k : Fin 8 => iprop(∃ f, ((d, place i k) : Loc nD τ sig) ↦{fullShare} f))
        ∗ (bigSep Finset.univ fun k : Fin 8 => semVal (cell d i k) 0) ∗ (xLoc d ↦{tileQ (cL i) (sL i)} X)) : sProp 𝕄)
      ⊣⊢ iprop(InSt d i X (Memref.whole cc0_scratch0) cc0_scratch8.sem (slotQ (cL i) (sL i) 0) none
        ∗ InSt d i X (Memref.whole cc0_scratch1) cc0_scratch9.sem (slotQ (cL i) (sL i) 1) none
        ∗ InSt d i X (Memref.whole cc0_scratch2) cc0_scratch10.sem (slotQ (cL i) (sL i) 2) none
        ∗ InSt d i X (Memref.whole cc0_scratch3) cc0_scratch11.sem (slotQ (cL i) (sL i) 3) none
        ∗ OutSt d i X (Memref.whole cc0_scratch4) cc0_scratch12.sem none ∗ OutSt d i X (Memref.whole cc0_scratch5) cc0_scratch13.sem none
        ∗ OutSt d i X (Memref.whole cc0_scratch6) cc0_scratch14.sem none ∗ OutSt d i X (Memref.whole cc0_scratch7) cc0_scratch15.sem none) := by
  rw [sep_eight, sep_eight, x_slots, inSt_rest X (Memref.whole cc0_scratch0) (View.set_whole _), inSt_rest X (Memref.whole cc0_scratch1) (View.set_whole _),
    inSt_rest X (Memref.whole cc0_scratch2) (View.set_whole _), inSt_rest X (Memref.whole cc0_scratch3) (View.set_whole _),
    outSt_rest X (Memref.whole cc0_scratch4) (View.set_whole _), outSt_rest X (Memref.whole cc0_scratch5) (View.set_whole _),
    outSt_rest X (Memref.whole cc0_scratch6) (View.set_whole _), outSt_rest X (Memref.whole cc0_scratch7) (View.set_whole _)]
  constructor
  · iintro ⟨⟨B0, B1, B2, B3, B4, B5, B6, B7⟩, ⟨S0, S1, S2, S3, S4, S5, S6, S7⟩, X0, X1, X2, X3⟩
    isplitl [B0 S0 X0]
    · isplitl [B0]; · iexact B0
      isplitl [X0]; · iexact X0
      iexact S0
    isplitl [B1 S1 X1]
    · isplitl [B1]; · iexact B1
      isplitl [X1]; · iexact X1
      iexact S1
    isplitl [B2 S2 X2]
    · isplitl [B2]; · iexact B2
      isplitl [X2]; · iexact X2
      iexact S2
    isplitl [B3 S3 X3]
    · isplitl [B3]; · iexact B3
      isplitl [X3]; · iexact X3
      iexact S3
    isplitl [B4 S4]
    · isplitl [B4]; · iexact B4
      iexact S4
    isplitl [B5 S5]
    · isplitl [B5]; · iexact B5
      iexact S5
    isplitl [B6 S6]
    · isplitl [B6]; · iexact B6
      iexact S6
    isplitl [B7]; · iexact B7
    iexact S7
  · iintro ⟨⟨B0, X0, S0⟩, ⟨B1, X1, S1⟩, ⟨B2, X2, S2⟩, ⟨B3, X3, S3⟩, ⟨B4, S4⟩, ⟨B5, S5⟩, ⟨B6, S6⟩, B7, S7⟩
    isplitl [B0 B1 B2 B3 B4 B5 B6 B7]
    · isplitl [B0]; · iexact B0
      isplitl [B1]; · iexact B1
      isplitl [B2]; · iexact B2
      isplitl [B3]; · iexact B3
      isplitl [B4]; · iexact B4
      isplitl [B5]; · iexact B5
      isplitl [B6]; · iexact B6
      iexact B7
    isplitl [S0 S1 S2 S3 S4 S5 S6 S7]
    · isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    isplitl [X0]; · iexact X0
    isplitl [X1]; · iexact X1
    isplitl [X2]; · iexact X2
    iexact X3

end Cert.Proof.PairSum

end
-- ==== Proof.Launch.lean ====
/- The launch of the call: what the handshakes carry, each tile's obligation, the dealing of a SparseCore's part to its
   tiles, and the ghost state the program starts with. -/
module

public import proofs.«01_k».proof.Proof.Tile

@[expose] public section

noncomputable section

namespace Cert.Proof.PairSum

open Cert.KernelIdeal Cert.KernelIdeal.Gen
open Idealize.ShloMosaic
open Idealize.ShloMosaic.SparseCore (S V T)
open Idealize.ShloMosaic.SparseCore.Cfg (HIx Pay ownSems0 ownBufs ownCells ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- What the launch asks of the program's tables. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The call runs on two SparseCores. -/
theorem nCore_zero : (K (F := F)).nCore 0 = 2 := rfl
/-- Each of them runs sixteen tiles. -/
theorem nSub_zero : (K (F := F)).nSub 0 = 16 := rfl

variable [FloatOps F]

/-- The contents of the result after the call: the sums of the input's pairs of planes. -/
abbrev outOf {d : Dev nD} (X : Buf (Elt F) (xLoc d)) : Buf (Elt F) (oLoc d) := sums X

variable (X : (d : Dev nD) → Buf (Elt F) (xLoc d)) (Z : (d : Dev nD) → Buf (Elt F) (oLoc d))

/-- What the handshakes carry: to each SparseCore its share of the input and its part of the result, to each tile its own
of both; and back the same with the sums in the result. -/
def P : (K (F := F)).Pay (nD := nD) (Val := Elt F) (Name := ℕ) (U := UU) where
  st := fun q d c => match q with | 0 => CorePts d (X d) (Z d) (Fin.cast nCore_zero c)
  dn := fun q d c => match q with | 0 => CorePts d (X d) (outOf (X d)) (Fin.cast nCore_zero c)
  go := fun q d c s => match q with | 0 => TilePts d (X d) (Z d) (Fin.cast nCore_zero c) (Fin.cast nSub_zero s)
  td := fun q d c s => match q with | 0 => TilePts d (X d) (outOf (X d)) (Fin.cast nCore_zero c) (Fin.cast nSub_zero s)
  x := fun _ _ => iprop(emp)

instance corePts_storable (d : Dev nD) (x : Buf (Elt F) (xLoc d)) (f : Buf (Elt F) (oLoc d)) (c : Fin 2) :
    BI.Storable (upEmb : UEmb _ 𝕄) (CorePts d x f c) := by unfold CorePts; infer_instance
instance tilePts_storable (d : Dev nD) (x : Buf (Elt F) (xLoc d)) (f : Buf (Elt F) (oLoc d)) (c : Fin 2) (s : Fin 16) :
    BI.Storable (upEmb : UEmb _ 𝕄) (TilePts d x f c s) := by unfold TilePts; infer_instance

instance P_storable : (P (F := F) X Z).IsStorable where
  st q d c := match q with | 0 => corePts_storable d (X d) (Z d) (Fin.cast nCore_zero c)
  dn q d c := match q with | 0 => corePts_storable d (X d) (outOf (X d)) (Fin.cast nCore_zero c)
  go q d c s := match q with | 0 => tilePts_storable d (X d) (Z d) (Fin.cast nCore_zero c) (Fin.cast nSub_zero s)
  td q d c s := match q with | 0 => tilePts_storable d (X d) (outOf (X d)) (Fin.cast nCore_zero c) (Fin.cast nSub_zero s)

/-! ## A tile's task as the launch asks for it -/

/-- The task of the tile at grid point `i`, from what the launch deals it to what it hands back. -/
theorem tile_body (d : Dev nD) (i : grid0.Coords) (x : Buf (Elt F) (xLoc d)) (z : Buf (Elt F) (oLoc d))
    (O : CellTallies nD τ sig (HIx 1)) (W : Waits sig (HIx 1)) (hO : ∀ g, O g none = 0) :
    iprop(levAts (K (F := F)).L (K (F := F)).lev ∗ emp ∗ TilePts d x z (cL i) (sL i)
        ∗ scopedBufs (VT d i) ∗ scopedSems0 (VT d i) ∗ owes (VT d i) O W)
      ⊢ wp frame (wpE (defs₀ (F := F)) 𝒱₀ (VT d i) none) Set.univ
          (cc0__pair_slab_body (F := F) i (Memref.whole main_v1_scv) (Memref.isWhole_whole _) (Memref.whole main_v2_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            cc0_scratch8 cc0_scratch9 cc0_scratch10 cc0_scratch11 cc0_scratch12 cc0_scratch13 cc0_scratch14 cc0_scratch15)
          fun _ => iprop(TilePts d x (outOf x) (cL i) (sL i) ∗ scopedBufs (VT d i) ∗ scopedSems0 (VT d i)
            ∗ ∃ W', ⌜∀ p ∈ W', p ∈ W ∨ p.2 = none ∨ p.2 = some (0 : Fin 1)⌝ ∗ owes (VT d i) O W') := by
  rw [(K (F := F)).scopedBufs_V facts d (cV i) (jV i), SparseCore.Cfg.scopedSems0_V (Val := Elt F) d (cV i) (jV i), own_cells, own_blocks]
  unfold TilePts
  iintro ⟨#Hlv, -, ⟨Hx, Hz⟩, ⟨HB, HBr⟩, ⟨HS, HSr⟩, HO⟩
  ihave Hmw := (show levAts (K (F := F)).L (K (F := F)).lev ⊢ Transfers.MayWaits (VT d i) (default : HIx 1) O from
    (K (F := F)).mayWaits_none (thr := VT d i) hO) $$ Hlv
  ihave HR := (ring_rest d i x).1 $$ [HB HS Hx]
  · isplitl [HB]; · iexact HB
    isplitl [HS]; · iexact HS
    iexact Hx
  icases HR with ⟨I0, I1, I2, I3, O0, O1, O2, O3⟩
  iapply (wp_wand_r Idealize.ShloMosaic.frame (wpE (defs₀ (F := F)) 𝒱₀ (VT d i) none) Set.univ)
  isplitl [I0 I1 I2 I3 O0 O1 O2 O3 Hz HO Hmw]
  · iapply (task_run d i x z (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            cc0_scratch8 cc0_scratch9 cc0_scratch10 cc0_scratch11 cc0_scratch12 cc0_scratch13 cc0_scratch14 cc0_scratch15
            (slotQ (cL i) (sL i)) O)
    isplitl [I0]; · iexact I0
    isplitl [I1]; · iexact I1
    isplitl [I2]; · iexact I2
    isplitl [I3]; · iexact I3
    isplitl [O0]; · iexact O0
    isplitl [O1]; · iexact O1
    isplitl [O2]; · iexact O2
    isplitl [O3]; · iexact O3
    unfold Todo Done Owed
    rw [todo_zero, done_zero, pointsTo_empty]
    isplitl [Hz]; · iexact Hz
    isplitr [HO Hmw]; · iempintro
    isplitl [Hmw]; · iexact Hmw
    iexists W; iexact HO
  iintro %_ ⟨I0, I1, I2, I3, O0, O1, O2, O3, Hz, HO⟩
  ihave HR := (ring_rest d i x).2 $$ [I0 I1 I2 I3 O0 O1 O2 O3]
  · isplitl [I0]; · iexact I0
    isplitl [I1]; · iexact I1
    isplitl [I2]; · iexact I2
    isplitl [I3]; · iexact I3
    isplitl [O0]; · iexact O0
    isplitl [O1]; · iexact O1
    isplitl [O2]; · iexact O2
    iexact O3
  icases HR with ⟨HB, HS, Hx⟩
  unfold Done Owed
  rw [done_last]
  icases HO with ⟨-, ⟨%W', HO⟩⟩
  isplitl [Hx Hz]
  · isplitl [Hx]; · iexact Hx
    iexact Hz
  isplitl [HB HBr]
  · isplitl [HB]; · iexact HB
    iexact HBr
  isplitl [HS HSr]
  · isplitl [HS]; · iexact HS
    iexact HSr
  iexists W'; isplitr
  · ipureintro; intro p _
    rcases p.2 with _ | q
    · exact .inr (.inl rfl)
    · exact .inr (.inr (congrArg some (Subsingleton.elim q 0)))
  · iexact HO

/-- The grid point of a SparseCore and a subcore. -/
def coordsV (c : Fin (grid0.bound 0)) (s : Fin (grid0.bound 1)) : grid0.Coords :=
  fun | 0 => c | 1 => s | ⟨_ + 2, h⟩ => absurd h (Nat.not_lt.2 (Nat.le_add_left _ _))

/-- The body table at a vector subcore: the task at that subcore's grid point. -/
theorem defs₀_vector (c : Fin τ.nSC) (s : Fin τ.nSub) :
    defs₀ (F := F) (.scVector c s) 0 ()
      = SparseCore.onTile hcore0 hsub0 (fun c s => cc0__pair_slab_body (F := F) (coordsV c s)
            (Memref.whole main_v1_scv) (Memref.isWhole_whole _) (Memref.whole main_v2_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            cc0_scratch8 cc0_scratch9 cc0_scratch10 cc0_scratch11 cc0_scratch12 cc0_scratch13 cc0_scratch14 cc0_scratch15) ⟨⟩ c s := rfl

/-- Every tile meets the launch's obligation. -/
theorem tileObl : (K (F := F)).TileObl (D (F := F)) 𝒱 (P X Z) v₀ 0 := by
  intro d c i O W hO _ _
  simp only [show (P X Z).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) (X d) (Z d) O W hO

/-! ## The dealing to the tiles -/

/-- A SparseCore's part is dealt to its sixteen tiles and collected from them. -/
theorem vecSplit : (K (F := F)).VecSplit' (P X Z) 0 := by
  intro d c
  have hg : ∀ f : Buf (Elt F) (oLoc d), (bigSep Finset.univ fun s : Fin ((K (F := F)).nSub 0) =>
      TilePts d (X d) f (Fin.cast nCore_zero c) (Fin.cast nSub_zero s)) = (CorePts d (X d) f (Fin.cast nCore_zero c) : sProp 𝕄) :=
    fun f => tiles_join d (X d) f (Fin.cast nCore_zero c)
  show CorePts d (X d) (Z d) (Fin.cast nCore_zero c) ⊢ |={Set.univ}=> iprop(
      (bigSep Finset.univ fun s : Fin ((K (F := F)).nSub 0) => TilePts d (X d) (Z d) (Fin.cast nCore_zero c) (Fin.cast nSub_zero s))
      ∗ ((bigSep Finset.univ fun s : Fin ((K (F := F)).nSub 0) => TilePts d (X d) (outOf (X d)) (Fin.cast nCore_zero c) (Fin.cast nSub_zero s))
          -∗ CorePts d (X d) (outOf (X d)) (Fin.cast nCore_zero c)))
  rw [hg, hg]
  iintro H; imodintro
  isplitl [H]; · iexact H
  iintro H; iexact H

/-- What the two SparseCores are given is the two arrays whole. -/
theorem st_eq (d : Dev nD) :
    (bigSep Finset.univ fun c : Fin ((K (F := F)).nCore 0) => (P X Z).st 0 d c) = (iprop((xLoc d ↦{fullShare} X d) ∗ oLoc d ↦{fullShare} Z d) : sProp 𝕄) :=
  cores_join d (X d) (Z d)
/-- What they hand back is the two arrays whole, the second at the sums. -/
theorem dn_eq (d : Dev nD) :
    (bigSep Finset.univ fun c : Fin ((K (F := F)).nCore 0) => (P X Z).dn 0 d c) = (iprop((xLoc d ↦{fullShare} X d) ∗ oLoc d ↦{fullShare} outOf (X d)) : sProp 𝕄) :=
  cores_join d (X d) (outOf (X d))

/-! ## The ghost state at the start -/

/-- The handshakes' rounds at the start; no transfer is counted yet. -/
def u₀ : UU := (initOf (K (F := F)).hsCells (K (F := F)).hsToks, 1)

/-- The starting ghost state gives the handshakes theirs. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P X Z).x q thr) := by
  have he : ∀ {I : Type} (s : Finset I), (bigSep s fun _ => iprop(emp)) = (iprop(emp) : sProp 𝕄) := fun s => bigSep_emp_const s
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [he]; iempintro
  rw [show (bigSep Finset.univ fun thr : Thread nD τ => bigSep Finset.univ fun q : Fin 1 => (P X Z).x q thr) = bigSep Finset.univ fun _ => iprop(emp) from
    bigSep_congr fun _ _ => bigSep_univ_of_subsingleton (0 : Fin 1), he]
  iempintro

end Cert.Proof.PairSum

end
-- ==== Proof.Main.lean ====
/- The program's run: the host's transposition and reshaping before the call and after it, around the call; and what the
   arrays hold at the end. -/
module

public import proofs.«01_k».proof.Proof.Launch

@[expose] public section

noncomputable section

namespace Cert.Proof.PairSum

open Cert.KernelIdeal Cert.KernelIdeal.Gen
open Idealize.ShloMosaic
open Idealize.ShloMosaic.SparseCore (S V T)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## What the program computes -/

/-- The input laid out for the call: pairs of planes of 128 by 512. -/
def blocks (x : S128x512x3x66.Idx → Elt F .f32) : S99x2x128x512.Idx → Elt F .f32 :=
  shapeCast S99x2x128x512 (transpose S3x66x128x512 [2, 3, 0, 1] x transposes_S128x512x3x66_S3x66x128x512_2_3_0_1) shapeCasts_S3x66x128x512_S99x2x128x512
/-- The call's result laid out as the program returns it. -/
def unblocks (y : S99x128x512.Idx → Elt F .f32) : S128x512x3x33.Idx → Elt F .f32 :=
  transpose S128x512x3x33 [2, 3, 0, 1] (shapeCast S3x33x128x512 y shapeCasts_S99x128x512_S3x33x128x512) transposes_S3x33x128x512_S128x512x3x33_2_3_0_1
/-- The program's result as a function of its argument. -/
def pairSums (x : S128x512x3x66.Idx → Elt F .f32) : S128x512x3x33.Idx → Elt F .f32 := unblocks (sums (F := F) (blocks x))

/-! ## The host's operations -/

variable (m : (ℓ : Loc nD τ sig) → Buf (Elt F) ℓ) (ρ : Dev nD → PrngReg)

/-- The argument, as a buffer of a device. -/
abbrev a' : DevRef τ sig := Proc.devRef .tc (main_arg0 : Ref sig .tc)
/-- The argument transposed. -/
abbrev t' : DevRef τ sig := Proc.devRef .tc (main_v0 : Ref sig .tc)
/-- The call's input. -/
abbrev x' : DevRef τ sig := Proc.devRef .tc (main_v1 : Ref sig .tc)
/-- The call's result. -/
abbrev o' : DevRef τ sig := Proc.devRef .tc (main_v2 : Ref sig .tc)
/-- The call's result reshaped. -/
abbrev s' : DevRef τ sig := Proc.devRef .tc (main_v3 : Ref sig .tc)
/-- The program's result. -/
abbrev r' : DevRef τ sig := Proc.devRef .tc (main_v4 : Ref sig .tc)

/-- The first transposition. -/
abbrev op1 : HloOp τ sig (Elt F) :=
  StableHlo.unary main_arg0 main_v0 ((transpose S3x66x128x512 [2, 3, 0, 1] · transposes_S128x512x3x66_S3x66x128x512_2_3_0_1) : (⟨S128x512x3x66, .f32⟩ : BufTy).Contents (Elt F) → (⟨S3x66x128x512, .f32⟩ : BufTy).Contents (Elt F))
/-- The first reshaping. -/
abbrev op2 : HloOp τ sig (Elt F) := StableHlo.reshape main_v0 main_v1 (rfl : (.f32 : EltTy) = .f32) shapeCasts_S3x66x128x512_S99x2x128x512
/-- The second reshaping. -/
abbrev op3 : HloOp τ sig (Elt F) := StableHlo.reshape main_v2 main_v3 (rfl : (.f32 : EltTy) = .f32) shapeCasts_S99x128x512_S3x33x128x512
/-- The second transposition. -/
abbrev op4 : HloOp τ sig (Elt F) :=
  StableHlo.unary main_v3 main_v4 ((transpose S128x512x3x33 [2, 3, 0, 1] · transposes_S3x33x128x512_S128x512x3x33_2_3_0_1) : (⟨S3x33x128x512, .f32⟩ : BufTy).Contents (Elt F) → (⟨S128x512x3x33, .f32⟩ : BufTy).Contents (Elt F))

/-- The host's six arrays. -/
abbrev S6 : Finset (DevRef τ sig) := {a', t', x', o', s', r'}

/-- The six arrays held, one by one. -/
theorem held_six (d : Dev nD) (W : Valuation τ sig (Elt F)) :
    (held (T d) S6 W : sProp 𝕄)
      = iprop(((SparseCore.T d).loc main_arg0 ↦{fullShare} W a') ∗ ((SparseCore.T d).loc main_v0 ↦{fullShare} W t') ∗ (xLoc d ↦{fullShare} W x')
          ∗ (oLoc d ↦{fullShare} W o') ∗ ((SparseCore.T d).loc main_v3 ↦{fullShare} W s') ∗ (SparseCore.T d).loc main_v4 ↦{fullShare} W r') := by
  unfold held S6
  rw [SparseCore.bigSep_insert' (by decide), SparseCore.bigSep_insert' (by decide), SparseCore.bigSep_insert' (by decide),
    SparseCore.bigSep_insert' (by decide), SparseCore.bigSep_insert' (by decide), bigSep_singleton]

/-- The contents at the start. -/
def V0 (d : Dev nD) : Valuation τ sig (Elt F) := fun b => m (d, b)
/-- The contents at the call. -/
def V2 (d : Dev nD) : Valuation τ sig (Elt F) := (op2 (F := F)).result ((op1 (F := F)).result (V0 m d))
/-- The contents after the call. -/
def V3 (d : Dev nD) : Valuation τ sig (Elt F) := Function.update (V2 m d) o' (outOf (d := d) (V2 m d x'))
/-- The contents at the end. -/
def V5 (d : Dev nD) : Valuation τ sig (Elt F) := (op4 (F := F)).result ((op3 (F := F)).result (V3 m d))

/-- The host's unscoped buffers are the six arrays. -/
theorem unscoped_held (d : Dev nD) : (unscopedBufs d (fun b => m ((SparseCore.T d).loc b)) : sProp 𝕄) = held (T d) S6 (V0 m d) := by
  rw [held_six]
  unfold unscopedBufs
  rw [show (Finset.univ.filter fun b : Ref sig .tc => ¬ b.isScoped) = {main_arg0, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), bigSep_singleton]
  rfl

/-- At the call its input holds the argument laid out in pairs of planes. -/
theorem V2_x (d : Dev nD) : V2 m d x' = blocks (m ((SparseCore.T d).loc main_arg0)) := by
  unfold V2
  exact (StableHlo.reshape_result main_v0 main_v1 _ _ _ _ _).trans (by
    rw [show (op1 (F := F)).result (V0 m d) t' = _ from StableHlo.unary_result _ _ _ _ _ _]; rfl)
/-- The argument is unchanged at the end. -/
theorem V5_a (d : Dev nD) : V5 m d a' = m ((SparseCore.T d).loc main_arg0) := by
  unfold V5
  rw [(op4 (F := F)).result_of_not_mem _ (show a' ∉ ({r'} : Finset (DevRef τ sig)) by decide),
    (op3 (F := F)).result_of_not_mem _ (show a' ∉ ({s'} : Finset (DevRef τ sig)) by decide)]
  unfold V3
  rw [Function.update_of_ne (show a' ≠ o' by decide)]
  unfold V2
  rw [(op2 (F := F)).result_of_not_mem _ (show a' ∉ ({x'} : Finset (DevRef τ sig)) by decide),
    (op1 (F := F)).result_of_not_mem _ (show a' ∉ ({t'} : Finset (DevRef τ sig)) by decide)]
  rfl
/-- The result at the end. -/
theorem V5_r (d : Dev nD) : V5 m d r' = pairSums (m ((SparseCore.T d).loc main_arg0)) := by
  unfold V5
  refine (StableHlo.unary_result main_v3 main_v4 _ _ _ _).trans ?_
  rw [show (op3 (F := F)).result (V3 m d) s' = _ from StableHlo.reshape_result main_v2 main_v3 _ _ _ _ _]
  rw [show V3 m d o' = outOf (d := d) (V2 m d x') from Function.update_self _ _ _, V2_x]
  rfl

/-- The six arrays as the first two operations leave them. -/
theorem held_call (d : Dev nD) :
    (held (T d) S6 ((op2 (F := F)).result ((op1 (F := F)).result (V0 m d))) : sProp 𝕄)
      = iprop(((SparseCore.T d).loc main_arg0 ↦{fullShare} V2 m d a') ∗ ((SparseCore.T d).loc main_v0 ↦{fullShare} V2 m d t') ∗ (xLoc d ↦{fullShare} V2 m d x')
          ∗ (oLoc d ↦{fullShare} V2 m d o') ∗ ((SparseCore.T d).loc main_v3 ↦{fullShare} V2 m d s') ∗ (SparseCore.T d).loc main_v4 ↦{fullShare} V2 m d r') := held_six d (V2 m d)
/-- The six arrays as the last two operations leave them. -/
theorem held_end (d : Dev nD) :
    (held (T d) S6 ((op4 (F := F)).result ((op3 (F := F)).result (V3 m d))) : sProp 𝕄)
      = iprop(((SparseCore.T d).loc main_arg0 ↦{fullShare} V5 m d a') ∗ ((SparseCore.T d).loc main_v0 ↦{fullShare} V5 m d t') ∗ (xLoc d ↦{fullShare} V5 m d x')
          ∗ (oLoc d ↦{fullShare} V5 m d o') ∗ ((SparseCore.T d).loc main_v3 ↦{fullShare} V5 m d s') ∗ (SparseCore.T d).loc main_v4 ↦{fullShare} V5 m d r') := held_six d (V5 m d)

/-- Each operation's buffers are among the six. -/
theorem op1_sub : (op1 (F := F)).bufs ⊆ S6 := show ({a', t'} : Finset (DevRef τ sig)) ⊆ S6 by decide
theorem op2_sub : (op2 (F := F)).bufs ⊆ S6 := show ({t', x'} : Finset (DevRef τ sig)) ⊆ S6 by decide
theorem op3_sub : (op3 (F := F)).bufs ⊆ S6 := show ({o', s'} : Finset (DevRef τ sig)) ⊆ S6 by decide
theorem op4_sub : (op4 (F := F)).bufs ⊆ S6 := show ({s', r'} : Finset (DevRef τ sig)) ⊆ S6 by decide

/-! ## The host's program -/

/-- What the call's handshakes carry in this program. -/
abbrev PM : (K (F := F)).Pay (nD := nD) (Val := Elt F) (Name := ℕ) (U := UU) := P (fun d => V2 m d x') (fun d => V2 m d o')

/-- What the host keeps at the end: the argument as it was, the result at the sums. -/
abbrev FIN (d : Dev nD) : sProp 𝕄 :=
  iprop(((SparseCore.T d).loc main_arg0 ↦{fullShare} m ((SparseCore.T d).loc main_arg0))
    ∗ (SparseCore.T d).loc main_v4 ↦{fullShare} (pairSums (m ((SparseCore.T d).loc main_arg0)) : Buf (Elt F) ((SparseCore.T d).loc main_v4)))

/-- The host's program on a device: the layout of the input, the call, the layout of the result. -/
theorem hmain (κ : GSem nD τ sig → ℕ) (d : Dev nD) :
    iprop((K (F := F)).ctx EH (PM m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op1) (S := S6) op1_sub (V := V0 m d)) $$ [Hb Hheld]
  · isplitl [Hb] <;> iassumption
  iintro ⟨Hb, Hheld⟩
  rw [wp_ret]; imodintro
  iapply (wp_hlo_within 𝒱 (SparseCore.T d) none Set.univ (op := op2) (S := S6) op2_sub (V := (op1 (F := F)).result (V0 m d))) $$ [Hb Hheld]
  · isplitl [Hb] <;> iassumption
  iintro ⟨Hb, Hheld⟩
  rw [wp_ret]; imodintro
  ihave Hh := (Entails.of_eq (held_call (F := F) m d)) $$ Hheld
  icases Hh with ⟨Ha, Ht, Hx, Ho, Hs, Hr⟩
  iapply ((K (F := F)).wp_run (D (F := F)) 𝒱 (EH := EH) (P := PM m) κ d 0) $$ [Hst Ha Ht Hx Ho Hs Hr Hb Hts]
  isplitr; · iexact Hctx
  isplitl [Hst]; · iexact Hst
  isplitl [Hx Ho]
  · rw [st_eq]
    isplitl [Hx]; · iexact Hx
    iexact Ho
  iintro ⟨Hst, Hdn⟩
  ihave Hdn' := (Entails.of_eq (dn_eq (fun d => V2 m d x') (fun d => V2 m d o') d)) $$ Hdn
  icases Hdn' with ⟨Hx, Ho⟩
  have e : ∀ b : DevRef τ sig, b ≠ o' → V3 m d b = V2 m d b := fun b hb => Function.update_of_ne hb _ _
  have eo : V3 m d o' = outOf (d := d) (V2 m d x') := Function.update_self _ _ _
  iapply (wp_hlo_within 𝒱 (SparseCore.T d) none Set.univ (op := op3) (S := S6) op3_sub (V := V3 m d)) $$ [Hb Ha Ht Hx Ho Hs Hr]
  · isplitl [Hb]; · iexact Hb
    rw [held_six, e a' (by decide), e t' (by decide), e x' (by decide), eo, e s' (by decide), e r' (by decide)]
    isplitl [Ha]; · iexact Ha
    isplitl [Ht]; · iexact Ht
    isplitl [Hx]; · iexact Hx
    isplitl [Ho]; · iexact Ho
    isplitl [Hs]; · iexact Hs
    iexact Hr
  iintro ⟨Hb, Hheld⟩
  rw [wp_ret]; imodintro
  iapply (wp_hlo_within 𝒱 (SparseCore.T d) none Set.univ (op := op4) (S := S6) op4_sub (V := (op3 (F := F)).result (V3 m d))) $$ [Hb Hheld]
  · isplitl [Hb] <;> iassumption
  iintro ⟨Hb, Hheld⟩
  rw [wp_ret]; imodintro
  ihave Hh := (Entails.of_eq (held_end (F := F) m d)) $$ Hheld
  icases Hh with ⟨Ha, -, -, -, -, Hr⟩
  rw [V5_a, V5_r]
  imodintro
  isplitl [Hst]; · iexact Hst
  isplitl [Ha Hr]
  · isplitl [Ha]; · iexact Ha
    iexact Hr
  isplitl [Hb] <;> iassumption

/-! ## The run -/

/-- What a final state shows of a device: the argument as it was, the result at the sums. -/
def fq (d : Dev nD) (st : Phys nD τ sig (Elt F)) : Prop :=
  st.mem.mem ((SparseCore.T d).loc main_v4) = (pairSums (m ((SparseCore.T d).loc main_arg0)) : Buf (Elt F) ((SparseCore.T d).loc main_v4))
    ∧ st.mem.mem ((SparseCore.T d).loc main_arg0) = m ((SparseCore.T d).loc main_arg0)

/-- What the host keeps tells what the final state holds. -/
theorem hfin (d : Dev nD) (st : Phys nD τ sig (Elt F)) : iprop(FIN m d ∗ SI st) ⊢ (⌜fq m d st⌝ : sProp 𝕄) := by
  iintro ⟨⟨Ha, Hr⟩, HSI⟩
  ihave H := (persistent_entails_right (SI_pointsTo_agree (st := st) (ℓ := (SparseCore.T d).loc main_arg0) (I := Finset.univ) (q := fullShare)
    (f := m ((SparseCore.T d).loc main_arg0)))) $$ [HSI Ha]
  · isplitl [HSI] <;> iassumption
  icases H with ⟨%ha, HSI, -⟩
  ihave H := (SI_pointsTo_agree (st := st) (ℓ := (SparseCore.T d).loc main_v4) (I := Finset.univ) (q := fullShare)
    (f := (pairSums (m ((SparseCore.T d).loc main_arg0)) : Buf (Elt F) ((SparseCore.T d).loc main_v4)))) $$ [HSI Hr]
  · isplitl [HSI] <;> iassumption
  icases H with %hr
  ipureintro; exact ⟨funext fun i => hr i (Finset.mem_univ i), funext fun i => ha i (Finset.mem_univ i)⟩

/-- What every final state satisfies: on each device the result at the sums and the argument as it was, and every semaphore
at zero. -/
def QC : PUnit × MemSt nD τ sig (Elt F) → Prop := fun r =>
  (∀ c : Dev nD, r.2.mem ((SparseCore.T c).loc main_v4) = (pairSums (m ((SparseCore.T c).loc main_arg0)) : Buf (Elt F) ((SparseCore.T c).loc main_v4))
    ∧ r.2.mem ((SparseCore.T c).loc main_arg0) = m ((SparseCore.T c).loc main_arg0)) ∧ r.2.sem = fun _ => 0

/-- The program runs to the end from any memory, and ends so. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl _ _)
    (fun q _ => match q with | 0 => SparseCore.Cfg.VecSplit.of_plain (vecSplit _ _))
    m ρ main (fun _ => iprop(emp)) (FIN m) (u₀ (F := F)) (sep_elim_left.trans (hu₀ _ _)) (hmain m ρ) (fq m) (hfin m) (QC m) (fun _ h hz => ⟨h, hz⟩)

end Cert.Proof.PairSum

end
-- ==== Proof.Reference.lean ====
/- What the reference computes: each result is the sum of the two entries of the argument that its pair of columns names. -/
module

public import proofs.«01_k».proof.Defs
public import proofs.«01_k».proof.Proof.Gen.ReferenceIdeal
public import Idealize.ShloMosaic.Lib.Pointwise

@[expose] public section

noncomputable section

namespace Cert.Proof.PairSum.Ref

open Cert.ReferenceIdeal Cert.ReferenceIdeal.Gen
open Idealize.ShloMosaic

/-- The column numbers as the host prepares them for the gather: group by group, two to a group. -/
def cols : IVec S33x2x1 32 :=
  broadcastInDim S33x2x1 ![0, 1] bcast_S33x2_S33x2x1_0_1 (select (cmpi .slt ((fun i => lit0 (S33x2.rowMajor i))) (broadcastInDim S33x2 ![] bcast_S_S33x2 (constantI S_ 32 0#32))) (addi ((fun i => lit0 (S33x2.rowMajor i))) (broadcastInDim S33x2 ![] bcast_S_S33x2 (constantI S_ 32 66#32))) ((fun i => lit0 (S33x2.rowMajor i))))

/-- The `k`-th column of group `g` is `2 g + k`. -/
theorem cols_eq : ∀ j : S33x2x1.Idx, (cols j).toInt.toNat = 2 * (j 0).val + (j 1).val := by decide +kernel

/-- The gather's dimension numbers. -/
abbrev dims := gather_S128x512x3x66_S33x2x1_S128x512x3x33x2_012_3_n_n_3_2_12851231

/-- An entry of the argument, by its four coordinates. -/
def entry (b : Fin 128) (f : Fin 512) (c : Fin 3) (n : Fin 66) : S128x512x3x66.Idx :=
  fun a => match a with | ⟨0, _⟩ => b | ⟨1, _⟩ => f | ⟨2, _⟩ => c | ⟨3, _⟩ => n

/-- The gather reads, for the `k`-th column of group `g`, column `2 g + k` of the argument. -/
theorem gather_eq {α : Type} (x : S128x512x3x66.Idx → α) (j : S128x512x3x33x2.Idx) (n : Fin 66)
    (hn : n.val = 2 * (j 3).val + (j 4).val) :
    Host.gather dims x cols j = x (entry (j 0) (j 1) (j 2) n) := by
  unfold Host.gather
  congr 1
  funext a
  refine Fin.ext ?_
  show dims.start j cols a + dims.batchCoord j a + dims.offCoord j a = _
  rw [GatherDims.batchCoord_eq_zero _ _ _ List.not_mem_nil, Nat.add_zero]
  match a with
  | ⟨0, _⟩ => exact Nat.zero_add _
  | ⟨1, _⟩ => exact Nat.zero_add _
  | ⟨2, _⟩ => exact Nat.zero_add _
  | ⟨3, h⟩ =>
    rw [GatherDims.offCoord_eq_zero _ _ _ (fun h => ((GatherDims.mem_sKept _ _).mp h).1 (List.mem_singleton.mpr rfl)), Nat.add_zero]
    show min (cols _).toInt.toNat (66 - 1) = n.val
    rw [cols_eq]
    show min (2 * (j 3).val + (j 4).val) 65 = n.val
    have := n.isLt
    omega

/-- The reference's result as a function of its argument. -/
def out (x : S128x512x3x66.Idx → Elt Ideal .f32) : S128x512x3x33.Idx → Elt Ideal .f32 :=
  Host.reduceAdd (F := Ideal) (φ := .f32) (Host.gather dims x cols) (constant S_ .f32 0x00000000#32) reducesTo_S128x512x3x33x2_S128x512x3x33_d4 h_S_

/-- The reference's result, entry by entry: the sum of the two columns `2 g` and `2 g + 1`. -/
theorem out_eq (x : S128x512x3x66.Idx → Elt Ideal .f32) (j : S128x512x3x33.Idx) (n₀ n₁ : Fin 66)
    (h₀ : n₀.val = 2 * (j 3).val) (h₁ : n₁.val = 2 * (j 3).val + 1) :
    out x j = ((x (entry (j 0) (j 1) (j 2) n₀) : EReal) + (x (entry (j 0) (j 1) (j 2) n₁) : EReal) : EReal) := by
  unfold out
  generalize hy : Host.gather dims x cols = y
  pointwise
  rw [Fin.sum_univ_two, ← hy, gather_eq x _ n₀ (by rw [h₀]; rfl), gather_eq x _ n₁ (by rw [h₁]; rfl)]
  rfl

end Cert.Proof.PairSum.Ref

end
-- ==== Proof.Value.lean ====
/- The kernel's result, entry by entry, and its equality with the reference's over the extended reals. -/
module

public import proofs.«01_k».proof.Proof.Main
public import proofs.«01_k».proof.Proof.Reference

@[expose] public section

noncomputable section

namespace Cert.Proof.PairSum

open Cert.KernelIdeal Cert.KernelIdeal.Gen
open Idealize.ShloMosaic

variable {F : FTy → Type} [FloatOps F]

/-- The layout of the input, entry by entry: plane `p` of pair `33 c + g` is column `2 g + p` of channel `c`. -/
theorem blocks_eq (x : S128x512x3x66.Idx → Elt F .f32) (j : S99x2x128x512.Idx) (b : Fin 128) (f : Fin 512) (c : Fin 3) (n : Fin 66)
    (hb : (j 2).val = b.val) (hf : (j 3).val = f.val) (hn : 2 * (j 0).val + (j 1).val = 66 * c.val + n.val) :
    blocks x j = x (Ref.entry b f c n) := by
  unfold blocks
  pointwise
  congr 1
  have := c.isLt
  have := n.isLt
  have := (j 1).isLt
  funext a
  refine Fin.ext ?_
  match a with
  | ⟨0, _⟩ => exact hb
  | ⟨1, _⟩ => exact hf
  | ⟨2, _⟩ =>
    show (j 0).val / 33 = c.val
    have h1 : (j 1).val < 2 := (j 1).isLt
    generalize (j 0).val = u at *
    generalize (j 1).val = v at *
    omega
  | ⟨3, _⟩ =>
    show (j 0).val % 33 * 2 + (j 1).val = n.val
    have h1 : (j 1).val < 2 := (j 1).isLt
    generalize (j 0).val = u at *
    generalize (j 1).val = v at *
    omega

/-- The result as the program returns it, entry by entry: pair `g` of channel `c` is row `33 c + g` of the call's result. -/
theorem unblocks_eq (y : S99x128x512.Idx → Elt F .f32) (j : S128x512x3x33.Idx) (q : S99x128x512.Idx)
    (hq : (q 0).val = (j 2).val * 33 + (j 3).val) (hb : (q 1).val = (j 0).val) (hf : (q 2).val = (j 1).val) :
    unblocks y j = y q := by
  unfold unblocks
  pointwise
  congr 1
  funext a
  refine Fin.ext ?_
  match a with
  | ⟨0, _⟩ => exact hq.symm
  | ⟨1, _⟩ => exact hb.symm
  | ⟨2, _⟩ => exact hf.symm

/-- Row `33 c + g` of the call's result, at the entry the program returns at `j`. -/
def rowAt (j : S128x512x3x33.Idx) : S99x128x512.Idx :=
  fun a => match a with
    | ⟨0, _⟩ => ⟨(j 2).val * 33 + (j 3).val, by
        have h2 : (j 2).val < 3 := (j 2).isLt
        have h3 : (j 3).val < 33 := (j 3).isLt
        show _ < 99
        omega⟩
    | ⟨1, _⟩ => j 0
    | ⟨2, _⟩ => j 1

/-- The kernel's result, entry by entry: the sum of the two columns `2 g` and `2 g + 1`. -/
theorem pairSums_eq (x : S128x512x3x66.Idx → Elt F .f32) (j : S128x512x3x33.Idx) (n₀ n₁ : Fin 66)
    (h₀ : n₀.val = 2 * (j 3).val) (h₁ : n₁.val = 2 * (j 3).val + 1) :
    pairSums x j = FloatOps.addf (F := F) (φ := .f32) (x (Ref.entry (j 0) (j 1) (j 2) n₀)) (x (Ref.entry (j 0) (j 1) (j 2) n₁)) := by
  unfold pairSums
  rw [unblocks_eq _ j (rowAt j) rfl rfl rfl]
  unfold sums
  rw [blocks_eq x (pairIx 0 (rowAt j)) (j 0) (j 1) (j 2) n₀ rfl rfl, blocks_eq x (pairIx 1 (rowAt j)) (j 0) (j 1) (j 2) n₁ rfl rfl]
  · show 2 * ((j 2).val * 33 + (j 3).val) + 1 = 66 * (j 2).val + n₁.val
    rw [h₁]; ring
  · show 2 * ((j 2).val * 33 + (j 3).val) + 0 = 66 * (j 2).val + n₀.val
    rw [h₀]; ring

/-- Over the extended reals the reference's result is the kernel's. -/
theorem out_eq_pairSums (x : S128x512x3x66.Idx → Elt Ideal .f32) : Ref.out x = pairSums (F := Ideal) x := by
  funext (j : S128x512x3x33.Idx)
  have h3 : (j 3).val < 33 := (j 3).isLt
  rw [Ref.out_eq x j ⟨2 * (j 3).val, by omega⟩ ⟨2 * (j 3).val + 1, by omega⟩ rfl rfl,
    pairSums_eq x j ⟨2 * (j 3).val, by omega⟩ ⟨2 * (j 3).val + 1, by omega⟩ rfl rfl]
  rfl

end Cert.Proof.PairSum

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Main
public import proofs.«01_k».proof.Proof.Value
public import Idealize.ShloMosaic.Adequacy
public import Idealize.ShloMosaic.Init

@[expose] public section

noncomputable section

namespace Cert.Proof

open Idealize.ShloMosaic Idealize.SL.Sem

/-- The kernel on floats as bits runs, leaves its argument unchanged and every semaphore at zero. -/
theorem frame_kernel : Cert.quiescent_Kernel := fun m ρ _ =>
  (θ_run Cert.KernelIdeal.defs _ _).mono (fun _ h => ⟨fun c => (h.1 c).2, h.2⟩) (PairSum.run_main (F := Bits) m ρ)

/-- The kernel over the extended reals runs, leaves its argument unchanged and every semaphore at zero. -/
theorem frame_ideal : Cert.quiescent_KernelIdeal := fun m ρ _ =>
  (θ_run Cert.KernelIdeal.defs _ _).mono (fun _ h => ⟨fun c => (h.1 c).2, h.2⟩) (PairSum.run_main (F := Ideal) m ρ)

/-- The reference over the extended reals runs and leaves its argument unchanged; it has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From equal arguments the kernel and the reference end with equal results over the extended reals. -/
theorem algebraic : Cert.algebraic_KernelIdeal_ReferenceIdeal := by
  intro m ρ m' ρ' _ hagree
  refine ⟨fun c => PairSum.pairSums (F := Ideal) (m (c.tc.loc Cert.KernelIdeal.main_arg0)),
    (θ_run Cert.KernelIdeal.defs _ _).mono (fun _ h c => h.1 c) (PairSum.run_main (F := Ideal) m ρ),
    (θ_run Cert.ReferenceIdeal.defs _ _).mono (fun _ h c => ⟨(h c).1.trans ?_, (h c).2⟩)
      (Cert.ReferenceIdeal.Value.run (F := Ideal) m' ρ')⟩
  exact (PairSum.out_eq_pairSums (m' (c.tc.loc Cert.ReferenceIdeal.main_arg0))).trans
    (congrArg (PairSum.pairSums (F := Ideal)) (hagree c))

/-- All five claims. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
